-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S4x1024x32x128 : Shape := ⟨4, ![4, 1024, 32, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x1024x32x128 : S_.BroadcastsInDim S4x1024x32x128 (![] : Fin 0 → Fin S4x1024x32x128.rank)
  reducesTo_S4x1024x32x128_S_d0_1_2_3 : S4x1024x32x128.ReducesTo [0, 1, 2, 3] S_

variable [Facts]

def fn_part1 {F : FTy → Type} [FloatOps F] (main_v5 : IVec S_ 1) (main_v11 : IVec S_ 1) (main_v13 : IVec S4x1024x32x128 1) (main_v15 : IVec S4x1024x32x128 1) : IVec S_ 1 :=
  let main_v16 : IVec S4x1024x32x128 1 := andi main_v13 main_v15
  let main_c_6 : IVec S_ 1 := constantI S_ 1 1#1
  let main_v17 : IVec S_ 1 := (fun x v => Host.reduce IntOp.andi x v reducesTo_S4x1024x32x128_S_d0_1_2_3 h_S_) main_v16 main_c_6
  let main_v18 : IVec S_ 1 := andi main_v5 main_v11
  let main_v19 : IVec S_ 1 := andi main_v18 main_v17
  main_v19

def fn {F : FTy → Type} [FloatOps F] (main_arg0 : FVec F S1x1024x1024 .bf16) (main_arg1 : FVec F S1024x1024 .bf16) (main_arg2 : FVec F S4x1024x32x128 .f32) (main_arg3 : FVec F S4x1024x32x128 .f32) (main_arg4 : FVec F S1024x1024 .bf16) : IVec S_ 1 :=
  let main_cst : FVec F S_ .bf16 := constant S_ .bf16 0x7F80#16
  let main_v0 : FVec F S1x1024x1024 .bf16 := broadcastInDim S1x1024x1024 ![] bcast_S_S1x1024x1024 main_cst
  let main_v1 : IVec S1x1024x1024 1 := cmpf .olt main_arg0 main_v0
  let main_cst_0 : FVec F S_ .bf16 := constant S_ .bf16 0xFF80#16
  let main_v2 : FVec F S1x1024x1024 .bf16 := broadcastInDim S1x1024x1024 ![] bcast_S_S1x1024x1024 main_cst_0
  let main_v3 : IVec S1x1024x1024 1 := cmpf .ogt main_arg0 main_v2
  let main_v4 : IVec S1x1024x1024 1 := andi main_v1 main_v3
  let main_c : IVec S_ 1 := constantI S_ 1 1#1
  let main_v5 : IVec S_ 1 := (fun x v => Host.reduce IntOp.andi x v reducesTo_S1x1024x1024_S_d0_1_2 h_S_) main_v4 main_c
  let main_cst_1 : FVec F S_ .bf16 := constant S_ .bf16 0x7F80#16
  let main_v6 : FVec F S1024x1024 .bf16 := broadcastInDim S1024x1024 ![] bcast_S_S1024x1024 main_cst_1
  let main_v7 : IVec S1024x1024 1 := cmpf .olt main_arg1 main_v6
  let main_cst_2 : FVec F S_ .bf16 := constant S_ .bf16 0xFF80#16
  let main_v8 : FVec F S1024x1024 .bf16 := broadcastInDim S1024x1024 ![] bcast_S_S1024x1024 main_cst_2
  let main_v9 : IVec S1024x1024 1 := cmpf .ogt main_arg1 main_v8
  let main_v10 : IVec S1024x1024 1 := andi main_v7 main_v9
  let main_c_3 : IVec S_ 1 := constantI S_ 1 1#1
  let main_v11 : IVec S_ 1 := (fun x v => Host.reduce IntOp.andi x v reducesTo_S1024x1024_S_d0_1 h_S_) main_v10 main_c_3
  let main_cst_4 : FVec F S_ .f32 := constant S_ .f32 0x7F800000#32
  let main_v12 : FVec F S4x1024x32x128 .f32 := broadcastInDim S4x1024x32x128 ![] bcast_S_S4x1024x32x128 main_cst_4
  let main_v13 : IVec S4x1024x32x128 1 := cmpf .olt main_arg2 main_v12
  let main_cst_5 : FVec F S_ .f32 := constant S_ .f32 0xFF800000#32
  let main_v14 : FVec F S4x1024x32x128 .f32 := broadcastInDim S4x1024x32x128 ![] bcast_S_S4x1024x32x128 main_cst_5
  let main_v15 : IVec S4x1024x32x128 1 := cmpf .ogt main_arg2 main_v14
  fn_part1 (F := F) main_v5 main_v11 main_v13 main_v15
-- ==== Pre_finite_ReferenceIdeal.lean ====
abbrev S4x1024x1024 : Shape := ⟨3, ![4, 1024, 1024]⟩
abbrev S1024x4096 : Shape := ⟨2, ![1024, 4096]⟩
abbrev S4x1024x32x128 : Shape := ⟨4, ![4, 1024, 32, 128]⟩
abbrev S4096x1024 : Shape := ⟨2, ![4096, 1024]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4x1024x32x128 : S_.BroadcastsInDim S4x1024x32x128 (![] : Fin 0 → Fin S4x1024x32x128.rank)
  reducesTo_S4x1024x32x128_S_d0_1_2_3 : S4x1024x32x128.ReducesTo [0, 1, 2, 3] S_

variable [Facts]

def fn_part1 {F : FTy → Type} [FloatOps F] (main_v5 : IVec S_ 1) (main_v11 : IVec S_ 1) (main_v13 : IVec S4x1024x32x128 1) (main_v15 : IVec S4x1024x32x128 1) : IVec S_ 1 :=
  let main_v16 : IVec S4x1024x32x128 1 := andi main_v13 main_v15
  let main_c_6 : IVec S_ 1 := constantI S_ 1 1#1
  let main_v17 : IVec S_ 1 := (fun x v => Host.reduce IntOp.andi x v reducesTo_S4x1024x32x128_S_d0_1_2_3 h_S_) main_v16 main_c_6
  let main_v18 : IVec S_ 1 := andi main_v5 main_v11
  let main_v19 : IVec S_ 1 := andi main_v18 main_v17
  main_v19

def fn {F : FTy → Type} [FloatOps F] (main_arg0 : FVec F S4x1024x1024 .bf16) (main_arg1 : FVec F S1024x4096 .bf16) (main_arg2 : FVec F S4x1024x32x128 .f32) (main_arg3 : FVec F S4x1024x32x128 .f32) (main_arg4 : FVec F S4096x1024 .bf16) : IVec S_ 1 :=
  let main_cst : FVec F S_ .bf16 := constant S_ .bf16 0x7F80#16
  let main_v0 : FVec F S4x1024x1024 .bf16 := broadcastInDim S4x1024x1024 ![] bcast_S_S4x1024x1024 main_cst
  let main_v1 : IVec S4x1024x1024 1 := cmpf .olt main_arg0 main_v0
  let main_cst_0 : FVec F S_ .bf16 := constant S_ .bf16 0xFF80#16
  let main_v2 : FVec F S4x1024x1024 .bf16 := broadcastInDim S4x1024x1024 ![] bcast_S_S4x1024x1024 main_cst_0
  let main_v3 : IVec S4x1024x1024 1 := cmpf .ogt main_arg0 main_v2
  let main_v4 : IVec S4x1024x1024 1 := andi main_v1 main_v3
  let main_c : IVec S_ 1 := constantI S_ 1 1#1
  let main_v5 : IVec S_ 1 := (fun x v => Host.reduce IntOp.andi x v reducesTo_S4x1024x1024_S_d0_1_2 h_S_) main_v4 main_c
  let main_cst_1 : FVec F S_ .bf16 := constant S_ .bf16 0x7F80#16
  let main_v6 : FVec F S1024x4096 .bf16 := broadcastInDim S1024x4096 ![] bcast_S_S1024x4096 main_cst_1
  let main_v7 : IVec S1024x4096 1 := cmpf .olt main_arg1 main_v6
  let main_cst_2 : FVec F S_ .bf16 := constant S_ .bf16 0xFF80#16
  let main_v8 : FVec F S1024x4096 .bf16 := broadcastInDim S1024x4096 ![] bcast_S_S1024x4096 main_cst_2
  let main_v9 : IVec S1024x4096 1 := cmpf .ogt main_arg1 main_v8
  let main_v10 : IVec S1024x4096 1 := andi main_v7 main_v9
  let main_c_3 : IVec S_ 1 := constantI S_ 1 1#1
  let main_v11 : IVec S_ 1 := (fun x v => Host.reduce IntOp.andi x v reducesTo_S1024x4096_S_d0_1 h_S_) main_v10 main_c_3
  let main_cst_4 : FVec F S_ .f32 := constant S_ .f32 0x7F800000#32
  let main_v12 : FVec F S4x1024x32x128 .f32 := broadcastInDim S4x1024x32x128 ![] bcast_S_S4x1024x32x128 main_cst_4
  let main_v13 : IVec S4x1024x32x128 1 := cmpf .olt main_arg2 main_v12
  let main_cst_5 : FVec F S_ .f32 := constant S_ .f32 0xFF800000#32
  let main_v14 : FVec F S4x1024x32x128 .f32 := broadcastInDim S4x1024x32x128 ![] bcast_S_S4x1024x32x128 main_cst_5
  let main_v15 : IVec S4x1024x32x128 1 := cmpf .ogt main_arg2 main_v14
  fn_part1 (F := F) main_v5 main_v11 main_v13 main_v15
-- ==== Kernel.lean ====
abbrev S1x1024x1024 : Shape := ⟨3, ![1, 1024, 1024]⟩
abbrev S1024x1024 : Shape := ⟨2, ![1024, 1024]⟩
abbrev S4x1024x32x128 : Shape := ⟨4, ![4, 1024, 32, 128]⟩
abbrev S3x1024x1024 : Shape := ⟨3, ![3, 1024, 1024]⟩
abbrev S1024x4096 : Shape := ⟨2, ![1024, 4096]⟩
abbrev S4096x1024 : Shape := ⟨2, ![4096, 1024]⟩
abbrev S2x1024x128 : Shape := ⟨3, ![2, 1024, 128]⟩
abbrev S2x16 : Shape := ⟨2, ![2, 16]⟩
abbrev S3 : Shape := ⟨1, ![3]⟩
abbrev S_ : Shape := ⟨0, ![]⟩
abbrev S1 : Shape := ⟨1, ![1]⟩
abbrev S1x64x1024 : Shape := ⟨3, ![1, 64, 1024]⟩
abbrev S64x1024 : Shape := ⟨2, ![64, 1024]⟩
abbrev S1x1 : Shape := ⟨2, ![1, 1]⟩
abbrev S1x64x128 : Shape := ⟨3, ![1, 64, 128]⟩
abbrev S64x128 : Shape := ⟨2, ![64, 128]⟩
abbrev S1x64x1x128 : Shape := ⟨4, ![1, 64, 1, 128]⟩
abbrev S1024x128 : Shape := ⟨2, ![1024, 128]⟩
abbrev S1x1024x128 : Shape := ⟨3, ![1, 1024, 128]⟩
abbrev S384x128 : Shape := ⟨2, ![384, 128]⟩
abbrev S384x384 : Shape := ⟨2, ![384, 384]⟩
abbrev S384 : Shape := ⟨1, ![384]⟩
abbrev S384x1 : Shape := ⟨2, ![384, 1]⟩
abbrev S320x128 : Shape := ⟨2, ![320, 128]⟩
abbrev S320x64 : Shape := ⟨2, ![320, 64]⟩
abbrev S320x320 : Shape := ⟨2, ![320, 320]⟩
abbrev S320 : Shape := ⟨1, ![320]⟩
abbrev S320x1 : Shape := ⟨2, ![320, 1]⟩
abbrev S640x128 : Shape := ⟨2, ![640, 128]⟩
abbrev S10x64x128 : Shape := ⟨3, ![10, 64, 128]⟩
abbrev S10x64x64 : Shape := ⟨3, ![10, 64, 64]⟩
abbrev S10x64 : Shape := ⟨2, ![10, 64]⟩
abbrev S10x64x1 : Shape := ⟨3, ![10, 64, 1]⟩
abbrev S640x1 : Shape := ⟨2, ![640, 1]⟩

abbrev nBuf : Space → Nat
  | .hbm => 6
  | .vmem => 12
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S4x1024x32x128, .f32⟩
  | .hbm, ⟨3, _⟩ => ⟨S4x1024x32x128, .f32⟩
  | .hbm, ⟨4, _⟩ => ⟨S1024x1024, .bf16⟩
  | .hbm, ⟨5, _⟩ => ⟨S1x1024x1024, .f32⟩
  | .local _ .vmem, ⟨0, _⟩ => ⟨S1x1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024x1024, .f32⟩
  | .local _ .vmem, ⟨4, _⟩ => ⟨S3x1024x1024, .bf16⟩
  | .local _ .vmem, ⟨5, _⟩ => ⟨S3x1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x4096, .bf16⟩
  | .local _ .vmem, ⟨9, _⟩ => ⟨S4096x1024, .bf16⟩
  | .local _ .vmem, ⟨10, _⟩ => ⟨S2x1024x128, .f32⟩
  | .local _ .vmem, ⟨11, _⟩ => ⟨S2x1024x128, .f32⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 1 80 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_23 : BitVec 32 := 1#32
  let v31 : BitVec 32 := Scalar.muli v25 c1_i32_23
  let v32 : BitVec 32 := Scalar.addi c0_i32_24 v31
  v32.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_30 : BitVec 32 := 1#32
  let v39 : BitVec 32 := Scalar.muli v14 c1_i32_30
  let v40 : BitVec 32 := Scalar.addi c0_i32_31 v39
  v40.toNat
def k0_off1 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_108 : BitVec 32 := 0#32
  let c8_i32 : BitVec 32 := 8#32
  let v132 : BitVec 32 := Scalar.muli v2 c8_i32
  let c0_i32_102 : BitVec 32 := 0#32
  let v133 : BitVec 32 := Scalar.addi v132 c0_i32_102
  let c0_i32_109 : BitVec 32 := 0#32
  ![v2.toNat, 0, v133.toNat, 0]
def k0_off2 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c192_i32 : BitVec 32 := 192#32
  let c8_i32 : BitVec 32 := 8#32
  let v132 : BitVec 32 := Scalar.muli v2 c8_i32
  let c0_i32_102 : BitVec 32 := 0#32
  let v133 : BitVec 32 := Scalar.addi v132 c0_i32_102
  let c0_i32_121 : BitVec 32 := 0#32
  ![v2.toNat, 192, v133.toNat, 0]
def k0_off3 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32 : BitVec 32 := 384#32
  let c8_i32 : BitVec 32 := 8#32
  let v132 : BitVec 32 := Scalar.muli v2 c8_i32
  let c0_i32_102 : BitVec 32 := 0#32
  let v133 : BitVec 32 := Scalar.addi v132 c0_i32_102
  let c0_i32_133 : BitVec 32 := 0#32
  ![v2.toNat, 384, v133.toNat, 0]
def k0_off4 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c576_i32 : BitVec 32 := 576#32
  let c8_i32 : BitVec 32 := 8#32
  let v132 : BitVec 32 := Scalar.muli v2 c8_i32
  let c0_i32_102 : BitVec 32 := 0#32
  let v133 : BitVec 32 := Scalar.addi v132 c0_i32_102
  let c0_i32_145 : BitVec 32 := 0#32
  ![v2.toNat, 576, v133.toNat, 0]
def k0_off5 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32 : BitVec 32 := 768#32
  let c8_i32 : BitVec 32 := 8#32
  let v132 : BitVec 32 := Scalar.muli v2 c8_i32
  let c0_i32_102 : BitVec 32 := 0#32
  let v133 : BitVec 32 := Scalar.addi v132 c0_i32_102
  let c0_i32_157 : BitVec 32 := 0#32
  ![v2.toNat, 768, v133.toNat, 0]
def k0_off6 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c960_i32 : BitVec 32 := 960#32
  let c8_i32 : BitVec 32 := 8#32
  let v132 : BitVec 32 := Scalar.muli v2 c8_i32
  let c0_i32_102 : BitVec 32 := 0#32
  let v133 : BitVec 32 := Scalar.addi v132 c0_i32_102
  let c0_i32_168 : BitVec 32 := 0#32
  ![v2.toNat, 960, v133.toNat, 0]
def k0_off7 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_180 : BitVec 32 := 64#32
  let c8_i32 : BitVec 32 := 8#32
  let v132 : BitVec 32 := Scalar.muli v2 c8_i32
  let c0_i32_102 : BitVec 32 := 0#32
  let v133 : BitVec 32 := Scalar.addi v132 c0_i32_102
  let c0_i32_181 : BitVec 32 := 0#32
  ![v2.toNat, 64, v133.toNat, 0]
def k0_off8 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_192 : BitVec 32 := 256#32
  let c8_i32 : BitVec 32 := 8#32
  let v132 : BitVec 32 := Scalar.muli v2 c8_i32
  let c0_i32_102 : BitVec 32 := 0#32
  let v133 : BitVec 32 := Scalar.addi v132 c0_i32_102
  let c0_i32_193 : BitVec 32 := 0#32
  ![v2.toNat, 256, v133.toNat, 0]
def k0_off9 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c448_i32_205 : BitVec 32 := 448#32
  let c8_i32 : BitVec 32 := 8#32
  let v132 : BitVec 32 := Scalar.muli v2 c8_i32
  let c0_i32_102 : BitVec 32 := 0#32
  let v133 : BitVec 32 := Scalar.addi v132 c0_i32_102
  let c0_i32_206 : BitVec 32 := 0#32
  ![v2.toNat, 448, v133.toNat, 0]
def k0_off10 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c640_i32 : BitVec 32 := 640#32
  let c8_i32 : BitVec 32 := 8#32
  let v132 : BitVec 32 := Scalar.muli v2 c8_i32
  let c0_i32_102 : BitVec 32 := 0#32
  let v133 : BitVec 32 := Scalar.addi v132 c0_i32_102
  let c0_i32_218 : BitVec 32 := 0#32
  ![v2.toNat, 640, v133.toNat, 0]
def k0_off11 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c832_i32 : BitVec 32 := 832#32
  let c8_i32 : BitVec 32 := 8#32
  let v132 : BitVec 32 := Scalar.muli v2 c8_i32
  let c0_i32_102 : BitVec 32 := 0#32
  let v133 : BitVec 32 := Scalar.addi v132 c0_i32_102
  let c0_i32_230 : BitVec 32 := 0#32
  ![v2.toNat, 832, v133.toNat, 0]
def k0_off12 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_241 : BitVec 32 := 128#32
  let c8_i32 : BitVec 32 := 8#32
  let v132 : BitVec 32 := Scalar.muli v2 c8_i32
  let c0_i32_102 : BitVec 32 := 0#32
  let v133 : BitVec 32 := Scalar.addi v132 c0_i32_102
  let c0_i32_242 : BitVec 32 := 0#32
  ![v2.toNat, 128, v133.toNat, 0]
def k0_off13 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c320_i32_254 : BitVec 32 := 320#32
  let c8_i32 : BitVec 32 := 8#32
  let v132 : BitVec 32 := Scalar.muli v2 c8_i32
  let c0_i32_102 : BitVec 32 := 0#32
  let v133 : BitVec 32 := Scalar.addi v132 c0_i32_102
  let c0_i32_255 : BitVec 32 := 0#32
  ![v2.toNat, 320, v133.toNat, 0]
def k0_off14 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_267 : BitVec 32 := 512#32
  let c8_i32 : BitVec 32 := 8#32
  let v132 : BitVec 32 := Scalar.muli v2 c8_i32
  let c0_i32_102 : BitVec 32 := 0#32
  let v133 : BitVec 32 := Scalar.addi v132 c0_i32_102
  let c0_i32_268 : BitVec 32 := 0#32
  ![v2.toNat, 512, v133.toNat, 0]
def k0_off15 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c704_i32_279 : BitVec 32 := 704#32
  let c8_i32 : BitVec 32 := 8#32
  let v132 : BitVec 32 := Scalar.muli v2 c8_i32
  let c0_i32_102 : BitVec 32 := 0#32
  let v133 : BitVec 32 := Scalar.addi v132 c0_i32_102
  let c0_i32_280 : BitVec 32 := 0#32
  ![v2.toNat, 704, v133.toNat, 0]
def k0_off16 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c896_i32_292 : BitVec 32 := 896#32
  let c8_i32 : BitVec 32 := 8#32
  let v132 : BitVec 32 := Scalar.muli v2 c8_i32
  let c0_i32_102 : BitVec 32 := 0#32
  let v133 : BitVec 32 := Scalar.addi v132 c0_i32_102
  let c0_i32_293 : BitVec 32 := 0#32
  ![v2.toNat, 896, v133.toNat, 0]
@[reducible] def k0_t1_loop : Scf.Loop 32 :=
  let c0_i32_308 : BitVec 32 := 0#32
  let c8_i32_309 : BitVec 32 := 8#32
  let v336 : BitVec 32 := Scalar.addi c0_i32_308 c8_i32_309
  let c1_i32_310 : BitVec 32 := 1#32
  ⟨c0_i32_308, v336, c1_i32_310⟩
def k0_cond1 (k0_t1 : Fin k0_t1_loop.trips) : BitVec 1 :=
  let c0_i32_308 : BitVec 32 := 0#32
  let c1_i32_310 : BitVec 32 := 1#32
  let arg20 : BitVec 32 := Scf.iv c0_i32_308 c1_i32_310 k0_t1
  let c1_i32_1241 : BitVec 32 := 1#32
  let v1174 : BitVec 32 := Scalar.addi arg20 c1_i32_1241
  let c8_i32_1242 : BitVec 32 := 8#32
  let v1175 : BitVec 1 := Scalar.cmpi .slt v1174 c8_i32_1242
  let v1176 : BitVec 32 := Scalar.extui v1175
  let c0_i32_1243 : BitVec 32 := 0#32
  let v1177 : BitVec 1 := Scalar.cmpi .ne v1176 c0_i32_1243
  v1177

def k0_off17 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c0_i32_1436 : BitVec 32 := 0#32
  ![v1466.toNat, 0]
def k0_off18 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c0_i32_1437 : BitVec 32 := 0#32
  let c0_i32_1438 : BitVec 32 := 0#32
  ![v1466.toNat, 0, 0]
def k0_off19 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1439 : BitVec 32 := 0#32
  let c8_i32_1435 : BitVec 32 := 8#32
  let v1467 : BitVec 32 := Scalar.muli v2 c8_i32_1435
  let c0_i32_308 : BitVec 32 := 0#32
  let c1_i32_310 : BitVec 32 := 1#32
  let arg20 : BitVec 32 := Scf.iv c0_i32_308 c1_i32_310 k0_t1
  let c1_i32_1432 : BitVec 32 := 1#32
  let v1464 : BitVec 32 := Scalar.addi arg20 c1_i32_1432
  let v1468 : BitVec 32 := Scalar.addi v1467 v1464
  let c0_i32_1440 : BitVec 32 := 0#32
  ![v2.toNat, 0, v1468.toNat, 0]
def k0_off20 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c1_i32_1446 : BitVec 32 := 1#32
  ![v1466.toNat, 1]
def k0_off21 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c64_i32_1447 : BitVec 32 := 64#32
  let c0_i32_1448 : BitVec 32 := 0#32
  ![v1466.toNat, 64, 0]
def k0_off22 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c192_i32_1449 : BitVec 32 := 192#32
  let c8_i32_1435 : BitVec 32 := 8#32
  let v1467 : BitVec 32 := Scalar.muli v2 c8_i32_1435
  let c0_i32_308 : BitVec 32 := 0#32
  let c1_i32_310 : BitVec 32 := 1#32
  let arg20 : BitVec 32 := Scf.iv c0_i32_308 c1_i32_310 k0_t1
  let c1_i32_1432 : BitVec 32 := 1#32
  let v1464 : BitVec 32 := Scalar.addi arg20 c1_i32_1432
  let v1468 : BitVec 32 := Scalar.addi v1467 v1464
  let c0_i32_1450 : BitVec 32 := 0#32
  ![v2.toNat, 192, v1468.toNat, 0]
def k0_off23 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c2_i32_1456 : BitVec 32 := 2#32
  ![v1466.toNat, 2]
def k0_off24 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c128_i32_1457 : BitVec 32 := 128#32
  let c0_i32_1458 : BitVec 32 := 0#32
  ![v1466.toNat, 128, 0]
def k0_off25 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_1459 : BitVec 32 := 384#32
  let c8_i32_1435 : BitVec 32 := 8#32
  let v1467 : BitVec 32 := Scalar.muli v2 c8_i32_1435
  let c0_i32_308 : BitVec 32 := 0#32
  let c1_i32_310 : BitVec 32 := 1#32
  let arg20 : BitVec 32 := Scf.iv c0_i32_308 c1_i32_310 k0_t1
  let c1_i32_1432 : BitVec 32 := 1#32
  let v1464 : BitVec 32 := Scalar.addi arg20 c1_i32_1432
  let v1468 : BitVec 32 := Scalar.addi v1467 v1464
  let c0_i32_1460 : BitVec 32 := 0#32
  ![v2.toNat, 384, v1468.toNat, 0]
def k0_off26 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c3_i32_1466 : BitVec 32 := 3#32
  ![v1466.toNat, 3]
def k0_off27 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c192_i32_1467 : BitVec 32 := 192#32
  let c0_i32_1468 : BitVec 32 := 0#32
  ![v1466.toNat, 192, 0]
def k0_off28 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c576_i32_1469 : BitVec 32 := 576#32
  let c8_i32_1435 : BitVec 32 := 8#32
  let v1467 : BitVec 32 := Scalar.muli v2 c8_i32_1435
  let c0_i32_308 : BitVec 32 := 0#32
  let c1_i32_310 : BitVec 32 := 1#32
  let arg20 : BitVec 32 := Scf.iv c0_i32_308 c1_i32_310 k0_t1
  let c1_i32_1432 : BitVec 32 := 1#32
  let v1464 : BitVec 32 := Scalar.addi arg20 c1_i32_1432
  let v1468 : BitVec 32 := Scalar.addi v1467 v1464
  let c0_i32_1470 : BitVec 32 := 0#32
  ![v2.toNat, 576, v1468.toNat, 0]
def k0_off29 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c4_i32_1476 : BitVec 32 := 4#32
  ![v1466.toNat, 4]
def k0_off30 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c256_i32_1477 : BitVec 32 := 256#32
  let c0_i32_1478 : BitVec 32 := 0#32
  ![v1466.toNat, 256, 0]
def k0_off31 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_1479 : BitVec 32 := 768#32
  let c8_i32_1435 : BitVec 32 := 8#32
  let v1467 : BitVec 32 := Scalar.muli v2 c8_i32_1435
  let c0_i32_308 : BitVec 32 := 0#32
  let c1_i32_310 : BitVec 32 := 1#32
  let arg20 : BitVec 32 := Scf.iv c0_i32_308 c1_i32_310 k0_t1
  let c1_i32_1432 : BitVec 32 := 1#32
  let v1464 : BitVec 32 := Scalar.addi arg20 c1_i32_1432
  let v1468 : BitVec 32 := Scalar.addi v1467 v1464
  let c0_i32_1480 : BitVec 32 := 0#32
  ![v2.toNat, 768, v1468.toNat, 0]
def k0_off32 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c5_i32_1486 : BitVec 32 := 5#32
  ![v1466.toNat, 5]
def k0_off33 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c320_i32_1487 : BitVec 32 := 320#32
  let c0_i32_1488 : BitVec 32 := 0#32
  ![v1466.toNat, 320, 0]
def k0_off34 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c960_i32_1489 : BitVec 32 := 960#32
  let c8_i32_1435 : BitVec 32 := 8#32
  let v1467 : BitVec 32 := Scalar.muli v2 c8_i32_1435
  let c0_i32_308 : BitVec 32 := 0#32
  let c1_i32_310 : BitVec 32 := 1#32
  let arg20 : BitVec 32 := Scf.iv c0_i32_308 c1_i32_310 k0_t1
  let c1_i32_1432 : BitVec 32 := 1#32
  let v1464 : BitVec 32 := Scalar.addi arg20 c1_i32_1432
  let v1468 : BitVec 32 := Scalar.addi v1467 v1464
  let c0_i32_1490 : BitVec 32 := 0#32
  ![v2.toNat, 960, v1468.toNat, 0]
def k0_off35 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c6_i32_1496 : BitVec 32 := 6#32
  ![v1466.toNat, 6]
def k0_off36 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c384_i32_1497 : BitVec 32 := 384#32
  let c0_i32_1498 : BitVec 32 := 0#32
  ![v1466.toNat, 384, 0]
def k0_off37 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_1499 : BitVec 32 := 64#32
  let c8_i32_1435 : BitVec 32 := 8#32
  let v1467 : BitVec 32 := Scalar.muli v2 c8_i32_1435
  let c0_i32_308 : BitVec 32 := 0#32
  let c1_i32_310 : BitVec 32 := 1#32
  let arg20 : BitVec 32 := Scf.iv c0_i32_308 c1_i32_310 k0_t1
  let c1_i32_1432 : BitVec 32 := 1#32
  let v1464 : BitVec 32 := Scalar.addi arg20 c1_i32_1432
  let v1468 : BitVec 32 := Scalar.addi v1467 v1464
  let c0_i32_1500 : BitVec 32 := 0#32
  ![v2.toNat, 64, v1468.toNat, 0]
def k0_off38 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c7_i32_1506 : BitVec 32 := 7#32
  ![v1466.toNat, 7]
def k0_off39 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c448_i32_1507 : BitVec 32 := 448#32
  let c0_i32_1508 : BitVec 32 := 0#32
  ![v1466.toNat, 448, 0]
def k0_off40 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1509 : BitVec 32 := 256#32
  let c8_i32_1435 : BitVec 32 := 8#32
  let v1467 : BitVec 32 := Scalar.muli v2 c8_i32_1435
  let c0_i32_308 : BitVec 32 := 0#32
  let c1_i32_310 : BitVec 32 := 1#32
  let arg20 : BitVec 32 := Scf.iv c0_i32_308 c1_i32_310 k0_t1
  let c1_i32_1432 : BitVec 32 := 1#32
  let v1464 : BitVec 32 := Scalar.addi arg20 c1_i32_1432
  let v1468 : BitVec 32 := Scalar.addi v1467 v1464
  let c0_i32_1510 : BitVec 32 := 0#32
  ![v2.toNat, 256, v1468.toNat, 0]
def k0_off41 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c8_i32_1516 : BitVec 32 := 8#32
  ![v1466.toNat, 8]
def k0_off42 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c512_i32_1517 : BitVec 32 := 512#32
  let c0_i32_1518 : BitVec 32 := 0#32
  ![v1466.toNat, 512, 0]
def k0_off43 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c448_i32_1519 : BitVec 32 := 448#32
  let c8_i32_1435 : BitVec 32 := 8#32
  let v1467 : BitVec 32 := Scalar.muli v2 c8_i32_1435
  let c0_i32_308 : BitVec 32 := 0#32
  let c1_i32_310 : BitVec 32 := 1#32
  let arg20 : BitVec 32 := Scf.iv c0_i32_308 c1_i32_310 k0_t1
  let c1_i32_1432 : BitVec 32 := 1#32
  let v1464 : BitVec 32 := Scalar.addi arg20 c1_i32_1432
  let v1468 : BitVec 32 := Scalar.addi v1467 v1464
  let c0_i32_1520 : BitVec 32 := 0#32
  ![v2.toNat, 448, v1468.toNat, 0]
def k0_off44 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c9_i32_1526 : BitVec 32 := 9#32
  ![v1466.toNat, 9]
def k0_off45 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c576_i32_1527 : BitVec 32 := 576#32
  let c0_i32_1528 : BitVec 32 := 0#32
  ![v1466.toNat, 576, 0]
def k0_off46 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c640_i32_1529 : BitVec 32 := 640#32
  let c8_i32_1435 : BitVec 32 := 8#32
  let v1467 : BitVec 32 := Scalar.muli v2 c8_i32_1435
  let c0_i32_308 : BitVec 32 := 0#32
  let c1_i32_310 : BitVec 32 := 1#32
  let arg20 : BitVec 32 := Scf.iv c0_i32_308 c1_i32_310 k0_t1
  let c1_i32_1432 : BitVec 32 := 1#32
  let v1464 : BitVec 32 := Scalar.addi arg20 c1_i32_1432
  let v1468 : BitVec 32 := Scalar.addi v1467 v1464
  let c0_i32_1530 : BitVec 32 := 0#32
  ![v2.toNat, 640, v1468.toNat, 0]
def k0_off47 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c10_i32_1536 : BitVec 32 := 10#32
  ![v1466.toNat, 10]
def k0_off48 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c640_i32_1537 : BitVec 32 := 640#32
  let c0_i32_1538 : BitVec 32 := 0#32
  ![v1466.toNat, 640, 0]
def k0_off49 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c832_i32_1539 : BitVec 32 := 832#32
  let c8_i32_1435 : BitVec 32 := 8#32
  let v1467 : BitVec 32 := Scalar.muli v2 c8_i32_1435
  let c0_i32_308 : BitVec 32 := 0#32
  let c1_i32_310 : BitVec 32 := 1#32
  let arg20 : BitVec 32 := Scf.iv c0_i32_308 c1_i32_310 k0_t1
  let c1_i32_1432 : BitVec 32 := 1#32
  let v1464 : BitVec 32 := Scalar.addi arg20 c1_i32_1432
  let v1468 : BitVec 32 := Scalar.addi v1467 v1464
  let c0_i32_1540 : BitVec 32 := 0#32
  ![v2.toNat, 832, v1468.toNat, 0]
def k0_off50 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c11_i32_1546 : BitVec 32 := 11#32
  ![v1466.toNat, 11]
def k0_off51 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c704_i32_1547 : BitVec 32 := 704#32
  let c0_i32_1548 : BitVec 32 := 0#32
  ![v1466.toNat, 704, 0]
def k0_off52 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_1549 : BitVec 32 := 128#32
  let c8_i32_1435 : BitVec 32 := 8#32
  let v1467 : BitVec 32 := Scalar.muli v2 c8_i32_1435
  let c0_i32_308 : BitVec 32 := 0#32
  let c1_i32_310 : BitVec 32 := 1#32
  let arg20 : BitVec 32 := Scf.iv c0_i32_308 c1_i32_310 k0_t1
  let c1_i32_1432 : BitVec 32 := 1#32
  let v1464 : BitVec 32 := Scalar.addi arg20 c1_i32_1432
  let v1468 : BitVec 32 := Scalar.addi v1467 v1464
  let c0_i32_1550 : BitVec 32 := 0#32
  ![v2.toNat, 128, v1468.toNat, 0]
def k0_off53 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c12_i32_1556 : BitVec 32 := 12#32
  ![v1466.toNat, 12]
def k0_off54 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c768_i32_1557 : BitVec 32 := 768#32
  let c0_i32_1558 : BitVec 32 := 0#32
  ![v1466.toNat, 768, 0]
def k0_off55 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c320_i32_1559 : BitVec 32 := 320#32
  let c8_i32_1435 : BitVec 32 := 8#32
  let v1467 : BitVec 32 := Scalar.muli v2 c8_i32_1435
  let c0_i32_308 : BitVec 32 := 0#32
  let c1_i32_310 : BitVec 32 := 1#32
  let arg20 : BitVec 32 := Scf.iv c0_i32_308 c1_i32_310 k0_t1
  let c1_i32_1432 : BitVec 32 := 1#32
  let v1464 : BitVec 32 := Scalar.addi arg20 c1_i32_1432
  let v1468 : BitVec 32 := Scalar.addi v1467 v1464
  let c0_i32_1560 : BitVec 32 := 0#32
  ![v2.toNat, 320, v1468.toNat, 0]
def k0_off56 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c13_i32_1566 : BitVec 32 := 13#32
  ![v1466.toNat, 13]
def k0_off57 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c832_i32_1567 : BitVec 32 := 832#32
  let c0_i32_1568 : BitVec 32 := 0#32
  ![v1466.toNat, 832, 0]
def k0_off58 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1569 : BitVec 32 := 512#32
  let c8_i32_1435 : BitVec 32 := 8#32
  let v1467 : BitVec 32 := Scalar.muli v2 c8_i32_1435
  let c0_i32_308 : BitVec 32 := 0#32
  let c1_i32_310 : BitVec 32 := 1#32
  let arg20 : BitVec 32 := Scf.iv c0_i32_308 c1_i32_310 k0_t1
  let c1_i32_1432 : BitVec 32 := 1#32
  let v1464 : BitVec 32 := Scalar.addi arg20 c1_i32_1432
  let v1468 : BitVec 32 := Scalar.addi v1467 v1464
  let c0_i32_1570 : BitVec 32 := 0#32
  ![v2.toNat, 512, v1468.toNat, 0]
def k0_off59 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c14_i32_1576 : BitVec 32 := 14#32
  ![v1466.toNat, 14]
def k0_off60 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c896_i32_1577 : BitVec 32 := 896#32
  let c0_i32_1578 : BitVec 32 := 0#32
  ![v1466.toNat, 896, 0]
def k0_off61 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c704_i32_1579 : BitVec 32 := 704#32
  let c8_i32_1435 : BitVec 32 := 8#32
  let v1467 : BitVec 32 := Scalar.muli v2 c8_i32_1435
  let c0_i32_308 : BitVec 32 := 0#32
  let c1_i32_310 : BitVec 32 := 1#32
  let arg20 : BitVec 32 := Scf.iv c0_i32_308 c1_i32_310 k0_t1
  let c1_i32_1432 : BitVec 32 := 1#32
  let v1464 : BitVec 32 := Scalar.addi arg20 c1_i32_1432
  let v1468 : BitVec 32 := Scalar.addi v1467 v1464
  let c0_i32_1580 : BitVec 32 := 0#32
  ![v2.toNat, 704, v1468.toNat, 0]
def k0_off62 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c15_i32_1586 : BitVec 32 := 15#32
  ![v1466.toNat, 15]
def k0_off63 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c1_i32_1433 : BitVec 32 := 1#32
  let v1465 : BitVec 32 := Scalar.addi arg20 c1_i32_1433
  let c2_i32_1434 : BitVec 32 := 2#32
  let v1466 : BitVec 32 := Scalar.remsi v1465 c2_i32_1434
  let c960_i32_1587 : BitVec 32 := 960#32
  let c0_i32_1588 : BitVec 32 := 0#32
  ![v1466.toNat, 960, 0]
def k0_off64 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c896_i32_1589 : BitVec 32 := 896#32
  let c8_i32_1435 : BitVec 32 := 8#32
  let v1467 : BitVec 32 := Scalar.muli v2 c8_i32_1435
  let c0_i32_308 : BitVec 32 := 0#32
  let c1_i32_310 : BitVec 32 := 1#32
  let arg20 : BitVec 32 := Scf.iv c0_i32_308 c1_i32_310 k0_t1
  let c1_i32_1432 : BitVec 32 := 1#32
  let v1464 : BitVec 32 := Scalar.addi arg20 c1_i32_1432
  let v1468 : BitVec 32 := Scalar.addi v1467 v1464
  let c0_i32_1590 : BitVec 32 := 0#32
  ![v2.toNat, 896, v1468.toNat, 0]
def k0_off65 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c0_i32_1245 : BitVec 32 := 0#32
  ![v1173.toNat, 0]
def k0_off66 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c0_i32_1246 : BitVec 32 := 0#32
  let c0_i32_1247 : BitVec 32 := 0#32
  ![v1173.toNat, 0, 0]
def k0_off67 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1248 : BitVec 32 := 0#32
  let c8_i32_1244 : BitVec 32 := 8#32
  let v1178 : BitVec 32 := Scalar.muli v2 c8_i32_1244
  let c0_i32_308 : BitVec 32 := 0#32
  let c1_i32_310 : BitVec 32 := 1#32
  let arg20 : BitVec 32 := Scf.iv c0_i32_308 c1_i32_310 k0_t1
  let v1179 : BitVec 32 := Scalar.addi v1178 arg20
  let c0_i32_1249 : BitVec 32 := 0#32
  ![v2.toNat, 0, v1179.toNat, 0]
def k0_off68 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c1_i32_1255 : BitVec 32 := 1#32
  ![v1173.toNat, 1]
def k0_off69 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c64_i32_1256 : BitVec 32 := 64#32
  let c0_i32_1257 : BitVec 32 := 0#32
  ![v1173.toNat, 64, 0]
def k0_off70 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c192_i32_1258 : BitVec 32 := 192#32
  let c8_i32_1244 : BitVec 32 := 8#32
  let v1178 : BitVec 32 := Scalar.muli v2 c8_i32_1244
  let c0_i32_308 : BitVec 32 := 0#32
  let c1_i32_310 : BitVec 32 := 1#32
  let arg20 : BitVec 32 := Scf.iv c0_i32_308 c1_i32_310 k0_t1
  let v1179 : BitVec 32 := Scalar.addi v1178 arg20
  let c0_i32_1259 : BitVec 32 := 0#32
  ![v2.toNat, 192, v1179.toNat, 0]
def k0_off71 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c2_i32_1265 : BitVec 32 := 2#32
  ![v1173.toNat, 2]
def k0_off72 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c128_i32_1266 : BitVec 32 := 128#32
  let c0_i32_1267 : BitVec 32 := 0#32
  ![v1173.toNat, 128, 0]
def k0_off73 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_1268 : BitVec 32 := 384#32
  let c8_i32_1244 : BitVec 32 := 8#32
  let v1178 : BitVec 32 := Scalar.muli v2 c8_i32_1244
  let c0_i32_308 : BitVec 32 := 0#32
  let c1_i32_310 : BitVec 32 := 1#32
  let arg20 : BitVec 32 := Scf.iv c0_i32_308 c1_i32_310 k0_t1
  let v1179 : BitVec 32 := Scalar.addi v1178 arg20
  let c0_i32_1269 : BitVec 32 := 0#32
  ![v2.toNat, 384, v1179.toNat, 0]
def k0_off74 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c3_i32_1275 : BitVec 32 := 3#32
  ![v1173.toNat, 3]
def k0_off75 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c192_i32_1276 : BitVec 32 := 192#32
  let c0_i32_1277 : BitVec 32 := 0#32
  ![v1173.toNat, 192, 0]
def k0_off76 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c576_i32_1278 : BitVec 32 := 576#32
  let c8_i32_1244 : BitVec 32 := 8#32
  let v1178 : BitVec 32 := Scalar.muli v2 c8_i32_1244
  let c0_i32_308 : BitVec 32 := 0#32
  let c1_i32_310 : BitVec 32 := 1#32
  let arg20 : BitVec 32 := Scf.iv c0_i32_308 c1_i32_310 k0_t1
  let v1179 : BitVec 32 := Scalar.addi v1178 arg20
  let c0_i32_1279 : BitVec 32 := 0#32
  ![v2.toNat, 576, v1179.toNat, 0]
def k0_off77 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c4_i32_1285 : BitVec 32 := 4#32
  ![v1173.toNat, 4]
def k0_off78 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c256_i32_1286 : BitVec 32 := 256#32
  let c0_i32_1287 : BitVec 32 := 0#32
  ![v1173.toNat, 256, 0]
def k0_off79 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_1288 : BitVec 32 := 768#32
  let c8_i32_1244 : BitVec 32 := 8#32
  let v1178 : BitVec 32 := Scalar.muli v2 c8_i32_1244
  let c0_i32_308 : BitVec 32 := 0#32
  let c1_i32_310 : BitVec 32 := 1#32
  let arg20 : BitVec 32 := Scf.iv c0_i32_308 c1_i32_310 k0_t1
  let v1179 : BitVec 32 := Scalar.addi v1178 arg20
  let c0_i32_1289 : BitVec 32 := 0#32
  ![v2.toNat, 768, v1179.toNat, 0]
def k0_off80 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c5_i32_1295 : BitVec 32 := 5#32
  ![v1173.toNat, 5]
def k0_off81 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c320_i32_1296 : BitVec 32 := 320#32
  let c0_i32_1297 : BitVec 32 := 0#32
  ![v1173.toNat, 320, 0]
def k0_off82 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c960_i32_1298 : BitVec 32 := 960#32
  let c8_i32_1244 : BitVec 32 := 8#32
  let v1178 : BitVec 32 := Scalar.muli v2 c8_i32_1244
  let c0_i32_308 : BitVec 32 := 0#32
  let c1_i32_310 : BitVec 32 := 1#32
  let arg20 : BitVec 32 := Scf.iv c0_i32_308 c1_i32_310 k0_t1
  let v1179 : BitVec 32 := Scalar.addi v1178 arg20
  let c0_i32_1299 : BitVec 32 := 0#32
  ![v2.toNat, 960, v1179.toNat, 0]
def k0_off83 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c6_i32_1305 : BitVec 32 := 6#32
  ![v1173.toNat, 6]
def k0_off84 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c384_i32_1306 : BitVec 32 := 384#32
  let c0_i32_1307 : BitVec 32 := 0#32
  ![v1173.toNat, 384, 0]
def k0_off85 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_1308 : BitVec 32 := 64#32
  let c8_i32_1244 : BitVec 32 := 8#32
  let v1178 : BitVec 32 := Scalar.muli v2 c8_i32_1244
  let c0_i32_308 : BitVec 32 := 0#32
  let c1_i32_310 : BitVec 32 := 1#32
  let arg20 : BitVec 32 := Scf.iv c0_i32_308 c1_i32_310 k0_t1
  let v1179 : BitVec 32 := Scalar.addi v1178 arg20
  let c0_i32_1309 : BitVec 32 := 0#32
  ![v2.toNat, 64, v1179.toNat, 0]
def k0_off86 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c7_i32_1315 : BitVec 32 := 7#32
  ![v1173.toNat, 7]
def k0_off87 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c448_i32_1316 : BitVec 32 := 448#32
  let c0_i32_1317 : BitVec 32 := 0#32
  ![v1173.toNat, 448, 0]
def k0_off88 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1318 : BitVec 32 := 256#32
  let c8_i32_1244 : BitVec 32 := 8#32
  let v1178 : BitVec 32 := Scalar.muli v2 c8_i32_1244
  let c0_i32_308 : BitVec 32 := 0#32
  let c1_i32_310 : BitVec 32 := 1#32
  let arg20 : BitVec 32 := Scf.iv c0_i32_308 c1_i32_310 k0_t1
  let v1179 : BitVec 32 := Scalar.addi v1178 arg20
  let c0_i32_1319 : BitVec 32 := 0#32
  ![v2.toNat, 256, v1179.toNat, 0]
def k0_off89 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c8_i32_1325 : BitVec 32 := 8#32
  ![v1173.toNat, 8]
def k0_off90 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c512_i32_1326 : BitVec 32 := 512#32
  let c0_i32_1327 : BitVec 32 := 0#32
  ![v1173.toNat, 512, 0]
def k0_off91 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c448_i32_1328 : BitVec 32 := 448#32
  let c8_i32_1244 : BitVec 32 := 8#32
  let v1178 : BitVec 32 := Scalar.muli v2 c8_i32_1244
  let c0_i32_308 : BitVec 32 := 0#32
  let c1_i32_310 : BitVec 32 := 1#32
  let arg20 : BitVec 32 := Scf.iv c0_i32_308 c1_i32_310 k0_t1
  let v1179 : BitVec 32 := Scalar.addi v1178 arg20
  let c0_i32_1329 : BitVec 32 := 0#32
  ![v2.toNat, 448, v1179.toNat, 0]
def k0_off92 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c9_i32_1335 : BitVec 32 := 9#32
  ![v1173.toNat, 9]
def k0_off93 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c576_i32_1336 : BitVec 32 := 576#32
  let c0_i32_1337 : BitVec 32 := 0#32
  ![v1173.toNat, 576, 0]
def k0_off94 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c640_i32_1338 : BitVec 32 := 640#32
  let c8_i32_1244 : BitVec 32 := 8#32
  let v1178 : BitVec 32 := Scalar.muli v2 c8_i32_1244
  let c0_i32_308 : BitVec 32 := 0#32
  let c1_i32_310 : BitVec 32 := 1#32
  let arg20 : BitVec 32 := Scf.iv c0_i32_308 c1_i32_310 k0_t1
  let v1179 : BitVec 32 := Scalar.addi v1178 arg20
  let c0_i32_1339 : BitVec 32 := 0#32
  ![v2.toNat, 640, v1179.toNat, 0]
def k0_off95 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c10_i32_1345 : BitVec 32 := 10#32
  ![v1173.toNat, 10]
def k0_off96 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c640_i32_1346 : BitVec 32 := 640#32
  let c0_i32_1347 : BitVec 32 := 0#32
  ![v1173.toNat, 640, 0]
def k0_off97 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c832_i32_1348 : BitVec 32 := 832#32
  let c8_i32_1244 : BitVec 32 := 8#32
  let v1178 : BitVec 32 := Scalar.muli v2 c8_i32_1244
  let c0_i32_308 : BitVec 32 := 0#32
  let c1_i32_310 : BitVec 32 := 1#32
  let arg20 : BitVec 32 := Scf.iv c0_i32_308 c1_i32_310 k0_t1
  let v1179 : BitVec 32 := Scalar.addi v1178 arg20
  let c0_i32_1349 : BitVec 32 := 0#32
  ![v2.toNat, 832, v1179.toNat, 0]
def k0_off98 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c11_i32_1355 : BitVec 32 := 11#32
  ![v1173.toNat, 11]
def k0_off99 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c704_i32_1356 : BitVec 32 := 704#32
  let c0_i32_1357 : BitVec 32 := 0#32
  ![v1173.toNat, 704, 0]
def k0_off100 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_1358 : BitVec 32 := 128#32
  let c8_i32_1244 : BitVec 32 := 8#32
  let v1178 : BitVec 32 := Scalar.muli v2 c8_i32_1244
  let c0_i32_308 : BitVec 32 := 0#32
  let c1_i32_310 : BitVec 32 := 1#32
  let arg20 : BitVec 32 := Scf.iv c0_i32_308 c1_i32_310 k0_t1
  let v1179 : BitVec 32 := Scalar.addi v1178 arg20
  let c0_i32_1359 : BitVec 32 := 0#32
  ![v2.toNat, 128, v1179.toNat, 0]
def k0_off101 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c12_i32_1365 : BitVec 32 := 12#32
  ![v1173.toNat, 12]
def k0_off102 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c768_i32_1366 : BitVec 32 := 768#32
  let c0_i32_1367 : BitVec 32 := 0#32
  ![v1173.toNat, 768, 0]
def k0_off103 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c320_i32_1368 : BitVec 32 := 320#32
  let c8_i32_1244 : BitVec 32 := 8#32
  let v1178 : BitVec 32 := Scalar.muli v2 c8_i32_1244
  let c0_i32_308 : BitVec 32 := 0#32
  let c1_i32_310 : BitVec 32 := 1#32
  let arg20 : BitVec 32 := Scf.iv c0_i32_308 c1_i32_310 k0_t1
  let v1179 : BitVec 32 := Scalar.addi v1178 arg20
  let c0_i32_1369 : BitVec 32 := 0#32
  ![v2.toNat, 320, v1179.toNat, 0]
def k0_off104 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c13_i32_1375 : BitVec 32 := 13#32
  ![v1173.toNat, 13]
def k0_off105 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c832_i32_1376 : BitVec 32 := 832#32
  let c0_i32_1377 : BitVec 32 := 0#32
  ![v1173.toNat, 832, 0]
def k0_off106 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1378 : BitVec 32 := 512#32
  let c8_i32_1244 : BitVec 32 := 8#32
  let v1178 : BitVec 32 := Scalar.muli v2 c8_i32_1244
  let c0_i32_308 : BitVec 32 := 0#32
  let c1_i32_310 : BitVec 32 := 1#32
  let arg20 : BitVec 32 := Scf.iv c0_i32_308 c1_i32_310 k0_t1
  let v1179 : BitVec 32 := Scalar.addi v1178 arg20
  let c0_i32_1379 : BitVec 32 := 0#32
  ![v2.toNat, 512, v1179.toNat, 0]
def k0_off107 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c14_i32_1385 : BitVec 32 := 14#32
  ![v1173.toNat, 14]
def k0_off108 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c896_i32_1386 : BitVec 32 := 896#32
  let c0_i32_1387 : BitVec 32 := 0#32
  ![v1173.toNat, 896, 0]
def k0_off109 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c704_i32_1388 : BitVec 32 := 704#32
  let c8_i32_1244 : BitVec 32 := 8#32
  let v1178 : BitVec 32 := Scalar.muli v2 c8_i32_1244
  let c0_i32_308 : BitVec 32 := 0#32
  let c1_i32_310 : BitVec 32 := 1#32
  let arg20 : BitVec 32 := Scf.iv c0_i32_308 c1_i32_310 k0_t1
  let v1179 : BitVec 32 := Scalar.addi v1178 arg20
  let c0_i32_1389 : BitVec 32 := 0#32
  ![v2.toNat, 704, v1179.toNat, 0]
def k0_off110 (k0_t1 : Fin k0_t1_loop.trips) : Fin 2 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c15_i32_1395 : BitVec 32 := 15#32
  ![v1173.toNat, 15]
def k0_off111 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let c960_i32_1396 : BitVec 32 := 960#32
  let c0_i32_1397 : BitVec 32 := 0#32
  ![v1173.toNat, 960, 0]
def k0_off112 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c896_i32_1398 : BitVec 32 := 896#32
  let c8_i32_1244 : BitVec 32 := 8#32
  let v1178 : BitVec 32 := Scalar.muli v2 c8_i32_1244
  let c0_i32_308 : BitVec 32 := 0#32
  let c1_i32_310 : BitVec 32 := 1#32
  let arg20 : BitVec 32 := Scf.iv c0_i32_308 c1_i32_310 k0_t1
  let v1179 : BitVec 32 := Scalar.addi v1178 arg20
  let c0_i32_1399 : BitVec 32 := 0#32
  ![v2.toNat, 896, v1179.toNat, 0]
def k0_off113 (k0_t1 : Fin k0_t1_loop.trips) : Fin 2 → Nat :=
  let c0_1406 : Index := 0#32
  let c0_i32_308 : BitVec 32 := 0#32
  let c1_i32_310 : BitVec 32 := 1#32
  let arg20 : BitVec 32 := Scf.iv c0_i32_308 c1_i32_310 k0_t1
  let c128_i32_1405 : BitVec 32 := 128#32
  let v1372 : BitVec 32 := Scalar.muli arg20 c128_i32_1405
  let v1373 : Index := Scalar.indexCast v1372
  ![0, v1373.toNat]
def k0_off114 (k0_t1 : Fin k0_t1_loop.trips) : Fin 3 → Nat :=
  let c0_i32_308 : BitVec 32 := 0#32
  let c1_i32_310 : BitVec 32 := 1#32
  let arg20 : BitVec 32 := Scf.iv c0_i32_308 c1_i32_310 k0_t1
  let c2_i32_1240 : BitVec 32 := 2#32
  let v1173 : BitVec 32 := Scalar.remsi arg20 c2_i32_1240
  let v1375 : Index := Scalar.indexCast v1173
  let c0_1407 : Index := 0#32
  let c0_1408 : Index := 0#32
  ![v1375.toNat, 0, 0]
def k0_off115 (k0_t1 : Fin k0_t1_loop.trips) : Fin 2 → Nat :=
  let c0_1431 : Index := 0#32
  let c0_i32_1430 : BitVec 32 := 0#32
  let c0_i32_308 : BitVec 32 := 0#32
  let c1_i32_310 : BitVec 32 := 1#32
  let arg20 : BitVec 32 := Scf.iv c0_i32_308 c1_i32_310 k0_t1
  let c128_i32_1429 : BitVec 32 := 128#32
  let v1458 : BitVec 32 := Scalar.muli arg20 c128_i32_1429
  let v1459 : BitVec 32 := Scalar.addi c0_i32_1430 v1458
  let v1460 : Index := Scalar.indexCast v1459
  ![0, v1460.toNat]
def k0_off116 (d0 : Dev nD) (c1_i32_313 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_327 : BitVec 32 := 0#32
  let c4_i32_312 : BitVec 32 := 4#32
  let v337 : BitVec 32 := Scalar.addi v2 c4_i32_312
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_320 : BitVec 32 := 8#32
  let v349 : BitVec 32 := Scalar.muli v348 c8_i32_320
  let c0_i32_321 : BitVec 32 := 0#32
  let v350 : BitVec 32 := Scalar.addi v349 c0_i32_321
  let c0_i32_328 : BitVec 32 := 0#32
  ![v2.toNat, 0, v350.toNat, 0]
def k0_off117 (d0 : Dev nD) (c1_i32_313 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c192_i32_341 : BitVec 32 := 192#32
  let c4_i32_312 : BitVec 32 := 4#32
  let v337 : BitVec 32 := Scalar.addi v2 c4_i32_312
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_320 : BitVec 32 := 8#32
  let v349 : BitVec 32 := Scalar.muli v348 c8_i32_320
  let c0_i32_321 : BitVec 32 := 0#32
  let v350 : BitVec 32 := Scalar.addi v349 c0_i32_321
  let c0_i32_342 : BitVec 32 := 0#32
  ![v2.toNat, 192, v350.toNat, 0]
def k0_off118 (d0 : Dev nD) (c1_i32_313 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_355 : BitVec 32 := 384#32
  let c4_i32_312 : BitVec 32 := 4#32
  let v337 : BitVec 32 := Scalar.addi v2 c4_i32_312
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_320 : BitVec 32 := 8#32
  let v349 : BitVec 32 := Scalar.muli v348 c8_i32_320
  let c0_i32_321 : BitVec 32 := 0#32
  let v350 : BitVec 32 := Scalar.addi v349 c0_i32_321
  let c0_i32_356 : BitVec 32 := 0#32
  ![v2.toNat, 384, v350.toNat, 0]
def k0_off119 (d0 : Dev nD) (c1_i32_313 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c576_i32_369 : BitVec 32 := 576#32
  let c4_i32_312 : BitVec 32 := 4#32
  let v337 : BitVec 32 := Scalar.addi v2 c4_i32_312
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_320 : BitVec 32 := 8#32
  let v349 : BitVec 32 := Scalar.muli v348 c8_i32_320
  let c0_i32_321 : BitVec 32 := 0#32
  let v350 : BitVec 32 := Scalar.addi v349 c0_i32_321
  let c0_i32_370 : BitVec 32 := 0#32
  ![v2.toNat, 576, v350.toNat, 0]
def k0_off120 (d0 : Dev nD) (c1_i32_313 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_383 : BitVec 32 := 768#32
  let c4_i32_312 : BitVec 32 := 4#32
  let v337 : BitVec 32 := Scalar.addi v2 c4_i32_312
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_320 : BitVec 32 := 8#32
  let v349 : BitVec 32 := Scalar.muli v348 c8_i32_320
  let c0_i32_321 : BitVec 32 := 0#32
  let v350 : BitVec 32 := Scalar.addi v349 c0_i32_321
  let c0_i32_384 : BitVec 32 := 0#32
  ![v2.toNat, 768, v350.toNat, 0]
def k0_off121 (d0 : Dev nD) (c1_i32_313 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c960_i32_397 : BitVec 32 := 960#32
  let c4_i32_312 : BitVec 32 := 4#32
  let v337 : BitVec 32 := Scalar.addi v2 c4_i32_312
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_320 : BitVec 32 := 8#32
  let v349 : BitVec 32 := Scalar.muli v348 c8_i32_320
  let c0_i32_321 : BitVec 32 := 0#32
  let v350 : BitVec 32 := Scalar.addi v349 c0_i32_321
  let c0_i32_398 : BitVec 32 := 0#32
  ![v2.toNat, 960, v350.toNat, 0]
def k0_off122 (d0 : Dev nD) (c1_i32_313 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_411 : BitVec 32 := 64#32
  let c4_i32_312 : BitVec 32 := 4#32
  let v337 : BitVec 32 := Scalar.addi v2 c4_i32_312
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_320 : BitVec 32 := 8#32
  let v349 : BitVec 32 := Scalar.muli v348 c8_i32_320
  let c0_i32_321 : BitVec 32 := 0#32
  let v350 : BitVec 32 := Scalar.addi v349 c0_i32_321
  let c0_i32_412 : BitVec 32 := 0#32
  ![v2.toNat, 64, v350.toNat, 0]
def k0_off123 (d0 : Dev nD) (c1_i32_313 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_425 : BitVec 32 := 256#32
  let c4_i32_312 : BitVec 32 := 4#32
  let v337 : BitVec 32 := Scalar.addi v2 c4_i32_312
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_320 : BitVec 32 := 8#32
  let v349 : BitVec 32 := Scalar.muli v348 c8_i32_320
  let c0_i32_321 : BitVec 32 := 0#32
  let v350 : BitVec 32 := Scalar.addi v349 c0_i32_321
  let c0_i32_426 : BitVec 32 := 0#32
  ![v2.toNat, 256, v350.toNat, 0]
def k0_off124 (d0 : Dev nD) (c1_i32_313 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c448_i32_439 : BitVec 32 := 448#32
  let c4_i32_312 : BitVec 32 := 4#32
  let v337 : BitVec 32 := Scalar.addi v2 c4_i32_312
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_320 : BitVec 32 := 8#32
  let v349 : BitVec 32 := Scalar.muli v348 c8_i32_320
  let c0_i32_321 : BitVec 32 := 0#32
  let v350 : BitVec 32 := Scalar.addi v349 c0_i32_321
  let c0_i32_440 : BitVec 32 := 0#32
  ![v2.toNat, 448, v350.toNat, 0]
def k0_off125 (d0 : Dev nD) (c1_i32_313 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c640_i32_453 : BitVec 32 := 640#32
  let c4_i32_312 : BitVec 32 := 4#32
  let v337 : BitVec 32 := Scalar.addi v2 c4_i32_312
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_320 : BitVec 32 := 8#32
  let v349 : BitVec 32 := Scalar.muli v348 c8_i32_320
  let c0_i32_321 : BitVec 32 := 0#32
  let v350 : BitVec 32 := Scalar.addi v349 c0_i32_321
  let c0_i32_454 : BitVec 32 := 0#32
  ![v2.toNat, 640, v350.toNat, 0]
def k0_off126 (d0 : Dev nD) (c1_i32_313 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c832_i32_467 : BitVec 32 := 832#32
  let c4_i32_312 : BitVec 32 := 4#32
  let v337 : BitVec 32 := Scalar.addi v2 c4_i32_312
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_320 : BitVec 32 := 8#32
  let v349 : BitVec 32 := Scalar.muli v348 c8_i32_320
  let c0_i32_321 : BitVec 32 := 0#32
  let v350 : BitVec 32 := Scalar.addi v349 c0_i32_321
  let c0_i32_468 : BitVec 32 := 0#32
  ![v2.toNat, 832, v350.toNat, 0]
def k0_off127 (d0 : Dev nD) (c1_i32_313 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_481 : BitVec 32 := 128#32
  let c4_i32_312 : BitVec 32 := 4#32
  let v337 : BitVec 32 := Scalar.addi v2 c4_i32_312
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_320 : BitVec 32 := 8#32
  let v349 : BitVec 32 := Scalar.muli v348 c8_i32_320
  let c0_i32_321 : BitVec 32 := 0#32
  let v350 : BitVec 32 := Scalar.addi v349 c0_i32_321
  let c0_i32_482 : BitVec 32 := 0#32
  ![v2.toNat, 128, v350.toNat, 0]
def k0_off128 (d0 : Dev nD) (c1_i32_313 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c320_i32_495 : BitVec 32 := 320#32
  let c4_i32_312 : BitVec 32 := 4#32
  let v337 : BitVec 32 := Scalar.addi v2 c4_i32_312
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_320 : BitVec 32 := 8#32
  let v349 : BitVec 32 := Scalar.muli v348 c8_i32_320
  let c0_i32_321 : BitVec 32 := 0#32
  let v350 : BitVec 32 := Scalar.addi v349 c0_i32_321
  let c0_i32_496 : BitVec 32 := 0#32
  ![v2.toNat, 320, v350.toNat, 0]
def k0_off129 (d0 : Dev nD) (c1_i32_313 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_509 : BitVec 32 := 512#32
  let c4_i32_312 : BitVec 32 := 4#32
  let v337 : BitVec 32 := Scalar.addi v2 c4_i32_312
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_320 : BitVec 32 := 8#32
  let v349 : BitVec 32 := Scalar.muli v348 c8_i32_320
  let c0_i32_321 : BitVec 32 := 0#32
  let v350 : BitVec 32 := Scalar.addi v349 c0_i32_321
  let c0_i32_510 : BitVec 32 := 0#32
  ![v2.toNat, 512, v350.toNat, 0]
def k0_off130 (d0 : Dev nD) (c1_i32_313 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c704_i32_523 : BitVec 32 := 704#32
  let c4_i32_312 : BitVec 32 := 4#32
  let v337 : BitVec 32 := Scalar.addi v2 c4_i32_312
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_320 : BitVec 32 := 8#32
  let v349 : BitVec 32 := Scalar.muli v348 c8_i32_320
  let c0_i32_321 : BitVec 32 := 0#32
  let v350 : BitVec 32 := Scalar.addi v349 c0_i32_321
  let c0_i32_524 : BitVec 32 := 0#32
  ![v2.toNat, 704, v350.toNat, 0]
def k0_off131 (d0 : Dev nD) (c1_i32_313 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c896_i32_537 : BitVec 32 := 896#32
  let c4_i32_312 : BitVec 32 := 4#32
  let v337 : BitVec 32 := Scalar.addi v2 c4_i32_312
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_320 : BitVec 32 := 8#32
  let v349 : BitVec 32 := Scalar.muli v348 c8_i32_320
  let c0_i32_321 : BitVec 32 := 0#32
  let v350 : BitVec 32 := Scalar.addi v349 c0_i32_321
  let c0_i32_538 : BitVec 32 := 0#32
  ![v2.toNat, 896, v350.toNat, 0]
def k0_dev5 (d0 : Dev nD) : Nat :=
  let c0_i32_577 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_576 : BitVec 32 := 1#32
  let v563 : BitVec 32 := Scalar.muli v25 c1_i32_576
  let v564 : BitVec 32 := Scalar.addi c0_i32_577 v563
  v564.toNat
def k0_dev6 (d0 : Dev nD) : Nat :=
  let c0_i32_587 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_586 : BitVec 32 := 1#32
  let v573 : BitVec 32 := Scalar.muli v14 c1_i32_586
  let v574 : BitVec 32 := Scalar.addi c0_i32_587 v573
  v574.toNat
@[reducible] def k0_t2_loop : Scf.Loop 32 :=
  let c0_i32_607 : BitVec 32 := 0#32
  let c8_i32_608 : BitVec 32 := 8#32
  let v599 : BitVec 32 := Scalar.addi c0_i32_607 c8_i32_608
  let c1_i32_609 : BitVec 32 := 1#32
  ⟨c0_i32_607, v599, c1_i32_609⟩
def k0_cond2 (k0_t2 : Fin k0_t2_loop.trips) : BitVec 1 :=
  let c0_i32_607 : BitVec 32 := 0#32
  let c1_i32_609 : BitVec 32 := 1#32
  let arg20 : BitVec 32 := Scf.iv c0_i32_607 c1_i32_609 k0_t2
  let c1_i32_1241 : BitVec 32 := 1#32
  let v1174 : BitVec 32 := Scalar.addi arg20 c1_i32_1241
  let c8_i32_1242 : BitVec 32 := 8#32
  let v1175 : BitVec 1 := Scalar.cmpi .slt v1174 c8_i32_1242
  let v1176 : BitVec 32 := Scalar.extui v1175
  let c0_i32_1243 : BitVec 32 := 0#32
  let v1177 : BitVec 1 := Scalar.cmpi .ne v1176 c0_i32_1243
  v1177

def k0_off132 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c0_i32_1435 : BitVec 32 := 0#32
  ![v1466.toNat, 0]
def k0_off133 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c0_i32_1436 : BitVec 32 := 0#32
  let c0_i32_1437 : BitVec 32 := 0#32
  ![v1466.toNat, 0, 0]
def k0_off134 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1438 : BitVec 32 := 0#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1434 : BitVec 32 := 8#32
  let v1467 : BitVec 32 := Scalar.muli v348 c8_i32_1434
  let c0_i32_607 : BitVec 32 := 0#32
  let c1_i32_609 : BitVec 32 := 1#32
  let arg20 : BitVec 32 := Scf.iv c0_i32_607 c1_i32_609 k0_t2
  let c1_i32_1431 : BitVec 32 := 1#32
  let v1464 : BitVec 32 := Scalar.addi arg20 c1_i32_1431
  let v1468 : BitVec 32 := Scalar.addi v1467 v1464
  let c0_i32_1439 : BitVec 32 := 0#32
  ![v2.toNat, 0, v1468.toNat, 0]
def k0_off135 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c1_i32_1445 : BitVec 32 := 1#32
  ![v1466.toNat, 1]
def k0_off136 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c64_i32_1446 : BitVec 32 := 64#32
  let c0_i32_1447 : BitVec 32 := 0#32
  ![v1466.toNat, 64, 0]
def k0_off137 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c192_i32_1448 : BitVec 32 := 192#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1434 : BitVec 32 := 8#32
  let v1467 : BitVec 32 := Scalar.muli v348 c8_i32_1434
  let c0_i32_607 : BitVec 32 := 0#32
  let c1_i32_609 : BitVec 32 := 1#32
  let arg20 : BitVec 32 := Scf.iv c0_i32_607 c1_i32_609 k0_t2
  let c1_i32_1431 : BitVec 32 := 1#32
  let v1464 : BitVec 32 := Scalar.addi arg20 c1_i32_1431
  let v1468 : BitVec 32 := Scalar.addi v1467 v1464
  let c0_i32_1449 : BitVec 32 := 0#32
  ![v2.toNat, 192, v1468.toNat, 0]
def k0_off138 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c2_i32_1455 : BitVec 32 := 2#32
  ![v1466.toNat, 2]
def k0_off139 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c128_i32_1456 : BitVec 32 := 128#32
  let c0_i32_1457 : BitVec 32 := 0#32
  ![v1466.toNat, 128, 0]
def k0_off140 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_1458 : BitVec 32 := 384#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1434 : BitVec 32 := 8#32
  let v1467 : BitVec 32 := Scalar.muli v348 c8_i32_1434
  let c0_i32_607 : BitVec 32 := 0#32
  let c1_i32_609 : BitVec 32 := 1#32
  let arg20 : BitVec 32 := Scf.iv c0_i32_607 c1_i32_609 k0_t2
  let c1_i32_1431 : BitVec 32 := 1#32
  let v1464 : BitVec 32 := Scalar.addi arg20 c1_i32_1431
  let v1468 : BitVec 32 := Scalar.addi v1467 v1464
  let c0_i32_1459 : BitVec 32 := 0#32
  ![v2.toNat, 384, v1468.toNat, 0]
def k0_off141 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c3_i32_1465 : BitVec 32 := 3#32
  ![v1466.toNat, 3]
def k0_off142 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c192_i32_1466 : BitVec 32 := 192#32
  let c0_i32_1467 : BitVec 32 := 0#32
  ![v1466.toNat, 192, 0]
def k0_off143 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c576_i32_1468 : BitVec 32 := 576#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1434 : BitVec 32 := 8#32
  let v1467 : BitVec 32 := Scalar.muli v348 c8_i32_1434
  let c0_i32_607 : BitVec 32 := 0#32
  let c1_i32_609 : BitVec 32 := 1#32
  let arg20 : BitVec 32 := Scf.iv c0_i32_607 c1_i32_609 k0_t2
  let c1_i32_1431 : BitVec 32 := 1#32
  let v1464 : BitVec 32 := Scalar.addi arg20 c1_i32_1431
  let v1468 : BitVec 32 := Scalar.addi v1467 v1464
  let c0_i32_1469 : BitVec 32 := 0#32
  ![v2.toNat, 576, v1468.toNat, 0]
def k0_off144 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c4_i32_1475 : BitVec 32 := 4#32
  ![v1466.toNat, 4]
def k0_off145 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c256_i32_1476 : BitVec 32 := 256#32
  let c0_i32_1477 : BitVec 32 := 0#32
  ![v1466.toNat, 256, 0]
def k0_off146 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_1478 : BitVec 32 := 768#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1434 : BitVec 32 := 8#32
  let v1467 : BitVec 32 := Scalar.muli v348 c8_i32_1434
  let c0_i32_607 : BitVec 32 := 0#32
  let c1_i32_609 : BitVec 32 := 1#32
  let arg20 : BitVec 32 := Scf.iv c0_i32_607 c1_i32_609 k0_t2
  let c1_i32_1431 : BitVec 32 := 1#32
  let v1464 : BitVec 32 := Scalar.addi arg20 c1_i32_1431
  let v1468 : BitVec 32 := Scalar.addi v1467 v1464
  let c0_i32_1479 : BitVec 32 := 0#32
  ![v2.toNat, 768, v1468.toNat, 0]
def k0_off147 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c5_i32_1485 : BitVec 32 := 5#32
  ![v1466.toNat, 5]
def k0_off148 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c320_i32_1486 : BitVec 32 := 320#32
  let c0_i32_1487 : BitVec 32 := 0#32
  ![v1466.toNat, 320, 0]
def k0_off149 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c960_i32_1488 : BitVec 32 := 960#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1434 : BitVec 32 := 8#32
  let v1467 : BitVec 32 := Scalar.muli v348 c8_i32_1434
  let c0_i32_607 : BitVec 32 := 0#32
  let c1_i32_609 : BitVec 32 := 1#32
  let arg20 : BitVec 32 := Scf.iv c0_i32_607 c1_i32_609 k0_t2
  let c1_i32_1431 : BitVec 32 := 1#32
  let v1464 : BitVec 32 := Scalar.addi arg20 c1_i32_1431
  let v1468 : BitVec 32 := Scalar.addi v1467 v1464
  let c0_i32_1489 : BitVec 32 := 0#32
  ![v2.toNat, 960, v1468.toNat, 0]
def k0_off150 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c6_i32_1495 : BitVec 32 := 6#32
  ![v1466.toNat, 6]
def k0_off151 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c384_i32_1496 : BitVec 32 := 384#32
  let c0_i32_1497 : BitVec 32 := 0#32
  ![v1466.toNat, 384, 0]
def k0_off152 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_1498 : BitVec 32 := 64#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1434 : BitVec 32 := 8#32
  let v1467 : BitVec 32 := Scalar.muli v348 c8_i32_1434
  let c0_i32_607 : BitVec 32 := 0#32
  let c1_i32_609 : BitVec 32 := 1#32
  let arg20 : BitVec 32 := Scf.iv c0_i32_607 c1_i32_609 k0_t2
  let c1_i32_1431 : BitVec 32 := 1#32
  let v1464 : BitVec 32 := Scalar.addi arg20 c1_i32_1431
  let v1468 : BitVec 32 := Scalar.addi v1467 v1464
  let c0_i32_1499 : BitVec 32 := 0#32
  ![v2.toNat, 64, v1468.toNat, 0]
def k0_off153 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c7_i32_1505 : BitVec 32 := 7#32
  ![v1466.toNat, 7]
def k0_off154 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c448_i32_1506 : BitVec 32 := 448#32
  let c0_i32_1507 : BitVec 32 := 0#32
  ![v1466.toNat, 448, 0]
def k0_off155 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1508 : BitVec 32 := 256#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1434 : BitVec 32 := 8#32
  let v1467 : BitVec 32 := Scalar.muli v348 c8_i32_1434
  let c0_i32_607 : BitVec 32 := 0#32
  let c1_i32_609 : BitVec 32 := 1#32
  let arg20 : BitVec 32 := Scf.iv c0_i32_607 c1_i32_609 k0_t2
  let c1_i32_1431 : BitVec 32 := 1#32
  let v1464 : BitVec 32 := Scalar.addi arg20 c1_i32_1431
  let v1468 : BitVec 32 := Scalar.addi v1467 v1464
  let c0_i32_1509 : BitVec 32 := 0#32
  ![v2.toNat, 256, v1468.toNat, 0]
def k0_off156 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c8_i32_1515 : BitVec 32 := 8#32
  ![v1466.toNat, 8]
def k0_off157 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c512_i32_1516 : BitVec 32 := 512#32
  let c0_i32_1517 : BitVec 32 := 0#32
  ![v1466.toNat, 512, 0]
def k0_off158 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c448_i32_1518 : BitVec 32 := 448#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1434 : BitVec 32 := 8#32
  let v1467 : BitVec 32 := Scalar.muli v348 c8_i32_1434
  let c0_i32_607 : BitVec 32 := 0#32
  let c1_i32_609 : BitVec 32 := 1#32
  let arg20 : BitVec 32 := Scf.iv c0_i32_607 c1_i32_609 k0_t2
  let c1_i32_1431 : BitVec 32 := 1#32
  let v1464 : BitVec 32 := Scalar.addi arg20 c1_i32_1431
  let v1468 : BitVec 32 := Scalar.addi v1467 v1464
  let c0_i32_1519 : BitVec 32 := 0#32
  ![v2.toNat, 448, v1468.toNat, 0]
def k0_off159 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c9_i32_1525 : BitVec 32 := 9#32
  ![v1466.toNat, 9]
def k0_off160 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c576_i32_1526 : BitVec 32 := 576#32
  let c0_i32_1527 : BitVec 32 := 0#32
  ![v1466.toNat, 576, 0]
def k0_off161 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c640_i32_1528 : BitVec 32 := 640#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1434 : BitVec 32 := 8#32
  let v1467 : BitVec 32 := Scalar.muli v348 c8_i32_1434
  let c0_i32_607 : BitVec 32 := 0#32
  let c1_i32_609 : BitVec 32 := 1#32
  let arg20 : BitVec 32 := Scf.iv c0_i32_607 c1_i32_609 k0_t2
  let c1_i32_1431 : BitVec 32 := 1#32
  let v1464 : BitVec 32 := Scalar.addi arg20 c1_i32_1431
  let v1468 : BitVec 32 := Scalar.addi v1467 v1464
  let c0_i32_1529 : BitVec 32 := 0#32
  ![v2.toNat, 640, v1468.toNat, 0]
def k0_off162 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c10_i32_1535 : BitVec 32 := 10#32
  ![v1466.toNat, 10]
def k0_off163 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c640_i32_1536 : BitVec 32 := 640#32
  let c0_i32_1537 : BitVec 32 := 0#32
  ![v1466.toNat, 640, 0]
def k0_off164 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c832_i32_1538 : BitVec 32 := 832#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1434 : BitVec 32 := 8#32
  let v1467 : BitVec 32 := Scalar.muli v348 c8_i32_1434
  let c0_i32_607 : BitVec 32 := 0#32
  let c1_i32_609 : BitVec 32 := 1#32
  let arg20 : BitVec 32 := Scf.iv c0_i32_607 c1_i32_609 k0_t2
  let c1_i32_1431 : BitVec 32 := 1#32
  let v1464 : BitVec 32 := Scalar.addi arg20 c1_i32_1431
  let v1468 : BitVec 32 := Scalar.addi v1467 v1464
  let c0_i32_1539 : BitVec 32 := 0#32
  ![v2.toNat, 832, v1468.toNat, 0]
def k0_off165 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c11_i32_1545 : BitVec 32 := 11#32
  ![v1466.toNat, 11]
def k0_off166 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c704_i32_1546 : BitVec 32 := 704#32
  let c0_i32_1547 : BitVec 32 := 0#32
  ![v1466.toNat, 704, 0]
def k0_off167 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_1548 : BitVec 32 := 128#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1434 : BitVec 32 := 8#32
  let v1467 : BitVec 32 := Scalar.muli v348 c8_i32_1434
  let c0_i32_607 : BitVec 32 := 0#32
  let c1_i32_609 : BitVec 32 := 1#32
  let arg20 : BitVec 32 := Scf.iv c0_i32_607 c1_i32_609 k0_t2
  let c1_i32_1431 : BitVec 32 := 1#32
  let v1464 : BitVec 32 := Scalar.addi arg20 c1_i32_1431
  let v1468 : BitVec 32 := Scalar.addi v1467 v1464
  let c0_i32_1549 : BitVec 32 := 0#32
  ![v2.toNat, 128, v1468.toNat, 0]
def k0_off168 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c12_i32_1555 : BitVec 32 := 12#32
  ![v1466.toNat, 12]
def k0_off169 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c768_i32_1556 : BitVec 32 := 768#32
  let c0_i32_1557 : BitVec 32 := 0#32
  ![v1466.toNat, 768, 0]
def k0_off170 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c320_i32_1558 : BitVec 32 := 320#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1434 : BitVec 32 := 8#32
  let v1467 : BitVec 32 := Scalar.muli v348 c8_i32_1434
  let c0_i32_607 : BitVec 32 := 0#32
  let c1_i32_609 : BitVec 32 := 1#32
  let arg20 : BitVec 32 := Scf.iv c0_i32_607 c1_i32_609 k0_t2
  let c1_i32_1431 : BitVec 32 := 1#32
  let v1464 : BitVec 32 := Scalar.addi arg20 c1_i32_1431
  let v1468 : BitVec 32 := Scalar.addi v1467 v1464
  let c0_i32_1559 : BitVec 32 := 0#32
  ![v2.toNat, 320, v1468.toNat, 0]
def k0_off171 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c13_i32_1565 : BitVec 32 := 13#32
  ![v1466.toNat, 13]
def k0_off172 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c832_i32_1566 : BitVec 32 := 832#32
  let c0_i32_1567 : BitVec 32 := 0#32
  ![v1466.toNat, 832, 0]
def k0_off173 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1568 : BitVec 32 := 512#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1434 : BitVec 32 := 8#32
  let v1467 : BitVec 32 := Scalar.muli v348 c8_i32_1434
  let c0_i32_607 : BitVec 32 := 0#32
  let c1_i32_609 : BitVec 32 := 1#32
  let arg20 : BitVec 32 := Scf.iv c0_i32_607 c1_i32_609 k0_t2
  let c1_i32_1431 : BitVec 32 := 1#32
  let v1464 : BitVec 32 := Scalar.addi arg20 c1_i32_1431
  let v1468 : BitVec 32 := Scalar.addi v1467 v1464
  let c0_i32_1569 : BitVec 32 := 0#32
  ![v2.toNat, 512, v1468.toNat, 0]
def k0_off174 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c14_i32_1575 : BitVec 32 := 14#32
  ![v1466.toNat, 14]
def k0_off175 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c896_i32_1576 : BitVec 32 := 896#32
  let c0_i32_1577 : BitVec 32 := 0#32
  ![v1466.toNat, 896, 0]
def k0_off176 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c704_i32_1578 : BitVec 32 := 704#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1434 : BitVec 32 := 8#32
  let v1467 : BitVec 32 := Scalar.muli v348 c8_i32_1434
  let c0_i32_607 : BitVec 32 := 0#32
  let c1_i32_609 : BitVec 32 := 1#32
  let arg20 : BitVec 32 := Scf.iv c0_i32_607 c1_i32_609 k0_t2
  let c1_i32_1431 : BitVec 32 := 1#32
  let v1464 : BitVec 32 := Scalar.addi arg20 c1_i32_1431
  let v1468 : BitVec 32 := Scalar.addi v1467 v1464
  let c0_i32_1579 : BitVec 32 := 0#32
  ![v2.toNat, 704, v1468.toNat, 0]
def k0_off177 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c15_i32_1585 : BitVec 32 := 15#32
  ![v1466.toNat, 15]
def k0_off178 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c960_i32_1586 : BitVec 32 := 960#32
  let c0_i32_1587 : BitVec 32 := 0#32
  ![v1466.toNat, 960, 0]
def k0_off179 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c896_i32_1588 : BitVec 32 := 896#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1434 : BitVec 32 := 8#32
  let v1467 : BitVec 32 := Scalar.muli v348 c8_i32_1434
  let c0_i32_607 : BitVec 32 := 0#32
  let c1_i32_609 : BitVec 32 := 1#32
  let arg20 : BitVec 32 := Scf.iv c0_i32_607 c1_i32_609 k0_t2
  let c1_i32_1431 : BitVec 32 := 1#32
  let v1464 : BitVec 32 := Scalar.addi arg20 c1_i32_1431
  let v1468 : BitVec 32 := Scalar.addi v1467 v1464
  let c0_i32_1589 : BitVec 32 := 0#32
  ![v2.toNat, 896, v1468.toNat, 0]
def k0_off180 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c0_i32_1245 : BitVec 32 := 0#32
  ![v1173.toNat, 0]
def k0_off181 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c0_i32_1246 : BitVec 32 := 0#32
  let c0_i32_1247 : BitVec 32 := 0#32
  ![v1173.toNat, 0, 0]
def k0_off182 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1248 : BitVec 32 := 0#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1244 : BitVec 32 := 8#32
  let v1178 : BitVec 32 := Scalar.muli v348 c8_i32_1244
  let c0_i32_607 : BitVec 32 := 0#32
  let c1_i32_609 : BitVec 32 := 1#32
  let arg20 : BitVec 32 := Scf.iv c0_i32_607 c1_i32_609 k0_t2
  let v1179 : BitVec 32 := Scalar.addi v1178 arg20
  let c0_i32_1249 : BitVec 32 := 0#32
  ![v2.toNat, 0, v1179.toNat, 0]
def k0_off183 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c1_i32_1255 : BitVec 32 := 1#32
  ![v1173.toNat, 1]
def k0_off184 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c64_i32_1256 : BitVec 32 := 64#32
  let c0_i32_1257 : BitVec 32 := 0#32
  ![v1173.toNat, 64, 0]
def k0_off185 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c192_i32_1258 : BitVec 32 := 192#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1244 : BitVec 32 := 8#32
  let v1178 : BitVec 32 := Scalar.muli v348 c8_i32_1244
  let c0_i32_607 : BitVec 32 := 0#32
  let c1_i32_609 : BitVec 32 := 1#32
  let arg20 : BitVec 32 := Scf.iv c0_i32_607 c1_i32_609 k0_t2
  let v1179 : BitVec 32 := Scalar.addi v1178 arg20
  let c0_i32_1259 : BitVec 32 := 0#32
  ![v2.toNat, 192, v1179.toNat, 0]
def k0_off186 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c2_i32_1265 : BitVec 32 := 2#32
  ![v1173.toNat, 2]
def k0_off187 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c128_i32_1266 : BitVec 32 := 128#32
  let c0_i32_1267 : BitVec 32 := 0#32
  ![v1173.toNat, 128, 0]
def k0_off188 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_1268 : BitVec 32 := 384#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1244 : BitVec 32 := 8#32
  let v1178 : BitVec 32 := Scalar.muli v348 c8_i32_1244
  let c0_i32_607 : BitVec 32 := 0#32
  let c1_i32_609 : BitVec 32 := 1#32
  let arg20 : BitVec 32 := Scf.iv c0_i32_607 c1_i32_609 k0_t2
  let v1179 : BitVec 32 := Scalar.addi v1178 arg20
  let c0_i32_1269 : BitVec 32 := 0#32
  ![v2.toNat, 384, v1179.toNat, 0]
def k0_off189 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c3_i32_1275 : BitVec 32 := 3#32
  ![v1173.toNat, 3]
def k0_off190 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c192_i32_1276 : BitVec 32 := 192#32
  let c0_i32_1277 : BitVec 32 := 0#32
  ![v1173.toNat, 192, 0]
def k0_off191 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c576_i32_1278 : BitVec 32 := 576#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1244 : BitVec 32 := 8#32
  let v1178 : BitVec 32 := Scalar.muli v348 c8_i32_1244
  let c0_i32_607 : BitVec 32 := 0#32
  let c1_i32_609 : BitVec 32 := 1#32
  let arg20 : BitVec 32 := Scf.iv c0_i32_607 c1_i32_609 k0_t2
  let v1179 : BitVec 32 := Scalar.addi v1178 arg20
  let c0_i32_1279 : BitVec 32 := 0#32
  ![v2.toNat, 576, v1179.toNat, 0]
def k0_off192 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c4_i32_1285 : BitVec 32 := 4#32
  ![v1173.toNat, 4]
def k0_off193 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c256_i32_1286 : BitVec 32 := 256#32
  let c0_i32_1287 : BitVec 32 := 0#32
  ![v1173.toNat, 256, 0]
def k0_off194 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_1288 : BitVec 32 := 768#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1244 : BitVec 32 := 8#32
  let v1178 : BitVec 32 := Scalar.muli v348 c8_i32_1244
  let c0_i32_607 : BitVec 32 := 0#32
  let c1_i32_609 : BitVec 32 := 1#32
  let arg20 : BitVec 32 := Scf.iv c0_i32_607 c1_i32_609 k0_t2
  let v1179 : BitVec 32 := Scalar.addi v1178 arg20
  let c0_i32_1289 : BitVec 32 := 0#32
  ![v2.toNat, 768, v1179.toNat, 0]
def k0_off195 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c5_i32_1295 : BitVec 32 := 5#32
  ![v1173.toNat, 5]
def k0_off196 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c320_i32_1296 : BitVec 32 := 320#32
  let c0_i32_1297 : BitVec 32 := 0#32
  ![v1173.toNat, 320, 0]
def k0_off197 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c960_i32_1298 : BitVec 32 := 960#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1244 : BitVec 32 := 8#32
  let v1178 : BitVec 32 := Scalar.muli v348 c8_i32_1244
  let c0_i32_607 : BitVec 32 := 0#32
  let c1_i32_609 : BitVec 32 := 1#32
  let arg20 : BitVec 32 := Scf.iv c0_i32_607 c1_i32_609 k0_t2
  let v1179 : BitVec 32 := Scalar.addi v1178 arg20
  let c0_i32_1299 : BitVec 32 := 0#32
  ![v2.toNat, 960, v1179.toNat, 0]
def k0_off198 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c6_i32_1305 : BitVec 32 := 6#32
  ![v1173.toNat, 6]
def k0_off199 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c384_i32_1306 : BitVec 32 := 384#32
  let c0_i32_1307 : BitVec 32 := 0#32
  ![v1173.toNat, 384, 0]
def k0_off200 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_1308 : BitVec 32 := 64#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1244 : BitVec 32 := 8#32
  let v1178 : BitVec 32 := Scalar.muli v348 c8_i32_1244
  let c0_i32_607 : BitVec 32 := 0#32
  let c1_i32_609 : BitVec 32 := 1#32
  let arg20 : BitVec 32 := Scf.iv c0_i32_607 c1_i32_609 k0_t2
  let v1179 : BitVec 32 := Scalar.addi v1178 arg20
  let c0_i32_1309 : BitVec 32 := 0#32
  ![v2.toNat, 64, v1179.toNat, 0]
def k0_off201 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c7_i32_1315 : BitVec 32 := 7#32
  ![v1173.toNat, 7]
def k0_off202 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c448_i32_1316 : BitVec 32 := 448#32
  let c0_i32_1317 : BitVec 32 := 0#32
  ![v1173.toNat, 448, 0]
def k0_off203 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1318 : BitVec 32 := 256#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1244 : BitVec 32 := 8#32
  let v1178 : BitVec 32 := Scalar.muli v348 c8_i32_1244
  let c0_i32_607 : BitVec 32 := 0#32
  let c1_i32_609 : BitVec 32 := 1#32
  let arg20 : BitVec 32 := Scf.iv c0_i32_607 c1_i32_609 k0_t2
  let v1179 : BitVec 32 := Scalar.addi v1178 arg20
  let c0_i32_1319 : BitVec 32 := 0#32
  ![v2.toNat, 256, v1179.toNat, 0]
def k0_off204 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c8_i32_1325 : BitVec 32 := 8#32
  ![v1173.toNat, 8]
def k0_off205 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c512_i32_1326 : BitVec 32 := 512#32
  let c0_i32_1327 : BitVec 32 := 0#32
  ![v1173.toNat, 512, 0]
def k0_off206 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c448_i32_1328 : BitVec 32 := 448#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1244 : BitVec 32 := 8#32
  let v1178 : BitVec 32 := Scalar.muli v348 c8_i32_1244
  let c0_i32_607 : BitVec 32 := 0#32
  let c1_i32_609 : BitVec 32 := 1#32
  let arg20 : BitVec 32 := Scf.iv c0_i32_607 c1_i32_609 k0_t2
  let v1179 : BitVec 32 := Scalar.addi v1178 arg20
  let c0_i32_1329 : BitVec 32 := 0#32
  ![v2.toNat, 448, v1179.toNat, 0]
def k0_off207 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c9_i32_1335 : BitVec 32 := 9#32
  ![v1173.toNat, 9]
def k0_off208 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c576_i32_1336 : BitVec 32 := 576#32
  let c0_i32_1337 : BitVec 32 := 0#32
  ![v1173.toNat, 576, 0]
def k0_off209 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c640_i32_1338 : BitVec 32 := 640#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1244 : BitVec 32 := 8#32
  let v1178 : BitVec 32 := Scalar.muli v348 c8_i32_1244
  let c0_i32_607 : BitVec 32 := 0#32
  let c1_i32_609 : BitVec 32 := 1#32
  let arg20 : BitVec 32 := Scf.iv c0_i32_607 c1_i32_609 k0_t2
  let v1179 : BitVec 32 := Scalar.addi v1178 arg20
  let c0_i32_1339 : BitVec 32 := 0#32
  ![v2.toNat, 640, v1179.toNat, 0]
def k0_off210 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c10_i32_1345 : BitVec 32 := 10#32
  ![v1173.toNat, 10]
def k0_off211 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c640_i32_1346 : BitVec 32 := 640#32
  let c0_i32_1347 : BitVec 32 := 0#32
  ![v1173.toNat, 640, 0]
def k0_off212 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c832_i32_1348 : BitVec 32 := 832#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1244 : BitVec 32 := 8#32
  let v1178 : BitVec 32 := Scalar.muli v348 c8_i32_1244
  let c0_i32_607 : BitVec 32 := 0#32
  let c1_i32_609 : BitVec 32 := 1#32
  let arg20 : BitVec 32 := Scf.iv c0_i32_607 c1_i32_609 k0_t2
  let v1179 : BitVec 32 := Scalar.addi v1178 arg20
  let c0_i32_1349 : BitVec 32 := 0#32
  ![v2.toNat, 832, v1179.toNat, 0]
def k0_off213 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c11_i32_1355 : BitVec 32 := 11#32
  ![v1173.toNat, 11]
def k0_off214 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c704_i32_1356 : BitVec 32 := 704#32
  let c0_i32_1357 : BitVec 32 := 0#32
  ![v1173.toNat, 704, 0]
def k0_off215 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_1358 : BitVec 32 := 128#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1244 : BitVec 32 := 8#32
  let v1178 : BitVec 32 := Scalar.muli v348 c8_i32_1244
  let c0_i32_607 : BitVec 32 := 0#32
  let c1_i32_609 : BitVec 32 := 1#32
  let arg20 : BitVec 32 := Scf.iv c0_i32_607 c1_i32_609 k0_t2
  let v1179 : BitVec 32 := Scalar.addi v1178 arg20
  let c0_i32_1359 : BitVec 32 := 0#32
  ![v2.toNat, 128, v1179.toNat, 0]
def k0_off216 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c12_i32_1365 : BitVec 32 := 12#32
  ![v1173.toNat, 12]
def k0_off217 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c768_i32_1366 : BitVec 32 := 768#32
  let c0_i32_1367 : BitVec 32 := 0#32
  ![v1173.toNat, 768, 0]
def k0_off218 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c320_i32_1368 : BitVec 32 := 320#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1244 : BitVec 32 := 8#32
  let v1178 : BitVec 32 := Scalar.muli v348 c8_i32_1244
  let c0_i32_607 : BitVec 32 := 0#32
  let c1_i32_609 : BitVec 32 := 1#32
  let arg20 : BitVec 32 := Scf.iv c0_i32_607 c1_i32_609 k0_t2
  let v1179 : BitVec 32 := Scalar.addi v1178 arg20
  let c0_i32_1369 : BitVec 32 := 0#32
  ![v2.toNat, 320, v1179.toNat, 0]
def k0_off219 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c13_i32_1375 : BitVec 32 := 13#32
  ![v1173.toNat, 13]
def k0_off220 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c832_i32_1376 : BitVec 32 := 832#32
  let c0_i32_1377 : BitVec 32 := 0#32
  ![v1173.toNat, 832, 0]
def k0_off221 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1378 : BitVec 32 := 512#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1244 : BitVec 32 := 8#32
  let v1178 : BitVec 32 := Scalar.muli v348 c8_i32_1244
  let c0_i32_607 : BitVec 32 := 0#32
  let c1_i32_609 : BitVec 32 := 1#32
  let arg20 : BitVec 32 := Scf.iv c0_i32_607 c1_i32_609 k0_t2
  let v1179 : BitVec 32 := Scalar.addi v1178 arg20
  let c0_i32_1379 : BitVec 32 := 0#32
  ![v2.toNat, 512, v1179.toNat, 0]
def k0_off222 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c14_i32_1385 : BitVec 32 := 14#32
  ![v1173.toNat, 14]
def k0_off223 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c896_i32_1386 : BitVec 32 := 896#32
  let c0_i32_1387 : BitVec 32 := 0#32
  ![v1173.toNat, 896, 0]
def k0_off224 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c704_i32_1388 : BitVec 32 := 704#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1244 : BitVec 32 := 8#32
  let v1178 : BitVec 32 := Scalar.muli v348 c8_i32_1244
  let c0_i32_607 : BitVec 32 := 0#32
  let c1_i32_609 : BitVec 32 := 1#32
  let arg20 : BitVec 32 := Scf.iv c0_i32_607 c1_i32_609 k0_t2
  let v1179 : BitVec 32 := Scalar.addi v1178 arg20
  let c0_i32_1389 : BitVec 32 := 0#32
  ![v2.toNat, 704, v1179.toNat, 0]
def k0_off225 (k0_t2 : Fin k0_t2_loop.trips) : Fin 2 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c15_i32_1395 : BitVec 32 := 15#32
  ![v1173.toNat, 15]
def k0_off226 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let c960_i32_1396 : BitVec 32 := 960#32
  let c0_i32_1397 : BitVec 32 := 0#32
  ![v1173.toNat, 960, 0]
def k0_off227 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c896_i32_1398 : BitVec 32 := 896#32
  let c4_i32_312 : BitVec 32 := 4#32
  let v337 : BitVec 32 := Scalar.addi v2 c4_i32_312
  let c1_i32_313 : BitVec 32 := 1#32
  let v338 : BitVec 32 := Scalar.subi v337 c1_i32_313
  let c4_i32_314 : BitVec 32 := 4#32
  let c0_i32_315 : BitVec 32 := 0#32
  let v339 : BitVec 1 := Scalar.cmpi .eq c4_i32_314 c0_i32_315
  let c1_i32_316 : BitVec 32 := 1#32
  let v340 : BitVec 32 := Scalar.select v339 c1_i32_316 c4_i32_314
  let v341 : BitVec 32 := Scalar.remsi v338 v340
  let c0_i32_318 : BitVec 32 := 0#32
  let v343 : BitVec 1 := Scalar.cmpi .slt v341 c0_i32_318
  let c0_i32_319 : BitVec 32 := 0#32
  let v344 : BitVec 1 := Scalar.cmpi .slt v340 c0_i32_319
  let v345 : BitVec 1 := Scalar.xori v343 v344
  let c0_i32_317 : BitVec 32 := 0#32
  let v342 : BitVec 1 := Scalar.cmpi .ne v341 c0_i32_317
  let v346 : BitVec 1 := Scalar.andi v345 v342
  let v347 : BitVec 32 := Scalar.addi v341 v340
  let v348 : BitVec 32 := Scalar.select v346 v347 v341
  let c8_i32_1244 : BitVec 32 := 8#32
  let v1178 : BitVec 32 := Scalar.muli v348 c8_i32_1244
  let c0_i32_607 : BitVec 32 := 0#32
  let c1_i32_609 : BitVec 32 := 1#32
  let arg20 : BitVec 32 := Scf.iv c0_i32_607 c1_i32_609 k0_t2
  let v1179 : BitVec 32 := Scalar.addi v1178 arg20
  let c0_i32_1399 : BitVec 32 := 0#32
  ![v2.toNat, 896, v1179.toNat, 0]
def k0_off228 (k0_t2 : Fin k0_t2_loop.trips) : Fin 2 → Nat :=
  let c0_1406 : Index := 0#32
  let c0_i32_607 : BitVec 32 := 0#32
  let c1_i32_609 : BitVec 32 := 1#32
  let arg20 : BitVec 32 := Scf.iv c0_i32_607 c1_i32_609 k0_t2
  let c128_i32_1405 : BitVec 32 := 128#32
  let v1372 : BitVec 32 := Scalar.muli arg20 c128_i32_1405
  let v1373 : Index := Scalar.indexCast v1372
  ![0, v1373.toNat]
def k0_off229 (k0_t2 : Fin k0_t2_loop.trips) : Fin 3 → Nat :=
  let c0_i32_607 : BitVec 32 := 0#32
  let c1_i32_609 : BitVec 32 := 1#32
  let arg20 : BitVec 32 := Scf.iv c0_i32_607 c1_i32_609 k0_t2
  let c2_i32_1240 : BitVec 32 := 2#32
  let v1173 : BitVec 32 := Scalar.remsi arg20 c2_i32_1240
  let v1375 : Index := Scalar.indexCast v1173
  let c0_1407 : Index := 0#32
  let c0_1408 : Index := 0#32
  ![v1375.toNat, 0, 0]
def k0_off230 (k0_t2 : Fin k0_t2_loop.trips) : Fin 2 → Nat :=
  let c0_1430 : Index := 0#32
  let c1024_i32 : BitVec 32 := 1024#32
  let c0_i32_607 : BitVec 32 := 0#32
  let c1_i32_609 : BitVec 32 := 1#32
  let arg20 : BitVec 32 := Scf.iv c0_i32_607 c1_i32_609 k0_t2
  let c128_i32_1429 : BitVec 32 := 128#32
  let v1458 : BitVec 32 := Scalar.muli arg20 c128_i32_1429
  let v1459 : BitVec 32 := Scalar.addi c1024_i32 v1458
  let v1460 : Index := Scalar.indexCast v1459
  ![0, v1460.toNat]
def k0_dev7 (d0 : Dev nD) : Nat :=
  let c0_i32_876 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_875 : BitVec 32 := 1#32
  let v826 : BitVec 32 := Scalar.muli v25 c1_i32_875
  let v827 : BitVec 32 := Scalar.addi c0_i32_876 v826
  v827.toNat
def k0_dev8 (d0 : Dev nD) : Nat :=
  let c0_i32_886 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_885 : BitVec 32 := 1#32
  let v836 : BitVec 32 := Scalar.muli v14 c1_i32_885
  let v837 : BitVec 32 := Scalar.addi c0_i32_886 v836
  v837.toNat
@[reducible] def k0_t3_loop : Scf.Loop 32 :=
  let c0_i32_905 : BitVec 32 := 0#32
  let c8_i32_906 : BitVec 32 := 8#32
  let v862 : BitVec 32 := Scalar.addi c0_i32_905 c8_i32_906
  let c1_i32_907 : BitVec 32 := 1#32
  ⟨c0_i32_905, v862, c1_i32_907⟩
def k0_cond3 (k0_t3 : Fin k0_t3_loop.trips) : BitVec 1 :=
  let c0_i32_905 : BitVec 32 := 0#32
  let c1_i32_907 : BitVec 32 := 1#32
  let arg20 : BitVec 32 := Scf.iv c0_i32_905 c1_i32_907 k0_t3
  let c1_i32_1241 : BitVec 32 := 1#32
  let v1174 : BitVec 32 := Scalar.addi arg20 c1_i32_1241
  let c8_i32_1242 : BitVec 32 := 8#32
  let v1175 : BitVec 1 := Scalar.cmpi .slt v1174 c8_i32_1242
  let v1176 : BitVec 32 := Scalar.extui v1175
  let c0_i32_1243 : BitVec 32 := 0#32
  let v1177 : BitVec 1 := Scalar.cmpi .ne v1176 c0_i32_1243
  v1177

def k0_off231 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c0_i32_1435 : BitVec 32 := 0#32
  ![v1466.toNat, 0]
def k0_off232 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c0_i32_1436 : BitVec 32 := 0#32
  let c0_i32_1437 : BitVec 32 := 0#32
  ![v1466.toNat, 0, 0]
def k0_off233 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1438 : BitVec 32 := 0#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1434 : BitVec 32 := 8#32
  let v1467 : BitVec 32 := Scalar.muli v611 c8_i32_1434
  let c0_i32_905 : BitVec 32 := 0#32
  let c1_i32_907 : BitVec 32 := 1#32
  let arg20 : BitVec 32 := Scf.iv c0_i32_905 c1_i32_907 k0_t3
  let c1_i32_1431 : BitVec 32 := 1#32
  let v1464 : BitVec 32 := Scalar.addi arg20 c1_i32_1431
  let v1468 : BitVec 32 := Scalar.addi v1467 v1464
  let c0_i32_1439 : BitVec 32 := 0#32
  ![v2.toNat, 0, v1468.toNat, 0]
def k0_off234 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c1_i32_1445 : BitVec 32 := 1#32
  ![v1466.toNat, 1]
def k0_off235 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c64_i32_1446 : BitVec 32 := 64#32
  let c0_i32_1447 : BitVec 32 := 0#32
  ![v1466.toNat, 64, 0]
def k0_off236 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c192_i32_1448 : BitVec 32 := 192#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1434 : BitVec 32 := 8#32
  let v1467 : BitVec 32 := Scalar.muli v611 c8_i32_1434
  let c0_i32_905 : BitVec 32 := 0#32
  let c1_i32_907 : BitVec 32 := 1#32
  let arg20 : BitVec 32 := Scf.iv c0_i32_905 c1_i32_907 k0_t3
  let c1_i32_1431 : BitVec 32 := 1#32
  let v1464 : BitVec 32 := Scalar.addi arg20 c1_i32_1431
  let v1468 : BitVec 32 := Scalar.addi v1467 v1464
  let c0_i32_1449 : BitVec 32 := 0#32
  ![v2.toNat, 192, v1468.toNat, 0]
def k0_off237 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c2_i32_1455 : BitVec 32 := 2#32
  ![v1466.toNat, 2]
def k0_off238 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c128_i32_1456 : BitVec 32 := 128#32
  let c0_i32_1457 : BitVec 32 := 0#32
  ![v1466.toNat, 128, 0]
def k0_off239 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_1458 : BitVec 32 := 384#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1434 : BitVec 32 := 8#32
  let v1467 : BitVec 32 := Scalar.muli v611 c8_i32_1434
  let c0_i32_905 : BitVec 32 := 0#32
  let c1_i32_907 : BitVec 32 := 1#32
  let arg20 : BitVec 32 := Scf.iv c0_i32_905 c1_i32_907 k0_t3
  let c1_i32_1431 : BitVec 32 := 1#32
  let v1464 : BitVec 32 := Scalar.addi arg20 c1_i32_1431
  let v1468 : BitVec 32 := Scalar.addi v1467 v1464
  let c0_i32_1459 : BitVec 32 := 0#32
  ![v2.toNat, 384, v1468.toNat, 0]
def k0_off240 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c3_i32_1465 : BitVec 32 := 3#32
  ![v1466.toNat, 3]
def k0_off241 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c192_i32_1466 : BitVec 32 := 192#32
  let c0_i32_1467 : BitVec 32 := 0#32
  ![v1466.toNat, 192, 0]
def k0_off242 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c576_i32_1468 : BitVec 32 := 576#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1434 : BitVec 32 := 8#32
  let v1467 : BitVec 32 := Scalar.muli v611 c8_i32_1434
  let c0_i32_905 : BitVec 32 := 0#32
  let c1_i32_907 : BitVec 32 := 1#32
  let arg20 : BitVec 32 := Scf.iv c0_i32_905 c1_i32_907 k0_t3
  let c1_i32_1431 : BitVec 32 := 1#32
  let v1464 : BitVec 32 := Scalar.addi arg20 c1_i32_1431
  let v1468 : BitVec 32 := Scalar.addi v1467 v1464
  let c0_i32_1469 : BitVec 32 := 0#32
  ![v2.toNat, 576, v1468.toNat, 0]
def k0_off243 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c4_i32_1475 : BitVec 32 := 4#32
  ![v1466.toNat, 4]
def k0_off244 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c256_i32_1476 : BitVec 32 := 256#32
  let c0_i32_1477 : BitVec 32 := 0#32
  ![v1466.toNat, 256, 0]
def k0_off245 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_1478 : BitVec 32 := 768#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1434 : BitVec 32 := 8#32
  let v1467 : BitVec 32 := Scalar.muli v611 c8_i32_1434
  let c0_i32_905 : BitVec 32 := 0#32
  let c1_i32_907 : BitVec 32 := 1#32
  let arg20 : BitVec 32 := Scf.iv c0_i32_905 c1_i32_907 k0_t3
  let c1_i32_1431 : BitVec 32 := 1#32
  let v1464 : BitVec 32 := Scalar.addi arg20 c1_i32_1431
  let v1468 : BitVec 32 := Scalar.addi v1467 v1464
  let c0_i32_1479 : BitVec 32 := 0#32
  ![v2.toNat, 768, v1468.toNat, 0]
def k0_off246 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c5_i32_1485 : BitVec 32 := 5#32
  ![v1466.toNat, 5]
def k0_off247 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c320_i32_1486 : BitVec 32 := 320#32
  let c0_i32_1487 : BitVec 32 := 0#32
  ![v1466.toNat, 320, 0]
def k0_off248 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c960_i32_1488 : BitVec 32 := 960#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1434 : BitVec 32 := 8#32
  let v1467 : BitVec 32 := Scalar.muli v611 c8_i32_1434
  let c0_i32_905 : BitVec 32 := 0#32
  let c1_i32_907 : BitVec 32 := 1#32
  let arg20 : BitVec 32 := Scf.iv c0_i32_905 c1_i32_907 k0_t3
  let c1_i32_1431 : BitVec 32 := 1#32
  let v1464 : BitVec 32 := Scalar.addi arg20 c1_i32_1431
  let v1468 : BitVec 32 := Scalar.addi v1467 v1464
  let c0_i32_1489 : BitVec 32 := 0#32
  ![v2.toNat, 960, v1468.toNat, 0]
def k0_off249 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c6_i32_1495 : BitVec 32 := 6#32
  ![v1466.toNat, 6]
def k0_off250 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c384_i32_1496 : BitVec 32 := 384#32
  let c0_i32_1497 : BitVec 32 := 0#32
  ![v1466.toNat, 384, 0]
def k0_off251 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_1498 : BitVec 32 := 64#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1434 : BitVec 32 := 8#32
  let v1467 : BitVec 32 := Scalar.muli v611 c8_i32_1434
  let c0_i32_905 : BitVec 32 := 0#32
  let c1_i32_907 : BitVec 32 := 1#32
  let arg20 : BitVec 32 := Scf.iv c0_i32_905 c1_i32_907 k0_t3
  let c1_i32_1431 : BitVec 32 := 1#32
  let v1464 : BitVec 32 := Scalar.addi arg20 c1_i32_1431
  let v1468 : BitVec 32 := Scalar.addi v1467 v1464
  let c0_i32_1499 : BitVec 32 := 0#32
  ![v2.toNat, 64, v1468.toNat, 0]
def k0_off252 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c7_i32_1505 : BitVec 32 := 7#32
  ![v1466.toNat, 7]
def k0_off253 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c448_i32_1506 : BitVec 32 := 448#32
  let c0_i32_1507 : BitVec 32 := 0#32
  ![v1466.toNat, 448, 0]
def k0_off254 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1508 : BitVec 32 := 256#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1434 : BitVec 32 := 8#32
  let v1467 : BitVec 32 := Scalar.muli v611 c8_i32_1434
  let c0_i32_905 : BitVec 32 := 0#32
  let c1_i32_907 : BitVec 32 := 1#32
  let arg20 : BitVec 32 := Scf.iv c0_i32_905 c1_i32_907 k0_t3
  let c1_i32_1431 : BitVec 32 := 1#32
  let v1464 : BitVec 32 := Scalar.addi arg20 c1_i32_1431
  let v1468 : BitVec 32 := Scalar.addi v1467 v1464
  let c0_i32_1509 : BitVec 32 := 0#32
  ![v2.toNat, 256, v1468.toNat, 0]
def k0_off255 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c8_i32_1515 : BitVec 32 := 8#32
  ![v1466.toNat, 8]
def k0_off256 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c512_i32_1516 : BitVec 32 := 512#32
  let c0_i32_1517 : BitVec 32 := 0#32
  ![v1466.toNat, 512, 0]
def k0_off257 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c448_i32_1518 : BitVec 32 := 448#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1434 : BitVec 32 := 8#32
  let v1467 : BitVec 32 := Scalar.muli v611 c8_i32_1434
  let c0_i32_905 : BitVec 32 := 0#32
  let c1_i32_907 : BitVec 32 := 1#32
  let arg20 : BitVec 32 := Scf.iv c0_i32_905 c1_i32_907 k0_t3
  let c1_i32_1431 : BitVec 32 := 1#32
  let v1464 : BitVec 32 := Scalar.addi arg20 c1_i32_1431
  let v1468 : BitVec 32 := Scalar.addi v1467 v1464
  let c0_i32_1519 : BitVec 32 := 0#32
  ![v2.toNat, 448, v1468.toNat, 0]
def k0_off258 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c9_i32_1525 : BitVec 32 := 9#32
  ![v1466.toNat, 9]
def k0_off259 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c576_i32_1526 : BitVec 32 := 576#32
  let c0_i32_1527 : BitVec 32 := 0#32
  ![v1466.toNat, 576, 0]
def k0_off260 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c640_i32_1528 : BitVec 32 := 640#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1434 : BitVec 32 := 8#32
  let v1467 : BitVec 32 := Scalar.muli v611 c8_i32_1434
  let c0_i32_905 : BitVec 32 := 0#32
  let c1_i32_907 : BitVec 32 := 1#32
  let arg20 : BitVec 32 := Scf.iv c0_i32_905 c1_i32_907 k0_t3
  let c1_i32_1431 : BitVec 32 := 1#32
  let v1464 : BitVec 32 := Scalar.addi arg20 c1_i32_1431
  let v1468 : BitVec 32 := Scalar.addi v1467 v1464
  let c0_i32_1529 : BitVec 32 := 0#32
  ![v2.toNat, 640, v1468.toNat, 0]
def k0_off261 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c10_i32_1535 : BitVec 32 := 10#32
  ![v1466.toNat, 10]
def k0_off262 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c640_i32_1536 : BitVec 32 := 640#32
  let c0_i32_1537 : BitVec 32 := 0#32
  ![v1466.toNat, 640, 0]
def k0_off263 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c832_i32_1538 : BitVec 32 := 832#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1434 : BitVec 32 := 8#32
  let v1467 : BitVec 32 := Scalar.muli v611 c8_i32_1434
  let c0_i32_905 : BitVec 32 := 0#32
  let c1_i32_907 : BitVec 32 := 1#32
  let arg20 : BitVec 32 := Scf.iv c0_i32_905 c1_i32_907 k0_t3
  let c1_i32_1431 : BitVec 32 := 1#32
  let v1464 : BitVec 32 := Scalar.addi arg20 c1_i32_1431
  let v1468 : BitVec 32 := Scalar.addi v1467 v1464
  let c0_i32_1539 : BitVec 32 := 0#32
  ![v2.toNat, 832, v1468.toNat, 0]
def k0_off264 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c11_i32_1545 : BitVec 32 := 11#32
  ![v1466.toNat, 11]
def k0_off265 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c704_i32_1546 : BitVec 32 := 704#32
  let c0_i32_1547 : BitVec 32 := 0#32
  ![v1466.toNat, 704, 0]
def k0_off266 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_1548 : BitVec 32 := 128#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1434 : BitVec 32 := 8#32
  let v1467 : BitVec 32 := Scalar.muli v611 c8_i32_1434
  let c0_i32_905 : BitVec 32 := 0#32
  let c1_i32_907 : BitVec 32 := 1#32
  let arg20 : BitVec 32 := Scf.iv c0_i32_905 c1_i32_907 k0_t3
  let c1_i32_1431 : BitVec 32 := 1#32
  let v1464 : BitVec 32 := Scalar.addi arg20 c1_i32_1431
  let v1468 : BitVec 32 := Scalar.addi v1467 v1464
  let c0_i32_1549 : BitVec 32 := 0#32
  ![v2.toNat, 128, v1468.toNat, 0]
def k0_off267 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c12_i32_1555 : BitVec 32 := 12#32
  ![v1466.toNat, 12]
def k0_off268 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c768_i32_1556 : BitVec 32 := 768#32
  let c0_i32_1557 : BitVec 32 := 0#32
  ![v1466.toNat, 768, 0]
def k0_off269 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c320_i32_1558 : BitVec 32 := 320#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1434 : BitVec 32 := 8#32
  let v1467 : BitVec 32 := Scalar.muli v611 c8_i32_1434
  let c0_i32_905 : BitVec 32 := 0#32
  let c1_i32_907 : BitVec 32 := 1#32
  let arg20 : BitVec 32 := Scf.iv c0_i32_905 c1_i32_907 k0_t3
  let c1_i32_1431 : BitVec 32 := 1#32
  let v1464 : BitVec 32 := Scalar.addi arg20 c1_i32_1431
  let v1468 : BitVec 32 := Scalar.addi v1467 v1464
  let c0_i32_1559 : BitVec 32 := 0#32
  ![v2.toNat, 320, v1468.toNat, 0]
def k0_off270 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c13_i32_1565 : BitVec 32 := 13#32
  ![v1466.toNat, 13]
def k0_off271 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c832_i32_1566 : BitVec 32 := 832#32
  let c0_i32_1567 : BitVec 32 := 0#32
  ![v1466.toNat, 832, 0]
def k0_off272 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1568 : BitVec 32 := 512#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1434 : BitVec 32 := 8#32
  let v1467 : BitVec 32 := Scalar.muli v611 c8_i32_1434
  let c0_i32_905 : BitVec 32 := 0#32
  let c1_i32_907 : BitVec 32 := 1#32
  let arg20 : BitVec 32 := Scf.iv c0_i32_905 c1_i32_907 k0_t3
  let c1_i32_1431 : BitVec 32 := 1#32
  let v1464 : BitVec 32 := Scalar.addi arg20 c1_i32_1431
  let v1468 : BitVec 32 := Scalar.addi v1467 v1464
  let c0_i32_1569 : BitVec 32 := 0#32
  ![v2.toNat, 512, v1468.toNat, 0]
def k0_off273 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c14_i32_1575 : BitVec 32 := 14#32
  ![v1466.toNat, 14]
def k0_off274 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c896_i32_1576 : BitVec 32 := 896#32
  let c0_i32_1577 : BitVec 32 := 0#32
  ![v1466.toNat, 896, 0]
def k0_off275 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c704_i32_1578 : BitVec 32 := 704#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1434 : BitVec 32 := 8#32
  let v1467 : BitVec 32 := Scalar.muli v611 c8_i32_1434
  let c0_i32_905 : BitVec 32 := 0#32
  let c1_i32_907 : BitVec 32 := 1#32
  let arg20 : BitVec 32 := Scf.iv c0_i32_905 c1_i32_907 k0_t3
  let c1_i32_1431 : BitVec 32 := 1#32
  let v1464 : BitVec 32 := Scalar.addi arg20 c1_i32_1431
  let v1468 : BitVec 32 := Scalar.addi v1467 v1464
  let c0_i32_1579 : BitVec 32 := 0#32
  ![v2.toNat, 704, v1468.toNat, 0]
def k0_off276 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c15_i32_1585 : BitVec 32 := 15#32
  ![v1466.toNat, 15]
def k0_off277 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c960_i32_1586 : BitVec 32 := 960#32
  let c0_i32_1587 : BitVec 32 := 0#32
  ![v1466.toNat, 960, 0]
def k0_off278 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c896_i32_1588 : BitVec 32 := 896#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1434 : BitVec 32 := 8#32
  let v1467 : BitVec 32 := Scalar.muli v611 c8_i32_1434
  let c0_i32_905 : BitVec 32 := 0#32
  let c1_i32_907 : BitVec 32 := 1#32
  let arg20 : BitVec 32 := Scf.iv c0_i32_905 c1_i32_907 k0_t3
  let c1_i32_1431 : BitVec 32 := 1#32
  let v1464 : BitVec 32 := Scalar.addi arg20 c1_i32_1431
  let v1468 : BitVec 32 := Scalar.addi v1467 v1464
  let c0_i32_1589 : BitVec 32 := 0#32
  ![v2.toNat, 896, v1468.toNat, 0]
def k0_off279 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c0_i32_1245 : BitVec 32 := 0#32
  ![v1173.toNat, 0]
def k0_off280 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c0_i32_1246 : BitVec 32 := 0#32
  let c0_i32_1247 : BitVec 32 := 0#32
  ![v1173.toNat, 0, 0]
def k0_off281 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1248 : BitVec 32 := 0#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1244 : BitVec 32 := 8#32
  let v1178 : BitVec 32 := Scalar.muli v611 c8_i32_1244
  let c0_i32_905 : BitVec 32 := 0#32
  let c1_i32_907 : BitVec 32 := 1#32
  let arg20 : BitVec 32 := Scf.iv c0_i32_905 c1_i32_907 k0_t3
  let v1179 : BitVec 32 := Scalar.addi v1178 arg20
  let c0_i32_1249 : BitVec 32 := 0#32
  ![v2.toNat, 0, v1179.toNat, 0]
def k0_off282 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c1_i32_1255 : BitVec 32 := 1#32
  ![v1173.toNat, 1]
def k0_off283 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c64_i32_1256 : BitVec 32 := 64#32
  let c0_i32_1257 : BitVec 32 := 0#32
  ![v1173.toNat, 64, 0]
def k0_off284 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c192_i32_1258 : BitVec 32 := 192#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1244 : BitVec 32 := 8#32
  let v1178 : BitVec 32 := Scalar.muli v611 c8_i32_1244
  let c0_i32_905 : BitVec 32 := 0#32
  let c1_i32_907 : BitVec 32 := 1#32
  let arg20 : BitVec 32 := Scf.iv c0_i32_905 c1_i32_907 k0_t3
  let v1179 : BitVec 32 := Scalar.addi v1178 arg20
  let c0_i32_1259 : BitVec 32 := 0#32
  ![v2.toNat, 192, v1179.toNat, 0]
def k0_off285 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c2_i32_1265 : BitVec 32 := 2#32
  ![v1173.toNat, 2]
def k0_off286 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c128_i32_1266 : BitVec 32 := 128#32
  let c0_i32_1267 : BitVec 32 := 0#32
  ![v1173.toNat, 128, 0]
def k0_off287 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_1268 : BitVec 32 := 384#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1244 : BitVec 32 := 8#32
  let v1178 : BitVec 32 := Scalar.muli v611 c8_i32_1244
  let c0_i32_905 : BitVec 32 := 0#32
  let c1_i32_907 : BitVec 32 := 1#32
  let arg20 : BitVec 32 := Scf.iv c0_i32_905 c1_i32_907 k0_t3
  let v1179 : BitVec 32 := Scalar.addi v1178 arg20
  let c0_i32_1269 : BitVec 32 := 0#32
  ![v2.toNat, 384, v1179.toNat, 0]
def k0_off288 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c3_i32_1275 : BitVec 32 := 3#32
  ![v1173.toNat, 3]
def k0_off289 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c192_i32_1276 : BitVec 32 := 192#32
  let c0_i32_1277 : BitVec 32 := 0#32
  ![v1173.toNat, 192, 0]
def k0_off290 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c576_i32_1278 : BitVec 32 := 576#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1244 : BitVec 32 := 8#32
  let v1178 : BitVec 32 := Scalar.muli v611 c8_i32_1244
  let c0_i32_905 : BitVec 32 := 0#32
  let c1_i32_907 : BitVec 32 := 1#32
  let arg20 : BitVec 32 := Scf.iv c0_i32_905 c1_i32_907 k0_t3
  let v1179 : BitVec 32 := Scalar.addi v1178 arg20
  let c0_i32_1279 : BitVec 32 := 0#32
  ![v2.toNat, 576, v1179.toNat, 0]
def k0_off291 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c4_i32_1285 : BitVec 32 := 4#32
  ![v1173.toNat, 4]
def k0_off292 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c256_i32_1286 : BitVec 32 := 256#32
  let c0_i32_1287 : BitVec 32 := 0#32
  ![v1173.toNat, 256, 0]
def k0_off293 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_1288 : BitVec 32 := 768#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1244 : BitVec 32 := 8#32
  let v1178 : BitVec 32 := Scalar.muli v611 c8_i32_1244
  let c0_i32_905 : BitVec 32 := 0#32
  let c1_i32_907 : BitVec 32 := 1#32
  let arg20 : BitVec 32 := Scf.iv c0_i32_905 c1_i32_907 k0_t3
  let v1179 : BitVec 32 := Scalar.addi v1178 arg20
  let c0_i32_1289 : BitVec 32 := 0#32
  ![v2.toNat, 768, v1179.toNat, 0]
def k0_off294 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c5_i32_1295 : BitVec 32 := 5#32
  ![v1173.toNat, 5]
def k0_off295 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c320_i32_1296 : BitVec 32 := 320#32
  let c0_i32_1297 : BitVec 32 := 0#32
  ![v1173.toNat, 320, 0]
def k0_off296 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c960_i32_1298 : BitVec 32 := 960#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1244 : BitVec 32 := 8#32
  let v1178 : BitVec 32 := Scalar.muli v611 c8_i32_1244
  let c0_i32_905 : BitVec 32 := 0#32
  let c1_i32_907 : BitVec 32 := 1#32
  let arg20 : BitVec 32 := Scf.iv c0_i32_905 c1_i32_907 k0_t3
  let v1179 : BitVec 32 := Scalar.addi v1178 arg20
  let c0_i32_1299 : BitVec 32 := 0#32
  ![v2.toNat, 960, v1179.toNat, 0]
def k0_off297 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c6_i32_1305 : BitVec 32 := 6#32
  ![v1173.toNat, 6]
def k0_off298 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c384_i32_1306 : BitVec 32 := 384#32
  let c0_i32_1307 : BitVec 32 := 0#32
  ![v1173.toNat, 384, 0]
def k0_off299 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_1308 : BitVec 32 := 64#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1244 : BitVec 32 := 8#32
  let v1178 : BitVec 32 := Scalar.muli v611 c8_i32_1244
  let c0_i32_905 : BitVec 32 := 0#32
  let c1_i32_907 : BitVec 32 := 1#32
  let arg20 : BitVec 32 := Scf.iv c0_i32_905 c1_i32_907 k0_t3
  let v1179 : BitVec 32 := Scalar.addi v1178 arg20
  let c0_i32_1309 : BitVec 32 := 0#32
  ![v2.toNat, 64, v1179.toNat, 0]
def k0_off300 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c7_i32_1315 : BitVec 32 := 7#32
  ![v1173.toNat, 7]
def k0_off301 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c448_i32_1316 : BitVec 32 := 448#32
  let c0_i32_1317 : BitVec 32 := 0#32
  ![v1173.toNat, 448, 0]
def k0_off302 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1318 : BitVec 32 := 256#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1244 : BitVec 32 := 8#32
  let v1178 : BitVec 32 := Scalar.muli v611 c8_i32_1244
  let c0_i32_905 : BitVec 32 := 0#32
  let c1_i32_907 : BitVec 32 := 1#32
  let arg20 : BitVec 32 := Scf.iv c0_i32_905 c1_i32_907 k0_t3
  let v1179 : BitVec 32 := Scalar.addi v1178 arg20
  let c0_i32_1319 : BitVec 32 := 0#32
  ![v2.toNat, 256, v1179.toNat, 0]
def k0_off303 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c8_i32_1325 : BitVec 32 := 8#32
  ![v1173.toNat, 8]
def k0_off304 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c512_i32_1326 : BitVec 32 := 512#32
  let c0_i32_1327 : BitVec 32 := 0#32
  ![v1173.toNat, 512, 0]
def k0_off305 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c448_i32_1328 : BitVec 32 := 448#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1244 : BitVec 32 := 8#32
  let v1178 : BitVec 32 := Scalar.muli v611 c8_i32_1244
  let c0_i32_905 : BitVec 32 := 0#32
  let c1_i32_907 : BitVec 32 := 1#32
  let arg20 : BitVec 32 := Scf.iv c0_i32_905 c1_i32_907 k0_t3
  let v1179 : BitVec 32 := Scalar.addi v1178 arg20
  let c0_i32_1329 : BitVec 32 := 0#32
  ![v2.toNat, 448, v1179.toNat, 0]
def k0_off306 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c9_i32_1335 : BitVec 32 := 9#32
  ![v1173.toNat, 9]
def k0_off307 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c576_i32_1336 : BitVec 32 := 576#32
  let c0_i32_1337 : BitVec 32 := 0#32
  ![v1173.toNat, 576, 0]
def k0_off308 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c640_i32_1338 : BitVec 32 := 640#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1244 : BitVec 32 := 8#32
  let v1178 : BitVec 32 := Scalar.muli v611 c8_i32_1244
  let c0_i32_905 : BitVec 32 := 0#32
  let c1_i32_907 : BitVec 32 := 1#32
  let arg20 : BitVec 32 := Scf.iv c0_i32_905 c1_i32_907 k0_t3
  let v1179 : BitVec 32 := Scalar.addi v1178 arg20
  let c0_i32_1339 : BitVec 32 := 0#32
  ![v2.toNat, 640, v1179.toNat, 0]
def k0_off309 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c10_i32_1345 : BitVec 32 := 10#32
  ![v1173.toNat, 10]
def k0_off310 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c640_i32_1346 : BitVec 32 := 640#32
  let c0_i32_1347 : BitVec 32 := 0#32
  ![v1173.toNat, 640, 0]
def k0_off311 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c832_i32_1348 : BitVec 32 := 832#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1244 : BitVec 32 := 8#32
  let v1178 : BitVec 32 := Scalar.muli v611 c8_i32_1244
  let c0_i32_905 : BitVec 32 := 0#32
  let c1_i32_907 : BitVec 32 := 1#32
  let arg20 : BitVec 32 := Scf.iv c0_i32_905 c1_i32_907 k0_t3
  let v1179 : BitVec 32 := Scalar.addi v1178 arg20
  let c0_i32_1349 : BitVec 32 := 0#32
  ![v2.toNat, 832, v1179.toNat, 0]
def k0_off312 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c11_i32_1355 : BitVec 32 := 11#32
  ![v1173.toNat, 11]
def k0_off313 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c704_i32_1356 : BitVec 32 := 704#32
  let c0_i32_1357 : BitVec 32 := 0#32
  ![v1173.toNat, 704, 0]
def k0_off314 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_1358 : BitVec 32 := 128#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1244 : BitVec 32 := 8#32
  let v1178 : BitVec 32 := Scalar.muli v611 c8_i32_1244
  let c0_i32_905 : BitVec 32 := 0#32
  let c1_i32_907 : BitVec 32 := 1#32
  let arg20 : BitVec 32 := Scf.iv c0_i32_905 c1_i32_907 k0_t3
  let v1179 : BitVec 32 := Scalar.addi v1178 arg20
  let c0_i32_1359 : BitVec 32 := 0#32
  ![v2.toNat, 128, v1179.toNat, 0]
def k0_off315 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c12_i32_1365 : BitVec 32 := 12#32
  ![v1173.toNat, 12]
def k0_off316 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c768_i32_1366 : BitVec 32 := 768#32
  let c0_i32_1367 : BitVec 32 := 0#32
  ![v1173.toNat, 768, 0]
def k0_off317 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c320_i32_1368 : BitVec 32 := 320#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1244 : BitVec 32 := 8#32
  let v1178 : BitVec 32 := Scalar.muli v611 c8_i32_1244
  let c0_i32_905 : BitVec 32 := 0#32
  let c1_i32_907 : BitVec 32 := 1#32
  let arg20 : BitVec 32 := Scf.iv c0_i32_905 c1_i32_907 k0_t3
  let v1179 : BitVec 32 := Scalar.addi v1178 arg20
  let c0_i32_1369 : BitVec 32 := 0#32
  ![v2.toNat, 320, v1179.toNat, 0]
def k0_off318 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c13_i32_1375 : BitVec 32 := 13#32
  ![v1173.toNat, 13]
def k0_off319 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c832_i32_1376 : BitVec 32 := 832#32
  let c0_i32_1377 : BitVec 32 := 0#32
  ![v1173.toNat, 832, 0]
def k0_off320 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1378 : BitVec 32 := 512#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1244 : BitVec 32 := 8#32
  let v1178 : BitVec 32 := Scalar.muli v611 c8_i32_1244
  let c0_i32_905 : BitVec 32 := 0#32
  let c1_i32_907 : BitVec 32 := 1#32
  let arg20 : BitVec 32 := Scf.iv c0_i32_905 c1_i32_907 k0_t3
  let v1179 : BitVec 32 := Scalar.addi v1178 arg20
  let c0_i32_1379 : BitVec 32 := 0#32
  ![v2.toNat, 512, v1179.toNat, 0]
def k0_off321 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c14_i32_1385 : BitVec 32 := 14#32
  ![v1173.toNat, 14]
def k0_off322 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c896_i32_1386 : BitVec 32 := 896#32
  let c0_i32_1387 : BitVec 32 := 0#32
  ![v1173.toNat, 896, 0]
def k0_off323 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c704_i32_1388 : BitVec 32 := 704#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1244 : BitVec 32 := 8#32
  let v1178 : BitVec 32 := Scalar.muli v611 c8_i32_1244
  let c0_i32_905 : BitVec 32 := 0#32
  let c1_i32_907 : BitVec 32 := 1#32
  let arg20 : BitVec 32 := Scf.iv c0_i32_905 c1_i32_907 k0_t3
  let v1179 : BitVec 32 := Scalar.addi v1178 arg20
  let c0_i32_1389 : BitVec 32 := 0#32
  ![v2.toNat, 704, v1179.toNat, 0]
def k0_off324 (k0_t3 : Fin k0_t3_loop.trips) : Fin 2 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c15_i32_1395 : BitVec 32 := 15#32
  ![v1173.toNat, 15]
def k0_off325 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let c960_i32_1396 : BitVec 32 := 960#32
  let c0_i32_1397 : BitVec 32 := 0#32
  ![v1173.toNat, 960, 0]
def k0_off326 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c896_i32_1398 : BitVec 32 := 896#32
  let c4_i32_611 : BitVec 32 := 4#32
  let v600 : BitVec 32 := Scalar.addi v2 c4_i32_611
  let c2_i32_612 : BitVec 32 := 2#32
  let v601 : BitVec 32 := Scalar.subi v600 c2_i32_612
  let c4_i32_613 : BitVec 32 := 4#32
  let c0_i32_614 : BitVec 32 := 0#32
  let v602 : BitVec 1 := Scalar.cmpi .eq c4_i32_613 c0_i32_614
  let c1_i32_615 : BitVec 32 := 1#32
  let v603 : BitVec 32 := Scalar.select v602 c1_i32_615 c4_i32_613
  let v604 : BitVec 32 := Scalar.remsi v601 v603
  let c0_i32_617 : BitVec 32 := 0#32
  let v606 : BitVec 1 := Scalar.cmpi .slt v604 c0_i32_617
  let c0_i32_618 : BitVec 32 := 0#32
  let v607 : BitVec 1 := Scalar.cmpi .slt v603 c0_i32_618
  let v608 : BitVec 1 := Scalar.xori v606 v607
  let c0_i32_616 : BitVec 32 := 0#32
  let v605 : BitVec 1 := Scalar.cmpi .ne v604 c0_i32_616
  let v609 : BitVec 1 := Scalar.andi v608 v605
  let v610 : BitVec 32 := Scalar.addi v604 v603
  let v611 : BitVec 32 := Scalar.select v609 v610 v604
  let c8_i32_1244 : BitVec 32 := 8#32
  let v1178 : BitVec 32 := Scalar.muli v611 c8_i32_1244
  let c0_i32_905 : BitVec 32 := 0#32
  let c1_i32_907 : BitVec 32 := 1#32
  let arg20 : BitVec 32 := Scf.iv c0_i32_905 c1_i32_907 k0_t3
  let v1179 : BitVec 32 := Scalar.addi v1178 arg20
  let c0_i32_1399 : BitVec 32 := 0#32
  ![v2.toNat, 896, v1179.toNat, 0]
def k0_off327 (k0_t3 : Fin k0_t3_loop.trips) : Fin 2 → Nat :=
  let c0_1406 : Index := 0#32
  let c0_i32_905 : BitVec 32 := 0#32
  let c1_i32_907 : BitVec 32 := 1#32
  let arg20 : BitVec 32 := Scf.iv c0_i32_905 c1_i32_907 k0_t3
  let c128_i32_1405 : BitVec 32 := 128#32
  let v1372 : BitVec 32 := Scalar.muli arg20 c128_i32_1405
  let v1373 : Index := Scalar.indexCast v1372
  ![0, v1373.toNat]
def k0_off328 (k0_t3 : Fin k0_t3_loop.trips) : Fin 3 → Nat :=
  let c0_i32_905 : BitVec 32 := 0#32
  let c1_i32_907 : BitVec 32 := 1#32
  let arg20 : BitVec 32 := Scf.iv c0_i32_905 c1_i32_907 k0_t3
  let c2_i32_1240 : BitVec 32 := 2#32
  let v1173 : BitVec 32 := Scalar.remsi arg20 c2_i32_1240
  let v1375 : Index := Scalar.indexCast v1173
  let c0_1407 : Index := 0#32
  let c0_1408 : Index := 0#32
  ![v1375.toNat, 0, 0]
def k0_off329 (k0_t3 : Fin k0_t3_loop.trips) : Fin 2 → Nat :=
  let c0_1430 : Index := 0#32
  let c2048_i32 : BitVec 32 := 2048#32
  let c0_i32_905 : BitVec 32 := 0#32
  let c1_i32_907 : BitVec 32 := 1#32
  let arg20 : BitVec 32 := Scf.iv c0_i32_905 c1_i32_907 k0_t3
  let c128_i32_1429 : BitVec 32 := 128#32
  let v1458 : BitVec 32 := Scalar.muli arg20 c128_i32_1429
  let v1459 : BitVec 32 := Scalar.addi c2048_i32 v1458
  let v1460 : Index := Scalar.indexCast v1459
  ![0, v1460.toNat]
@[reducible] def k0_t4_loop : Scf.Loop 32 :=
  let c0_i32_1183 : BitVec 32 := 0#32
  let c8_i32_1184 : BitVec 32 := 8#32
  let v1105 : BitVec 32 := Scalar.addi c0_i32_1183 c8_i32_1184
  let c1_i32_1185 : BitVec 32 := 1#32
  ⟨c0_i32_1183, v1105, c1_i32_1185⟩
def k0_cond4 (k0_t4 : Fin k0_t4_loop.trips) : BitVec 1 :=
  let c0_i32_1183 : BitVec 32 := 0#32
  let c1_i32_1185 : BitVec 32 := 1#32
  let arg20 : BitVec 32 := Scf.iv c0_i32_1183 c1_i32_1185 k0_t4
  let c1_i32_1241 : BitVec 32 := 1#32
  let v1174 : BitVec 32 := Scalar.addi arg20 c1_i32_1241
  let c8_i32_1242 : BitVec 32 := 8#32
  let v1175 : BitVec 1 := Scalar.cmpi .slt v1174 c8_i32_1242
  let v1176 : BitVec 32 := Scalar.extui v1175
  let c0_i32_1243 : BitVec 32 := 0#32
  let v1177 : BitVec 1 := Scalar.cmpi .ne v1176 c0_i32_1243
  v1177

def k0_off330 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c0_i32_1435 : BitVec 32 := 0#32
  ![v1466.toNat, 0]
def k0_off331 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c0_i32_1436 : BitVec 32 := 0#32
  let c0_i32_1437 : BitVec 32 := 0#32
  ![v1466.toNat, 0, 0]
def k0_off332 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1438 : BitVec 32 := 0#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1434 : BitVec 32 := 8#32
  let v1467 : BitVec 32 := Scalar.muli v874 c8_i32_1434
  let c0_i32_1183 : BitVec 32 := 0#32
  let c1_i32_1185 : BitVec 32 := 1#32
  let arg20 : BitVec 32 := Scf.iv c0_i32_1183 c1_i32_1185 k0_t4
  let c1_i32_1431 : BitVec 32 := 1#32
  let v1464 : BitVec 32 := Scalar.addi arg20 c1_i32_1431
  let v1468 : BitVec 32 := Scalar.addi v1467 v1464
  let c0_i32_1439 : BitVec 32 := 0#32
  ![v2.toNat, 0, v1468.toNat, 0]
def k0_off333 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c1_i32_1445 : BitVec 32 := 1#32
  ![v1466.toNat, 1]
def k0_off334 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c64_i32_1446 : BitVec 32 := 64#32
  let c0_i32_1447 : BitVec 32 := 0#32
  ![v1466.toNat, 64, 0]
def k0_off335 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c192_i32_1448 : BitVec 32 := 192#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1434 : BitVec 32 := 8#32
  let v1467 : BitVec 32 := Scalar.muli v874 c8_i32_1434
  let c0_i32_1183 : BitVec 32 := 0#32
  let c1_i32_1185 : BitVec 32 := 1#32
  let arg20 : BitVec 32 := Scf.iv c0_i32_1183 c1_i32_1185 k0_t4
  let c1_i32_1431 : BitVec 32 := 1#32
  let v1464 : BitVec 32 := Scalar.addi arg20 c1_i32_1431
  let v1468 : BitVec 32 := Scalar.addi v1467 v1464
  let c0_i32_1449 : BitVec 32 := 0#32
  ![v2.toNat, 192, v1468.toNat, 0]
def k0_off336 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c2_i32_1455 : BitVec 32 := 2#32
  ![v1466.toNat, 2]
def k0_off337 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c128_i32_1456 : BitVec 32 := 128#32
  let c0_i32_1457 : BitVec 32 := 0#32
  ![v1466.toNat, 128, 0]
def k0_off338 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_1458 : BitVec 32 := 384#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1434 : BitVec 32 := 8#32
  let v1467 : BitVec 32 := Scalar.muli v874 c8_i32_1434
  let c0_i32_1183 : BitVec 32 := 0#32
  let c1_i32_1185 : BitVec 32 := 1#32
  let arg20 : BitVec 32 := Scf.iv c0_i32_1183 c1_i32_1185 k0_t4
  let c1_i32_1431 : BitVec 32 := 1#32
  let v1464 : BitVec 32 := Scalar.addi arg20 c1_i32_1431
  let v1468 : BitVec 32 := Scalar.addi v1467 v1464
  let c0_i32_1459 : BitVec 32 := 0#32
  ![v2.toNat, 384, v1468.toNat, 0]
def k0_off339 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c3_i32_1465 : BitVec 32 := 3#32
  ![v1466.toNat, 3]
def k0_off340 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c192_i32_1466 : BitVec 32 := 192#32
  let c0_i32_1467 : BitVec 32 := 0#32
  ![v1466.toNat, 192, 0]
def k0_off341 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c576_i32_1468 : BitVec 32 := 576#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1434 : BitVec 32 := 8#32
  let v1467 : BitVec 32 := Scalar.muli v874 c8_i32_1434
  let c0_i32_1183 : BitVec 32 := 0#32
  let c1_i32_1185 : BitVec 32 := 1#32
  let arg20 : BitVec 32 := Scf.iv c0_i32_1183 c1_i32_1185 k0_t4
  let c1_i32_1431 : BitVec 32 := 1#32
  let v1464 : BitVec 32 := Scalar.addi arg20 c1_i32_1431
  let v1468 : BitVec 32 := Scalar.addi v1467 v1464
  let c0_i32_1469 : BitVec 32 := 0#32
  ![v2.toNat, 576, v1468.toNat, 0]
def k0_off342 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c4_i32_1475 : BitVec 32 := 4#32
  ![v1466.toNat, 4]
def k0_off343 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c256_i32_1476 : BitVec 32 := 256#32
  let c0_i32_1477 : BitVec 32 := 0#32
  ![v1466.toNat, 256, 0]
def k0_off344 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_1478 : BitVec 32 := 768#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1434 : BitVec 32 := 8#32
  let v1467 : BitVec 32 := Scalar.muli v874 c8_i32_1434
  let c0_i32_1183 : BitVec 32 := 0#32
  let c1_i32_1185 : BitVec 32 := 1#32
  let arg20 : BitVec 32 := Scf.iv c0_i32_1183 c1_i32_1185 k0_t4
  let c1_i32_1431 : BitVec 32 := 1#32
  let v1464 : BitVec 32 := Scalar.addi arg20 c1_i32_1431
  let v1468 : BitVec 32 := Scalar.addi v1467 v1464
  let c0_i32_1479 : BitVec 32 := 0#32
  ![v2.toNat, 768, v1468.toNat, 0]
def k0_off345 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c5_i32_1485 : BitVec 32 := 5#32
  ![v1466.toNat, 5]
def k0_off346 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c320_i32_1486 : BitVec 32 := 320#32
  let c0_i32_1487 : BitVec 32 := 0#32
  ![v1466.toNat, 320, 0]
def k0_off347 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c960_i32_1488 : BitVec 32 := 960#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1434 : BitVec 32 := 8#32
  let v1467 : BitVec 32 := Scalar.muli v874 c8_i32_1434
  let c0_i32_1183 : BitVec 32 := 0#32
  let c1_i32_1185 : BitVec 32 := 1#32
  let arg20 : BitVec 32 := Scf.iv c0_i32_1183 c1_i32_1185 k0_t4
  let c1_i32_1431 : BitVec 32 := 1#32
  let v1464 : BitVec 32 := Scalar.addi arg20 c1_i32_1431
  let v1468 : BitVec 32 := Scalar.addi v1467 v1464
  let c0_i32_1489 : BitVec 32 := 0#32
  ![v2.toNat, 960, v1468.toNat, 0]
def k0_off348 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c6_i32_1495 : BitVec 32 := 6#32
  ![v1466.toNat, 6]
def k0_off349 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c384_i32_1496 : BitVec 32 := 384#32
  let c0_i32_1497 : BitVec 32 := 0#32
  ![v1466.toNat, 384, 0]
def k0_off350 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_1498 : BitVec 32 := 64#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1434 : BitVec 32 := 8#32
  let v1467 : BitVec 32 := Scalar.muli v874 c8_i32_1434
  let c0_i32_1183 : BitVec 32 := 0#32
  let c1_i32_1185 : BitVec 32 := 1#32
  let arg20 : BitVec 32 := Scf.iv c0_i32_1183 c1_i32_1185 k0_t4
  let c1_i32_1431 : BitVec 32 := 1#32
  let v1464 : BitVec 32 := Scalar.addi arg20 c1_i32_1431
  let v1468 : BitVec 32 := Scalar.addi v1467 v1464
  let c0_i32_1499 : BitVec 32 := 0#32
  ![v2.toNat, 64, v1468.toNat, 0]
def k0_off351 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c7_i32_1505 : BitVec 32 := 7#32
  ![v1466.toNat, 7]
def k0_off352 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c448_i32_1506 : BitVec 32 := 448#32
  let c0_i32_1507 : BitVec 32 := 0#32
  ![v1466.toNat, 448, 0]
def k0_off353 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1508 : BitVec 32 := 256#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1434 : BitVec 32 := 8#32
  let v1467 : BitVec 32 := Scalar.muli v874 c8_i32_1434
  let c0_i32_1183 : BitVec 32 := 0#32
  let c1_i32_1185 : BitVec 32 := 1#32
  let arg20 : BitVec 32 := Scf.iv c0_i32_1183 c1_i32_1185 k0_t4
  let c1_i32_1431 : BitVec 32 := 1#32
  let v1464 : BitVec 32 := Scalar.addi arg20 c1_i32_1431
  let v1468 : BitVec 32 := Scalar.addi v1467 v1464
  let c0_i32_1509 : BitVec 32 := 0#32
  ![v2.toNat, 256, v1468.toNat, 0]
def k0_off354 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c8_i32_1515 : BitVec 32 := 8#32
  ![v1466.toNat, 8]
def k0_off355 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c512_i32_1516 : BitVec 32 := 512#32
  let c0_i32_1517 : BitVec 32 := 0#32
  ![v1466.toNat, 512, 0]
def k0_off356 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c448_i32_1518 : BitVec 32 := 448#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1434 : BitVec 32 := 8#32
  let v1467 : BitVec 32 := Scalar.muli v874 c8_i32_1434
  let c0_i32_1183 : BitVec 32 := 0#32
  let c1_i32_1185 : BitVec 32 := 1#32
  let arg20 : BitVec 32 := Scf.iv c0_i32_1183 c1_i32_1185 k0_t4
  let c1_i32_1431 : BitVec 32 := 1#32
  let v1464 : BitVec 32 := Scalar.addi arg20 c1_i32_1431
  let v1468 : BitVec 32 := Scalar.addi v1467 v1464
  let c0_i32_1519 : BitVec 32 := 0#32
  ![v2.toNat, 448, v1468.toNat, 0]
def k0_off357 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c9_i32_1525 : BitVec 32 := 9#32
  ![v1466.toNat, 9]
def k0_off358 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c576_i32_1526 : BitVec 32 := 576#32
  let c0_i32_1527 : BitVec 32 := 0#32
  ![v1466.toNat, 576, 0]
def k0_off359 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c640_i32_1528 : BitVec 32 := 640#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1434 : BitVec 32 := 8#32
  let v1467 : BitVec 32 := Scalar.muli v874 c8_i32_1434
  let c0_i32_1183 : BitVec 32 := 0#32
  let c1_i32_1185 : BitVec 32 := 1#32
  let arg20 : BitVec 32 := Scf.iv c0_i32_1183 c1_i32_1185 k0_t4
  let c1_i32_1431 : BitVec 32 := 1#32
  let v1464 : BitVec 32 := Scalar.addi arg20 c1_i32_1431
  let v1468 : BitVec 32 := Scalar.addi v1467 v1464
  let c0_i32_1529 : BitVec 32 := 0#32
  ![v2.toNat, 640, v1468.toNat, 0]
def k0_off360 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c10_i32_1535 : BitVec 32 := 10#32
  ![v1466.toNat, 10]
def k0_off361 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c640_i32_1536 : BitVec 32 := 640#32
  let c0_i32_1537 : BitVec 32 := 0#32
  ![v1466.toNat, 640, 0]
def k0_off362 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c832_i32_1538 : BitVec 32 := 832#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1434 : BitVec 32 := 8#32
  let v1467 : BitVec 32 := Scalar.muli v874 c8_i32_1434
  let c0_i32_1183 : BitVec 32 := 0#32
  let c1_i32_1185 : BitVec 32 := 1#32
  let arg20 : BitVec 32 := Scf.iv c0_i32_1183 c1_i32_1185 k0_t4
  let c1_i32_1431 : BitVec 32 := 1#32
  let v1464 : BitVec 32 := Scalar.addi arg20 c1_i32_1431
  let v1468 : BitVec 32 := Scalar.addi v1467 v1464
  let c0_i32_1539 : BitVec 32 := 0#32
  ![v2.toNat, 832, v1468.toNat, 0]
def k0_off363 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c11_i32_1545 : BitVec 32 := 11#32
  ![v1466.toNat, 11]
def k0_off364 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c704_i32_1546 : BitVec 32 := 704#32
  let c0_i32_1547 : BitVec 32 := 0#32
  ![v1466.toNat, 704, 0]
def k0_off365 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_1548 : BitVec 32 := 128#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1434 : BitVec 32 := 8#32
  let v1467 : BitVec 32 := Scalar.muli v874 c8_i32_1434
  let c0_i32_1183 : BitVec 32 := 0#32
  let c1_i32_1185 : BitVec 32 := 1#32
  let arg20 : BitVec 32 := Scf.iv c0_i32_1183 c1_i32_1185 k0_t4
  let c1_i32_1431 : BitVec 32 := 1#32
  let v1464 : BitVec 32 := Scalar.addi arg20 c1_i32_1431
  let v1468 : BitVec 32 := Scalar.addi v1467 v1464
  let c0_i32_1549 : BitVec 32 := 0#32
  ![v2.toNat, 128, v1468.toNat, 0]
def k0_off366 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c12_i32_1555 : BitVec 32 := 12#32
  ![v1466.toNat, 12]
def k0_off367 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c768_i32_1556 : BitVec 32 := 768#32
  let c0_i32_1557 : BitVec 32 := 0#32
  ![v1466.toNat, 768, 0]
def k0_off368 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c320_i32_1558 : BitVec 32 := 320#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1434 : BitVec 32 := 8#32
  let v1467 : BitVec 32 := Scalar.muli v874 c8_i32_1434
  let c0_i32_1183 : BitVec 32 := 0#32
  let c1_i32_1185 : BitVec 32 := 1#32
  let arg20 : BitVec 32 := Scf.iv c0_i32_1183 c1_i32_1185 k0_t4
  let c1_i32_1431 : BitVec 32 := 1#32
  let v1464 : BitVec 32 := Scalar.addi arg20 c1_i32_1431
  let v1468 : BitVec 32 := Scalar.addi v1467 v1464
  let c0_i32_1559 : BitVec 32 := 0#32
  ![v2.toNat, 320, v1468.toNat, 0]
def k0_off369 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c13_i32_1565 : BitVec 32 := 13#32
  ![v1466.toNat, 13]
def k0_off370 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c832_i32_1566 : BitVec 32 := 832#32
  let c0_i32_1567 : BitVec 32 := 0#32
  ![v1466.toNat, 832, 0]
def k0_off371 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1568 : BitVec 32 := 512#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1434 : BitVec 32 := 8#32
  let v1467 : BitVec 32 := Scalar.muli v874 c8_i32_1434
  let c0_i32_1183 : BitVec 32 := 0#32
  let c1_i32_1185 : BitVec 32 := 1#32
  let arg20 : BitVec 32 := Scf.iv c0_i32_1183 c1_i32_1185 k0_t4
  let c1_i32_1431 : BitVec 32 := 1#32
  let v1464 : BitVec 32 := Scalar.addi arg20 c1_i32_1431
  let v1468 : BitVec 32 := Scalar.addi v1467 v1464
  let c0_i32_1569 : BitVec 32 := 0#32
  ![v2.toNat, 512, v1468.toNat, 0]
def k0_off372 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c14_i32_1575 : BitVec 32 := 14#32
  ![v1466.toNat, 14]
def k0_off373 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c896_i32_1576 : BitVec 32 := 896#32
  let c0_i32_1577 : BitVec 32 := 0#32
  ![v1466.toNat, 896, 0]
def k0_off374 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c704_i32_1578 : BitVec 32 := 704#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1434 : BitVec 32 := 8#32
  let v1467 : BitVec 32 := Scalar.muli v874 c8_i32_1434
  let c0_i32_1183 : BitVec 32 := 0#32
  let c1_i32_1185 : BitVec 32 := 1#32
  let arg20 : BitVec 32 := Scf.iv c0_i32_1183 c1_i32_1185 k0_t4
  let c1_i32_1431 : BitVec 32 := 1#32
  let v1464 : BitVec 32 := Scalar.addi arg20 c1_i32_1431
  let v1468 : BitVec 32 := Scalar.addi v1467 v1464
  let c0_i32_1579 : BitVec 32 := 0#32
  ![v2.toNat, 704, v1468.toNat, 0]
def k0_off375 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c15_i32_1585 : BitVec 32 := 15#32
  ![v1466.toNat, 15]
def k0_off376 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c1_i32_1432 : BitVec 32 := 1#32
  let v1465 : BitVec 32 := Scalar.addi arg20 c1_i32_1432
  let c2_i32_1433 : BitVec 32 := 2#32
  let v1466 : BitVec 32 := Scalar.remsi v1465 c2_i32_1433
  let c960_i32_1586 : BitVec 32 := 960#32
  let c0_i32_1587 : BitVec 32 := 0#32
  ![v1466.toNat, 960, 0]
def k0_off377 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c896_i32_1588 : BitVec 32 := 896#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1434 : BitVec 32 := 8#32
  let v1467 : BitVec 32 := Scalar.muli v874 c8_i32_1434
  let c0_i32_1183 : BitVec 32 := 0#32
  let c1_i32_1185 : BitVec 32 := 1#32
  let arg20 : BitVec 32 := Scf.iv c0_i32_1183 c1_i32_1185 k0_t4
  let c1_i32_1431 : BitVec 32 := 1#32
  let v1464 : BitVec 32 := Scalar.addi arg20 c1_i32_1431
  let v1468 : BitVec 32 := Scalar.addi v1467 v1464
  let c0_i32_1589 : BitVec 32 := 0#32
  ![v2.toNat, 896, v1468.toNat, 0]
def k0_off378 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c0_i32_1245 : BitVec 32 := 0#32
  ![v1173.toNat, 0]
def k0_off379 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c0_i32_1246 : BitVec 32 := 0#32
  let c0_i32_1247 : BitVec 32 := 0#32
  ![v1173.toNat, 0, 0]
def k0_off380 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1248 : BitVec 32 := 0#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1244 : BitVec 32 := 8#32
  let v1178 : BitVec 32 := Scalar.muli v874 c8_i32_1244
  let c0_i32_1183 : BitVec 32 := 0#32
  let c1_i32_1185 : BitVec 32 := 1#32
  let arg20 : BitVec 32 := Scf.iv c0_i32_1183 c1_i32_1185 k0_t4
  let v1179 : BitVec 32 := Scalar.addi v1178 arg20
  let c0_i32_1249 : BitVec 32 := 0#32
  ![v2.toNat, 0, v1179.toNat, 0]
def k0_off381 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c1_i32_1255 : BitVec 32 := 1#32
  ![v1173.toNat, 1]
def k0_off382 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c64_i32_1256 : BitVec 32 := 64#32
  let c0_i32_1257 : BitVec 32 := 0#32
  ![v1173.toNat, 64, 0]
def k0_off383 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c192_i32_1258 : BitVec 32 := 192#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1244 : BitVec 32 := 8#32
  let v1178 : BitVec 32 := Scalar.muli v874 c8_i32_1244
  let c0_i32_1183 : BitVec 32 := 0#32
  let c1_i32_1185 : BitVec 32 := 1#32
  let arg20 : BitVec 32 := Scf.iv c0_i32_1183 c1_i32_1185 k0_t4
  let v1179 : BitVec 32 := Scalar.addi v1178 arg20
  let c0_i32_1259 : BitVec 32 := 0#32
  ![v2.toNat, 192, v1179.toNat, 0]
def k0_off384 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c2_i32_1265 : BitVec 32 := 2#32
  ![v1173.toNat, 2]
def k0_off385 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c128_i32_1266 : BitVec 32 := 128#32
  let c0_i32_1267 : BitVec 32 := 0#32
  ![v1173.toNat, 128, 0]
def k0_off386 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_1268 : BitVec 32 := 384#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1244 : BitVec 32 := 8#32
  let v1178 : BitVec 32 := Scalar.muli v874 c8_i32_1244
  let c0_i32_1183 : BitVec 32 := 0#32
  let c1_i32_1185 : BitVec 32 := 1#32
  let arg20 : BitVec 32 := Scf.iv c0_i32_1183 c1_i32_1185 k0_t4
  let v1179 : BitVec 32 := Scalar.addi v1178 arg20
  let c0_i32_1269 : BitVec 32 := 0#32
  ![v2.toNat, 384, v1179.toNat, 0]
def k0_off387 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c3_i32_1275 : BitVec 32 := 3#32
  ![v1173.toNat, 3]
def k0_off388 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c192_i32_1276 : BitVec 32 := 192#32
  let c0_i32_1277 : BitVec 32 := 0#32
  ![v1173.toNat, 192, 0]
def k0_off389 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c576_i32_1278 : BitVec 32 := 576#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1244 : BitVec 32 := 8#32
  let v1178 : BitVec 32 := Scalar.muli v874 c8_i32_1244
  let c0_i32_1183 : BitVec 32 := 0#32
  let c1_i32_1185 : BitVec 32 := 1#32
  let arg20 : BitVec 32 := Scf.iv c0_i32_1183 c1_i32_1185 k0_t4
  let v1179 : BitVec 32 := Scalar.addi v1178 arg20
  let c0_i32_1279 : BitVec 32 := 0#32
  ![v2.toNat, 576, v1179.toNat, 0]
def k0_off390 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c4_i32_1285 : BitVec 32 := 4#32
  ![v1173.toNat, 4]
def k0_off391 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c256_i32_1286 : BitVec 32 := 256#32
  let c0_i32_1287 : BitVec 32 := 0#32
  ![v1173.toNat, 256, 0]
def k0_off392 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_1288 : BitVec 32 := 768#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1244 : BitVec 32 := 8#32
  let v1178 : BitVec 32 := Scalar.muli v874 c8_i32_1244
  let c0_i32_1183 : BitVec 32 := 0#32
  let c1_i32_1185 : BitVec 32 := 1#32
  let arg20 : BitVec 32 := Scf.iv c0_i32_1183 c1_i32_1185 k0_t4
  let v1179 : BitVec 32 := Scalar.addi v1178 arg20
  let c0_i32_1289 : BitVec 32 := 0#32
  ![v2.toNat, 768, v1179.toNat, 0]
def k0_off393 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c5_i32_1295 : BitVec 32 := 5#32
  ![v1173.toNat, 5]
def k0_off394 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c320_i32_1296 : BitVec 32 := 320#32
  let c0_i32_1297 : BitVec 32 := 0#32
  ![v1173.toNat, 320, 0]
def k0_off395 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c960_i32_1298 : BitVec 32 := 960#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1244 : BitVec 32 := 8#32
  let v1178 : BitVec 32 := Scalar.muli v874 c8_i32_1244
  let c0_i32_1183 : BitVec 32 := 0#32
  let c1_i32_1185 : BitVec 32 := 1#32
  let arg20 : BitVec 32 := Scf.iv c0_i32_1183 c1_i32_1185 k0_t4
  let v1179 : BitVec 32 := Scalar.addi v1178 arg20
  let c0_i32_1299 : BitVec 32 := 0#32
  ![v2.toNat, 960, v1179.toNat, 0]
def k0_off396 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c6_i32_1305 : BitVec 32 := 6#32
  ![v1173.toNat, 6]
def k0_off397 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c384_i32_1306 : BitVec 32 := 384#32
  let c0_i32_1307 : BitVec 32 := 0#32
  ![v1173.toNat, 384, 0]
def k0_off398 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_1308 : BitVec 32 := 64#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1244 : BitVec 32 := 8#32
  let v1178 : BitVec 32 := Scalar.muli v874 c8_i32_1244
  let c0_i32_1183 : BitVec 32 := 0#32
  let c1_i32_1185 : BitVec 32 := 1#32
  let arg20 : BitVec 32 := Scf.iv c0_i32_1183 c1_i32_1185 k0_t4
  let v1179 : BitVec 32 := Scalar.addi v1178 arg20
  let c0_i32_1309 : BitVec 32 := 0#32
  ![v2.toNat, 64, v1179.toNat, 0]
def k0_off399 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c7_i32_1315 : BitVec 32 := 7#32
  ![v1173.toNat, 7]
def k0_off400 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c448_i32_1316 : BitVec 32 := 448#32
  let c0_i32_1317 : BitVec 32 := 0#32
  ![v1173.toNat, 448, 0]
def k0_off401 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1318 : BitVec 32 := 256#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1244 : BitVec 32 := 8#32
  let v1178 : BitVec 32 := Scalar.muli v874 c8_i32_1244
  let c0_i32_1183 : BitVec 32 := 0#32
  let c1_i32_1185 : BitVec 32 := 1#32
  let arg20 : BitVec 32 := Scf.iv c0_i32_1183 c1_i32_1185 k0_t4
  let v1179 : BitVec 32 := Scalar.addi v1178 arg20
  let c0_i32_1319 : BitVec 32 := 0#32
  ![v2.toNat, 256, v1179.toNat, 0]
def k0_off402 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c8_i32_1325 : BitVec 32 := 8#32
  ![v1173.toNat, 8]
def k0_off403 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c512_i32_1326 : BitVec 32 := 512#32
  let c0_i32_1327 : BitVec 32 := 0#32
  ![v1173.toNat, 512, 0]
def k0_off404 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c448_i32_1328 : BitVec 32 := 448#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1244 : BitVec 32 := 8#32
  let v1178 : BitVec 32 := Scalar.muli v874 c8_i32_1244
  let c0_i32_1183 : BitVec 32 := 0#32
  let c1_i32_1185 : BitVec 32 := 1#32
  let arg20 : BitVec 32 := Scf.iv c0_i32_1183 c1_i32_1185 k0_t4
  let v1179 : BitVec 32 := Scalar.addi v1178 arg20
  let c0_i32_1329 : BitVec 32 := 0#32
  ![v2.toNat, 448, v1179.toNat, 0]
def k0_off405 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c9_i32_1335 : BitVec 32 := 9#32
  ![v1173.toNat, 9]
def k0_off406 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c576_i32_1336 : BitVec 32 := 576#32
  let c0_i32_1337 : BitVec 32 := 0#32
  ![v1173.toNat, 576, 0]
def k0_off407 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c640_i32_1338 : BitVec 32 := 640#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1244 : BitVec 32 := 8#32
  let v1178 : BitVec 32 := Scalar.muli v874 c8_i32_1244
  let c0_i32_1183 : BitVec 32 := 0#32
  let c1_i32_1185 : BitVec 32 := 1#32
  let arg20 : BitVec 32 := Scf.iv c0_i32_1183 c1_i32_1185 k0_t4
  let v1179 : BitVec 32 := Scalar.addi v1178 arg20
  let c0_i32_1339 : BitVec 32 := 0#32
  ![v2.toNat, 640, v1179.toNat, 0]
def k0_off408 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c10_i32_1345 : BitVec 32 := 10#32
  ![v1173.toNat, 10]
def k0_off409 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c640_i32_1346 : BitVec 32 := 640#32
  let c0_i32_1347 : BitVec 32 := 0#32
  ![v1173.toNat, 640, 0]
def k0_off410 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c832_i32_1348 : BitVec 32 := 832#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1244 : BitVec 32 := 8#32
  let v1178 : BitVec 32 := Scalar.muli v874 c8_i32_1244
  let c0_i32_1183 : BitVec 32 := 0#32
  let c1_i32_1185 : BitVec 32 := 1#32
  let arg20 : BitVec 32 := Scf.iv c0_i32_1183 c1_i32_1185 k0_t4
  let v1179 : BitVec 32 := Scalar.addi v1178 arg20
  let c0_i32_1349 : BitVec 32 := 0#32
  ![v2.toNat, 832, v1179.toNat, 0]
def k0_off411 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c11_i32_1355 : BitVec 32 := 11#32
  ![v1173.toNat, 11]
def k0_off412 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c704_i32_1356 : BitVec 32 := 704#32
  let c0_i32_1357 : BitVec 32 := 0#32
  ![v1173.toNat, 704, 0]
def k0_off413 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_1358 : BitVec 32 := 128#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1244 : BitVec 32 := 8#32
  let v1178 : BitVec 32 := Scalar.muli v874 c8_i32_1244
  let c0_i32_1183 : BitVec 32 := 0#32
  let c1_i32_1185 : BitVec 32 := 1#32
  let arg20 : BitVec 32 := Scf.iv c0_i32_1183 c1_i32_1185 k0_t4
  let v1179 : BitVec 32 := Scalar.addi v1178 arg20
  let c0_i32_1359 : BitVec 32 := 0#32
  ![v2.toNat, 128, v1179.toNat, 0]
def k0_off414 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c12_i32_1365 : BitVec 32 := 12#32
  ![v1173.toNat, 12]
def k0_off415 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c768_i32_1366 : BitVec 32 := 768#32
  let c0_i32_1367 : BitVec 32 := 0#32
  ![v1173.toNat, 768, 0]
def k0_off416 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c320_i32_1368 : BitVec 32 := 320#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1244 : BitVec 32 := 8#32
  let v1178 : BitVec 32 := Scalar.muli v874 c8_i32_1244
  let c0_i32_1183 : BitVec 32 := 0#32
  let c1_i32_1185 : BitVec 32 := 1#32
  let arg20 : BitVec 32 := Scf.iv c0_i32_1183 c1_i32_1185 k0_t4
  let v1179 : BitVec 32 := Scalar.addi v1178 arg20
  let c0_i32_1369 : BitVec 32 := 0#32
  ![v2.toNat, 320, v1179.toNat, 0]
def k0_off417 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c13_i32_1375 : BitVec 32 := 13#32
  ![v1173.toNat, 13]
def k0_off418 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c832_i32_1376 : BitVec 32 := 832#32
  let c0_i32_1377 : BitVec 32 := 0#32
  ![v1173.toNat, 832, 0]
def k0_off419 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1378 : BitVec 32 := 512#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1244 : BitVec 32 := 8#32
  let v1178 : BitVec 32 := Scalar.muli v874 c8_i32_1244
  let c0_i32_1183 : BitVec 32 := 0#32
  let c1_i32_1185 : BitVec 32 := 1#32
  let arg20 : BitVec 32 := Scf.iv c0_i32_1183 c1_i32_1185 k0_t4
  let v1179 : BitVec 32 := Scalar.addi v1178 arg20
  let c0_i32_1379 : BitVec 32 := 0#32
  ![v2.toNat, 512, v1179.toNat, 0]
def k0_off420 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c14_i32_1385 : BitVec 32 := 14#32
  ![v1173.toNat, 14]
def k0_off421 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c896_i32_1386 : BitVec 32 := 896#32
  let c0_i32_1387 : BitVec 32 := 0#32
  ![v1173.toNat, 896, 0]
def k0_off422 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c704_i32_1388 : BitVec 32 := 704#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1244 : BitVec 32 := 8#32
  let v1178 : BitVec 32 := Scalar.muli v874 c8_i32_1244
  let c0_i32_1183 : BitVec 32 := 0#32
  let c1_i32_1185 : BitVec 32 := 1#32
  let arg20 : BitVec 32 := Scf.iv c0_i32_1183 c1_i32_1185 k0_t4
  let v1179 : BitVec 32 := Scalar.addi v1178 arg20
  let c0_i32_1389 : BitVec 32 := 0#32
  ![v2.toNat, 704, v1179.toNat, 0]
def k0_off423 (k0_t4 : Fin k0_t4_loop.trips) : Fin 2 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c15_i32_1395 : BitVec 32 := 15#32
  ![v1173.toNat, 15]
def k0_off424 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let c960_i32_1396 : BitVec 32 := 960#32
  let c0_i32_1397 : BitVec 32 := 0#32
  ![v1173.toNat, 960, 0]
def k0_off425 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c896_i32_1398 : BitVec 32 := 896#32
  let c4_i32_909 : BitVec 32 := 4#32
  let v863 : BitVec 32 := Scalar.addi v2 c4_i32_909
  let c3_i32_910 : BitVec 32 := 3#32
  let v864 : BitVec 32 := Scalar.subi v863 c3_i32_910
  let c4_i32_911 : BitVec 32 := 4#32
  let c0_i32_912 : BitVec 32 := 0#32
  let v865 : BitVec 1 := Scalar.cmpi .eq c4_i32_911 c0_i32_912
  let c1_i32_913 : BitVec 32 := 1#32
  let v866 : BitVec 32 := Scalar.select v865 c1_i32_913 c4_i32_911
  let v867 : BitVec 32 := Scalar.remsi v864 v866
  let c0_i32_915 : BitVec 32 := 0#32
  let v869 : BitVec 1 := Scalar.cmpi .slt v867 c0_i32_915
  let c0_i32_916 : BitVec 32 := 0#32
  let v870 : BitVec 1 := Scalar.cmpi .slt v866 c0_i32_916
  let v871 : BitVec 1 := Scalar.xori v869 v870
  let c0_i32_914 : BitVec 32 := 0#32
  let v868 : BitVec 1 := Scalar.cmpi .ne v867 c0_i32_914
  let v872 : BitVec 1 := Scalar.andi v871 v868
  let v873 : BitVec 32 := Scalar.addi v867 v866
  let v874 : BitVec 32 := Scalar.select v872 v873 v867
  let c8_i32_1244 : BitVec 32 := 8#32
  let v1178 : BitVec 32 := Scalar.muli v874 c8_i32_1244
  let c0_i32_1183 : BitVec 32 := 0#32
  let c1_i32_1185 : BitVec 32 := 1#32
  let arg20 : BitVec 32 := Scf.iv c0_i32_1183 c1_i32_1185 k0_t4
  let v1179 : BitVec 32 := Scalar.addi v1178 arg20
  let c0_i32_1399 : BitVec 32 := 0#32
  ![v2.toNat, 896, v1179.toNat, 0]
def k0_off426 (k0_t4 : Fin k0_t4_loop.trips) : Fin 2 → Nat :=
  let c0_1406 : Index := 0#32
  let c0_i32_1183 : BitVec 32 := 0#32
  let c1_i32_1185 : BitVec 32 := 1#32
  let arg20 : BitVec 32 := Scf.iv c0_i32_1183 c1_i32_1185 k0_t4
  let c128_i32_1405 : BitVec 32 := 128#32
  let v1372 : BitVec 32 := Scalar.muli arg20 c128_i32_1405
  let v1373 : Index := Scalar.indexCast v1372
  ![0, v1373.toNat]
def k0_off427 (k0_t4 : Fin k0_t4_loop.trips) : Fin 3 → Nat :=
  let c0_i32_1183 : BitVec 32 := 0#32
  let c1_i32_1185 : BitVec 32 := 1#32
  let arg20 : BitVec 32 := Scf.iv c0_i32_1183 c1_i32_1185 k0_t4
  let c2_i32_1240 : BitVec 32 := 2#32
  let v1173 : BitVec 32 := Scalar.remsi arg20 c2_i32_1240
  let v1375 : Index := Scalar.indexCast v1173
  let c0_1407 : Index := 0#32
  let c0_1408 : Index := 0#32
  ![v1375.toNat, 0, 0]
def k0_off428 (k0_t4 : Fin k0_t4_loop.trips) : Fin 2 → Nat :=
  let c0_1430 : Index := 0#32
  let c3072_i32 : BitVec 32 := 3072#32
  let c0_i32_1183 : BitVec 32 := 0#32
  let c1_i32_1185 : BitVec 32 := 1#32
  let arg20 : BitVec 32 := Scf.iv c0_i32_1183 c1_i32_1185 k0_t4
  let c128_i32_1429 : BitVec 32 := 128#32
  let v1458 : BitVec 32 := Scalar.muli arg20 c128_i32_1429
  let v1459 : BitVec 32 := Scalar.addi c3072_i32 v1458
  let v1460 : Index := Scalar.indexCast v1459
  ![0, v1460.toNat]
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x1024x1024 : Shape := ⟨3, ![4, 1024, 1024]⟩
abbrev S1024x4096 : Shape := ⟨2, ![1024, 4096]⟩
abbrev S4x1024x32x128 : Shape := ⟨4, ![4, 1024, 32, 128]⟩
abbrev S4096x1024 : Shape := ⟨2, ![4096, 1024]⟩
abbrev S4x1024x4096 : Shape := ⟨3, ![4, 1024, 4096]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S4x32x1024x1024 : Shape := ⟨4, ![4, 32, 1024, 1024]⟩
abbrev S1x1x1024x1024 : Shape := ⟨4, ![1, 1, 1024, 1024]⟩
abbrev S4x32x1024 : Shape := ⟨3, ![4, 32, 1024]⟩
abbrev S4x32x1024x1 : Shape := ⟨4, ![4, 32, 1024, 1]⟩
abbrev S1x1x1024x1 : Shape := ⟨4, ![1, 1, 1024, 1]⟩
abbrev S4x32x128x1024 : Shape := ⟨4, ![4, 32, 128, 1024]⟩

abbrev nBuf : Space → Nat
  | .hbm => 126
  | .vmem => 0
  | .smem => 0
  | _ => 0

abbrev bufTy : (tb : Table) → Fin (tcTables nBuf tb) → BufTy
  | .hbm, ⟨0, _⟩ => ⟨S4x1024x1024, .bf16⟩
  | .hbm, ⟨1, _⟩ => ⟨S1024x4096, .bf16⟩
  | .hbm, ⟨2, _⟩ => ⟨S4x1024x32x128, .f32⟩
  | .hbm, ⟨3, _⟩ => ⟨S4x1024x32x128, .f32⟩
  | .hbm, ⟨4, _⟩ => ⟨S4096x1024, .bf16⟩
  | .hbm, ⟨5, _⟩ => ⟨S4x1024x1024, .f32⟩
  | .hbm, ⟨6, _⟩ => ⟨S1024x4096, .f32⟩
  | .hbm, ⟨7, _⟩ => ⟨S4096x1024, .f32⟩
  | .hbm, ⟨8, _⟩ => ⟨S4x1024x4096, .f32⟩
  | .hbm, ⟨9, _⟩ => ⟨S4x1024x32x128, .f32⟩
  | .hbm, ⟨10, _⟩ => ⟨S1024, .i32⟩
  | .hbm, ⟨11, _⟩ => ⟨S_, .i32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S1024, .i1⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S1024, .i32⟩
  | .hbm, ⟨29, _⟩ => ⟨S1024x1, .i32⟩
  | .hbm, ⟨30, _⟩ => ⟨S1024, .i32⟩
  | .hbm, ⟨31, _⟩ => ⟨S_, .i32⟩
  | .hbm, ⟨32, _⟩ => ⟨S_, .i32⟩
  | .hbm, ⟨33, _⟩ => ⟨S1024, .i32⟩
  | .hbm, ⟨34, _⟩ => ⟨S1024, .i32⟩
  | .hbm, ⟨35, _⟩ => ⟨S1024, .i32⟩
  | .hbm, ⟨36, _⟩ => ⟨S_, .i32⟩
  | .hbm, ⟨37, _⟩ => ⟨S1024, .i32⟩
  | .hbm, ⟨38, _⟩ => ⟨S1024, .i1⟩
  | .hbm, ⟨39, _⟩ => ⟨S1024, .i32⟩
  | .hbm, ⟨40, _⟩ => ⟨S1024, .i32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S1024, .i1⟩
  | .hbm, ⟨45, _⟩ => ⟨S_, .i32⟩
  | .hbm, ⟨46, _⟩ => ⟨S1024, .i32⟩
  | .hbm, ⟨47, _⟩ => ⟨S1024, .i32⟩
  | .hbm, ⟨48, _⟩ => ⟨S1024, .i32⟩
  | .hbm, ⟨49, _⟩ => ⟨S1x1024, .i32⟩
  | .hbm, ⟨50, _⟩ => ⟨S1024x1024, .i32⟩
  | .hbm, ⟨51, _⟩ => ⟨S1024x1024, .i32⟩
  | .hbm, ⟨52, _⟩ => ⟨S1024x1024, .i1⟩
  | .hbm, ⟨53, _⟩ => ⟨S_, .i32⟩
  | .hbm, ⟨54, _⟩ => ⟨S1x1024, .i32⟩
  | .hbm, ⟨55, _⟩ => ⟨S1x1024, .i1⟩
  | .hbm, ⟨56, _⟩ => ⟨S1024x1024, .i1⟩
  | .hbm, ⟨57, _⟩ => ⟨S1024x1024, .i1⟩
  | .hbm, ⟨58, _⟩ => ⟨S1024x1024, .i32⟩
  | .hbm, ⟨59, _⟩ => ⟨S1024x1024, .i32⟩
  | .hbm, ⟨60, _⟩ => ⟨S1024x1024, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S1024x1024, .i32⟩
  | .hbm, ⟨68, _⟩ => ⟨S1024x1024, .i32⟩
  | .hbm, ⟨69, _⟩ => ⟨S_, .i32⟩
  | .hbm, ⟨70, _⟩ => ⟨S1024x1024, .i32⟩
  | .hbm, ⟨71, _⟩ => ⟨S1024x1024, .i1⟩
  | .hbm, ⟨72, _⟩ => ⟨S_, .i32⟩
  | .hbm, ⟨73, _⟩ => ⟨S1024x1024, .i32⟩
  | .hbm, ⟨74, _⟩ => ⟨S1024x1024, .i1⟩
  | .hbm, ⟨75, _⟩ => ⟨S_, .i32⟩
  | .hbm, ⟨76, _⟩ => ⟨S_, .i1⟩
  | .hbm, ⟨77, _⟩ => ⟨S1024x1024, .i1⟩
  | .hbm, ⟨78, _⟩ => ⟨S1024x1024, .i1⟩
  | .hbm, ⟨79, _⟩ => ⟨S1024x1024, .i1⟩
  | .hbm, ⟨80, _⟩ => ⟨S1024x1024, .i32⟩
  | .hbm, ⟨81, _⟩ => ⟨S1024x1024, .i32⟩
  | .hbm, ⟨82, _⟩ => ⟨S1024x1024, .i32⟩
  | .hbm, ⟨83, _⟩ => ⟨S_, .i32⟩
  | .hbm, ⟨84, _⟩ => ⟨S1024x1024, .i32⟩
  | .hbm, ⟨85, _⟩ => ⟨S1024x1024, .i1⟩
  | .hbm, ⟨86, _⟩ => ⟨S1024x1024, .i1⟩
  | .hbm, ⟨87, _⟩ => ⟨S4x32x1024x1024, .f32⟩
  | .hbm, ⟨88, _⟩ => ⟨S_, .f32⟩
  | .hbm, ⟨89, _⟩ => ⟨S4x32x1024x1024, .f32⟩
  | .hbm, ⟨90, _⟩ => ⟨S4x32x1024x1024, .f32⟩
  | .hbm, ⟨91, _⟩ => ⟨S1x1x1024x1024, .i1⟩
  | .hbm, ⟨92, _⟩ => ⟨S_, .f32⟩
  | .hbm, ⟨93, _⟩ => ⟨S_, .f32⟩
  | .hbm, ⟨94, _⟩ => ⟨S4x32x1024x1024, .i1⟩
  | .hbm, ⟨95, _⟩ => ⟨S4x32x1024x1024, .f32⟩
  | .hbm, ⟨96, _⟩ => ⟨S4x32x1024x1024, .f32⟩
  | .hbm, ⟨97, _⟩ => ⟨S_, .f32⟩
  | .hbm, ⟨98, _⟩ => ⟨S4x32x1024, .f32⟩
  | .hbm, ⟨99, _⟩ => ⟨S4x32x1024x1, .f32⟩
  | .hbm, ⟨100, _⟩ => ⟨S4x32x1024x1024, .f32⟩
  | .hbm, ⟨101, _⟩ => ⟨S4x32x1024x1024, .f32⟩
  | .hbm, ⟨102, _⟩ => ⟨S4x32x1024x1024, .f32⟩
  | .hbm, ⟨103, _⟩ => ⟨S_, .i1⟩
  | .hbm, ⟨104, _⟩ => ⟨S1024, .i1⟩
  | .hbm, ⟨105, _⟩ => ⟨S1x1x1024x1, .i1⟩
  | .hbm, ⟨106, _⟩ => ⟨S_, .f32⟩
  | .hbm, ⟨107, _⟩ => ⟨S4x32x1024, .f32⟩
  | .hbm, ⟨108, _⟩ => ⟨S4x32x1024x1, .f32⟩
  | .hbm, ⟨109, _⟩ => ⟨S_, .f32⟩
  | .hbm, ⟨110, _⟩ => ⟨S_, .f32⟩
  | .hbm, ⟨111, _⟩ => ⟨S4x32x1024x1, .i1⟩
  | .hbm, ⟨112, _⟩ => ⟨S4x32x1024x1, .f32⟩
  | .hbm, ⟨113, _⟩ => ⟨S4x32x1024x1, .f32⟩
  | .hbm, ⟨114, _⟩ => ⟨S4x32x1024x1024, .f32⟩
  | .hbm, ⟨115, _⟩ => ⟨S4x32x1024x1024, .f32⟩
  | .hbm, ⟨116, _⟩ => ⟨S1x1x1024x1, .i1⟩
  | .hbm, ⟨117, _⟩ => ⟨S_, .f32⟩
  | .hbm, ⟨118, _⟩ => ⟨S_, .f32⟩
  | .hbm, ⟨119, _⟩ => ⟨S4x32x1024x1024, .i1⟩
  | .hbm, ⟨120, _⟩ => ⟨S4x32x1024x1024, .f32⟩
  | .hbm, ⟨121, _⟩ => ⟨S4x32x1024x1024, .f32⟩
  | .hbm, ⟨122, _⟩ => ⟨S4x32x128x1024, .f32⟩
  | .hbm, ⟨123, _⟩ => ⟨S4x1024x32x128, .f32⟩
  | .hbm, ⟨124, _⟩ => ⟨S4x1024x4096, .f32⟩
  | .hbm, ⟨125, _⟩ => ⟨S4x1024x1024, .f32⟩
  | _, _ => ⟨S4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_c_1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_c_2 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_1 : Ref sig .tc := ⟨.hbm, 69, rfl⟩
abbrev main_call2_v5 : Ref sig .tc := ⟨.hbm, 70, rfl⟩
abbrev main_call2_v6 : Ref sig .tc := ⟨.hbm, 71, rfl⟩
abbrev main_call2_c_2 : Ref sig .tc := ⟨.hbm, 72, rfl⟩
abbrev main_call2_v7 : Ref sig .tc := ⟨.hbm, 73, rfl⟩
abbrev main_call2_v8 : Ref sig .tc := ⟨.hbm, 74, rfl⟩
abbrev main_call2_c_3 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_v21 : Ref sig .tc := ⟨.hbm, 82, rfl⟩
abbrev main_c_3 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v29 : Ref sig .tc := ⟨.hbm, 96, rfl⟩
abbrev main_cst_5 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_c_6 : Ref sig .tc := ⟨.hbm, 103, rfl⟩
abbrev main_v35 : Ref sig .tc := ⟨.hbm, 104, rfl⟩
abbrev main_v36 : Ref sig .tc := ⟨.hbm, 105, rfl⟩
abbrev main_cst_7 : Ref sig .tc := ⟨.hbm, 106, rfl⟩
abbrev main_v37 : Ref sig .tc := ⟨.hbm, 107, rfl⟩
abbrev main_v38 : Ref sig .tc := ⟨.hbm, 108, rfl⟩
abbrev main_cst_8 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_cst_9 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩

abbrev nD : Nat := 1
abbrev τ : Topo := Topo.v7x

variable {F : FTy → Type} [FloatOps F]
-- ==== Proof.Families.lean ====
/-
# The kernel's body, written once in closed form

The printed body of the kernel is long: the copies of the K and V tiles are written out one by one, in four
counted loops and in four straight stretches. This file writes the same program with the copies as lists over
their closed offsets (`fam`) and proves that the printed program equals it (`body_eq`, `loop1_eq` … `loop4_eq`).
-/
module

public import proofs.«01_k».proof.Proof.Gen.KernelIdeal.Skeleton
public import proofs.«01_k».proof.Proof.Gen.KernelIdeal.Launch
public import Idealize.ShloMosaic.Lib.Pipeline.Regions

@[expose] public section

set_option maxRecDepth 65536

noncomputable section

namespace Cert.RingAttn

open Cert.KernelIdeal Cert.KernelIdeal.Gen
open Idealize.ShloMosaic Idealize.ShloMosaic.TcCoe Idealize.SL.Sem
open Idealize.ShloMosaic.Pipeline (chain)

variable {F : FTy → Type} [FloatOps F]

/-- The kernel's programs. -/
abbrev Pg (F : FTy → Type) [FloatOps F] (α : Type) : Type 1 := Prog (TpuEff nD τ sig (Elt F) Λ₀ .tc) α

/-! ## The buffers -/

abbrev mX : Memref sig .tc .vmem S1x1024x1024 .bf16 := Memref.whole cc0_stg0_0
abbrev mWq : Memref sig .tc .vmem S1024x1024 .bf16 := Memref.whole cc0_stg1_0
abbrev mWo : Memref sig .tc .vmem S1024x1024 .bf16 := Memref.whole cc0_stg2_0
abbrev mOut : Memref sig .tc .vmem S1x1024x1024 .f32 := Memref.whole cc0_stg3_0
abbrev mQB : Memref sig .tc .vmem S3x1024x1024 .bf16 := Memref.whole cc0_scratch0
abbrev mOB : Memref sig .tc .vmem S3x1024x1024 .bf16 := Memref.whole cc0_scratch1
abbrev mXp : Memref sig .tc .vmem S1024x1024 .bf16 := Memref.whole cc0_scratch2
abbrev mQ : Memref sig .tc .vmem S1024x1024 .bf16 := Memref.whole cc0_scratch3
abbrev mC : Memref sig .tc .vmem S1024x4096 .bf16 := Memref.whole cc0_scratch4
abbrev mW : Memref sig .tc .vmem S4096x1024 .bf16 := Memref.whole cc0_scratch5

/-- The array copied from: K at `false`, V at `true`. -/
def kvArr : Bool → Memref sig .tc .hbm S4x1024x32x128 .f32
  | false => Memref.whole main_arg2
  | true => Memref.whole main_arg3
/-- The two-slot buffer copied into: K at `false`, V at `true`. -/
def kvBuf : Bool → Memref sig .tc .vmem S2x1024x128 .f32
  | false => Memref.whole cc0_scratch6
  | true => Memref.whole cc0_scratch7
/-- The semaphores the copies pay: K at `false`, V at `true`. -/
def kvSem : Bool → DmaSems sig S2x16
  | false => cc0_scratch8
  | true => cc0_scratch9

/-- The block of 64 rows that stands at place `i`: the blocks by their residue modulo 3. -/
def blk : Fin 16 → ℕ := ![0, 3, 6, 9, 12, 15, 1, 4, 7, 10, 13, 2, 5, 8, 11, 14]

theorem blk_lt : ∀ i, blk i < 16 := by decide

/-! ## Families of copies -/

/-- The offsets of sixteen copies: the semaphore's, the destination tile's and the source tile's. -/
structure Fam where
  so : Fin 16 → Fin 2 → ℕ
  hso : ∀ i a, so i a + S1x1.size a ≤ S2x16.size a
  dof : Fin 16 → Fin 3 → ℕ
  hdof : ∀ i a, dof i a + S1x64x128.size a ≤ S2x1024x128.size a
  co : Fin 16 → Fin 4 → ℕ
  hco : ∀ i a, co i a + S1x64x1x128.size a ≤ S4x1024x32x128.size a

/-- A family restated at equal offsets. -/
def Fam.ofEq (C : Fam) (so : Fin 16 → Fin 2 → ℕ) (dof : Fin 16 → Fin 3 → ℕ) (co : Fin 16 → Fin 4 → ℕ)
    (h₁ : so = C.so) (h₂ : dof = C.dof) (h₃ : co = C.co) : Fam :=
  ⟨so, h₁ ▸ C.hso, dof, h₂ ▸ C.hdof, co, h₃ ▸ C.hco⟩

theorem Fam.ofEq_eq (C : Fam) (so : Fin 16 → Fin 2 → ℕ) (dof : Fin 16 → Fin 3 → ℕ) (co : Fin 16 → Fin 4 → ℕ)
    (h₁ : so = C.so) (h₂ : dof = C.dof) (h₃ : co = C.co) : C.ofEq so dof co h₁ h₂ h₃ = C := by
  subst h₁; subst h₂; subst h₃; rfl

/-- The copies of head `h` of device `d`'s K and V rows into slot `s`: place `i` gets block `blk i`. -/
def fam (s d h : ℕ) (hs : s < 2) (hd : d < 4) (hh : h < 32) : Fam where
  so i := ![s, i.val]
  hso i a := by
    have := i.isLt
    fin_cases a <;> simp [S1x1, S2x16] <;> omega
  dof i := ![s, 64 * i.val, 0]
  hdof i a := by
    have := i.isLt
    fin_cases a <;> simp [S1x64x128, S2x1024x128] <;> omega
  co i := ![d, 64 * blk i, h, 0]
  hco i a := by
    have := blk_lt i
    fin_cases a <;> simp [S1x64x1x128, S4x1024x32x128] <;> omega

/-- Copy `i`'s semaphore. -/
def Fam.sem (C : Fam) (b : Bool) (i : Fin 16) : DmaSem sig :=
  (((kvSem b).slice (Rect.unit (s := S2x16) (C.so i) S1x1.size (C.hso i))).squeeze S_ squeezes_S1x1_S_).sem
/-- Copy `i`'s destination tile. -/
def Fam.dst (C : Fam) (b : Bool) (i : Fin 16) : Memref sig .tc .vmem S64x128 .f32 :=
  ((kvBuf b).slice (Rect.unit (s := S2x1024x128) (C.dof i) S1x64x128.size (C.hdof i)) (fun _ => rfl)).squeeze
    S64x128 squeezes_S1x64x128_S64x128
/-- Copy `i`'s source tile. -/
def Fam.src (C : Fam) (b : Bool) (i : Fin 16) : Memref sig .tc .hbm S64x128 .f32 :=
  ((kvArr b).slice (Rect.unit (s := S4x1024x32x128) (C.co i) S1x64x1x128.size (C.hco i)) (fun _ => rfl)).squeeze
    S64x128 squeezes_S1x64x1x128_S64x128

theorem Fam.src_exact (C : Fam) (b : Bool) (i : Fin 16) : (C.src b i).view.WordExact :=
  (View.wordExact_bits rfl).reshape _ _
theorem Fam.dst_exact (C : Fam) (b : Bool) (i : Fin 16) : (C.dst b i).view.WordExact :=
  (View.wordExact_bits rfl).reshape _ _

/-- The copies of a family in the order the kernel names them: tile by tile, K before V. -/
def order : List (Bool × Fin 16) :=
  [(false, 0), (true, 0), (false, 1), (true, 1), (false, 2), (true, 2), (false, 3), (true, 3), (false, 4), (true, 4), (false, 5), (true, 5), (false, 6), (true, 6), (false, 7), (true, 7), (false, 8), (true, 8), (false, 9), (true, 9), (false, 10), (true, 10), (false, 11), (true, 11), (false, 12), (true, 12), (false, 13), (true, 13), (false, 14), (true, 14), (false, 15), (true, 15)]

/-- Start the listed copies, then go on. -/
def startsK {α : Type} (C : Fam) : List (Bool × Fin 16) → (Unit → Pg F α) → Pg F α
  | [], k => k ⟨⟩
  | x :: l, k => .op (.enqueueDma (C.src x.1 x.2) (.here (C.dst x.1 x.2)) (.dma (C.sem x.1 x.2))
      (C.src_exact x.1 x.2) (C.dst_exact x.1 x.2) ⟨Or.inl rfl, trivial⟩) fun _ => startsK C l k

/-- Wait for the listed copies, then go on. -/
def waitsK {α : Type} (C : Fam) : List (Bool × Fin 16) → (Unit → Pg F α) → Pg F α
  | [], k => k ⟨⟩
  | x :: l, k => .op (.waitDma2 (C.sem x.1 x.2) (C.src x.1 x.2) (C.dst x.1 x.2)
      (C.src_exact x.1 x.2) (C.dst_exact x.1 x.2)) fun _ => waitsK C l k

/-- The device whose heads stage `j` works on. -/
def srcOf (j : ℕ) (d : Dev nD) : ℕ := (d.val + 4 - j) % 4

theorem srcOf_lt (j : ℕ) (d : Dev nD) : srcOf j d < 4 := Nat.mod_lt _ (by omega)

/-- The family of stage `j`'s head `t`. -/
def famT (j : ℕ) (d : Dev nD) (t : ℕ) (ht : t < 8) : Fam :=
  fam (t % 2) d.val (8 * srcOf j d + t) (by omega) d.isLt (by have := srcOf_lt j d; omega)

theorem pre1_so : ∀ t : Fin k0_t1_loop.trips, (![k0_off17 t, k0_off20 t, k0_off23 t, k0_off26 t, k0_off29 t, k0_off32 t, k0_off35 t, k0_off38 t, k0_off41 t, k0_off44 t, k0_off47 t, k0_off50 t, k0_off53 t, k0_off56 t, k0_off59 t, k0_off62 t] : Fin 16 → Fin 2 → ℕ) = fun i => ![(t.val + 1) % 2, i.val] := by
  decide +kernel
theorem pre1_dof : ∀ t : Fin k0_t1_loop.trips, (![k0_off18 t, k0_off21 t, k0_off24 t, k0_off27 t, k0_off30 t, k0_off33 t, k0_off36 t, k0_off39 t, k0_off42 t, k0_off45 t, k0_off48 t, k0_off51 t, k0_off54 t, k0_off57 t, k0_off60 t, k0_off63 t] : Fin 16 → Fin 3 → ℕ) = fun i => ![(t.val + 1) % 2, 64 * i.val, 0] := by
  decide +kernel
theorem pre1_co : ∀ (d : Dev nD) (t : Fin k0_t1_loop.trips), (![k0_off19 d t, k0_off22 d t, k0_off25 d t, k0_off28 d t, k0_off31 d t, k0_off34 d t, k0_off37 d t, k0_off40 d t, k0_off43 d t, k0_off46 d t, k0_off49 d t, k0_off52 d t, k0_off55 d t, k0_off58 d t, k0_off61 d t, k0_off64 d t] : Fin 16 → Fin 4 → ℕ) =
    fun i => ![d.val, 64 * blk i, 8 * srcOf 0 d + (t.val + 1), 0] := by
  decide +kernel
/-- Loop 1's copies of the next head, as printed. -/
def pre1 (d : Dev nD) (t : Fin k0_t1_loop.trips) (ht : t.val + 1 < 8) : Fam :=
  (famT 0 d (t.val + 1) ht).ofEq ![k0_off17 t, k0_off20 t, k0_off23 t, k0_off26 t, k0_off29 t, k0_off32 t, k0_off35 t, k0_off38 t, k0_off41 t, k0_off44 t, k0_off47 t, k0_off50 t, k0_off53 t, k0_off56 t, k0_off59 t, k0_off62 t] ![k0_off18 t, k0_off21 t, k0_off24 t, k0_off27 t, k0_off30 t, k0_off33 t, k0_off36 t, k0_off39 t, k0_off42 t, k0_off45 t, k0_off48 t, k0_off51 t, k0_off54 t, k0_off57 t, k0_off60 t, k0_off63 t] ![k0_off19 d t, k0_off22 d t, k0_off25 d t, k0_off28 d t, k0_off31 d t, k0_off34 d t, k0_off37 d t, k0_off40 d t, k0_off43 d t, k0_off46 d t, k0_off49 d t, k0_off52 d t, k0_off55 d t, k0_off58 d t, k0_off61 d t, k0_off64 d t] (pre1_so t) (pre1_dof t) (pre1_co d t)
theorem pre1_eq (d : Dev nD) (t : Fin k0_t1_loop.trips) (ht : t.val + 1 < 8) : pre1 d t ht = famT 0 d (t.val + 1) ht :=
  Fam.ofEq_eq ..

theorem now1_so : ∀ t : Fin k0_t1_loop.trips, (![k0_off65 t, k0_off68 t, k0_off71 t, k0_off74 t, k0_off77 t, k0_off80 t, k0_off83 t, k0_off86 t, k0_off89 t, k0_off92 t, k0_off95 t, k0_off98 t, k0_off101 t, k0_off104 t, k0_off107 t, k0_off110 t] : Fin 16 → Fin 2 → ℕ) = fun i => ![(t.val) % 2, i.val] := by
  decide +kernel
theorem now1_dof : ∀ t : Fin k0_t1_loop.trips, (![k0_off66 t, k0_off69 t, k0_off72 t, k0_off75 t, k0_off78 t, k0_off81 t, k0_off84 t, k0_off87 t, k0_off90 t, k0_off93 t, k0_off96 t, k0_off99 t, k0_off102 t, k0_off105 t, k0_off108 t, k0_off111 t] : Fin 16 → Fin 3 → ℕ) = fun i => ![(t.val) % 2, 64 * i.val, 0] := by
  decide +kernel
theorem now1_co : ∀ (d : Dev nD) (t : Fin k0_t1_loop.trips), (![k0_off67 d t, k0_off70 d t, k0_off73 d t, k0_off76 d t, k0_off79 d t, k0_off82 d t, k0_off85 d t, k0_off88 d t, k0_off91 d t, k0_off94 d t, k0_off97 d t, k0_off100 d t, k0_off103 d t, k0_off106 d t, k0_off109 d t, k0_off112 d t] : Fin 16 → Fin 4 → ℕ) =
    fun i => ![d.val, 64 * blk i, 8 * srcOf 0 d + (t.val), 0] := by
  decide +kernel
/-- Loop 1's copies of its own head, as printed. -/
def now1 (d : Dev nD) (t : Fin k0_t1_loop.trips) (ht : t.val < 8) : Fam :=
  (famT 0 d (t.val) ht).ofEq ![k0_off65 t, k0_off68 t, k0_off71 t, k0_off74 t, k0_off77 t, k0_off80 t, k0_off83 t, k0_off86 t, k0_off89 t, k0_off92 t, k0_off95 t, k0_off98 t, k0_off101 t, k0_off104 t, k0_off107 t, k0_off110 t] ![k0_off66 t, k0_off69 t, k0_off72 t, k0_off75 t, k0_off78 t, k0_off81 t, k0_off84 t, k0_off87 t, k0_off90 t, k0_off93 t, k0_off96 t, k0_off99 t, k0_off102 t, k0_off105 t, k0_off108 t, k0_off111 t] ![k0_off67 d t, k0_off70 d t, k0_off73 d t, k0_off76 d t, k0_off79 d t, k0_off82 d t, k0_off85 d t, k0_off88 d t, k0_off91 d t, k0_off94 d t, k0_off97 d t, k0_off100 d t, k0_off103 d t, k0_off106 d t, k0_off109 d t, k0_off112 d t] (now1_so t) (now1_dof t) (now1_co d t)
theorem now1_eq (d : Dev nD) (t : Fin k0_t1_loop.trips) (ht : t.val < 8) : now1 d t ht = famT 0 d (t.val) ht :=
  Fam.ofEq_eq ..

theorem pre2_so : ∀ t : Fin k0_t2_loop.trips, (![k0_off132 t, k0_off135 t, k0_off138 t, k0_off141 t, k0_off144 t, k0_off147 t, k0_off150 t, k0_off153 t, k0_off156 t, k0_off159 t, k0_off162 t, k0_off165 t, k0_off168 t, k0_off171 t, k0_off174 t, k0_off177 t] : Fin 16 → Fin 2 → ℕ) = fun i => ![(t.val + 1) % 2, i.val] := by
  decide +kernel
theorem pre2_dof : ∀ t : Fin k0_t2_loop.trips, (![k0_off133 t, k0_off136 t, k0_off139 t, k0_off142 t, k0_off145 t, k0_off148 t, k0_off151 t, k0_off154 t, k0_off157 t, k0_off160 t, k0_off163 t, k0_off166 t, k0_off169 t, k0_off172 t, k0_off175 t, k0_off178 t] : Fin 16 → Fin 3 → ℕ) = fun i => ![(t.val + 1) % 2, 64 * i.val, 0] := by
  decide +kernel
theorem pre2_co : ∀ (d : Dev nD) (t : Fin k0_t2_loop.trips), (![k0_off134 d t, k0_off137 d t, k0_off140 d t, k0_off143 d t, k0_off146 d t, k0_off149 d t, k0_off152 d t, k0_off155 d t, k0_off158 d t, k0_off161 d t, k0_off164 d t, k0_off167 d t, k0_off170 d t, k0_off173 d t, k0_off176 d t, k0_off179 d t] : Fin 16 → Fin 4 → ℕ) =
    fun i => ![d.val, 64 * blk i, 8 * srcOf 1 d + (t.val + 1), 0] := by
  decide +kernel
/-- Loop 2's copies of the next head, as printed. -/
def pre2 (d : Dev nD) (t : Fin k0_t2_loop.trips) (ht : t.val + 1 < 8) : Fam :=
  (famT 1 d (t.val + 1) ht).ofEq ![k0_off132 t, k0_off135 t, k0_off138 t, k0_off141 t, k0_off144 t, k0_off147 t, k0_off150 t, k0_off153 t, k0_off156 t, k0_off159 t, k0_off162 t, k0_off165 t, k0_off168 t, k0_off171 t, k0_off174 t, k0_off177 t] ![k0_off133 t, k0_off136 t, k0_off139 t, k0_off142 t, k0_off145 t, k0_off148 t, k0_off151 t, k0_off154 t, k0_off157 t, k0_off160 t, k0_off163 t, k0_off166 t, k0_off169 t, k0_off172 t, k0_off175 t, k0_off178 t] ![k0_off134 d t, k0_off137 d t, k0_off140 d t, k0_off143 d t, k0_off146 d t, k0_off149 d t, k0_off152 d t, k0_off155 d t, k0_off158 d t, k0_off161 d t, k0_off164 d t, k0_off167 d t, k0_off170 d t, k0_off173 d t, k0_off176 d t, k0_off179 d t] (pre2_so t) (pre2_dof t) (pre2_co d t)
theorem pre2_eq (d : Dev nD) (t : Fin k0_t2_loop.trips) (ht : t.val + 1 < 8) : pre2 d t ht = famT 1 d (t.val + 1) ht :=
  Fam.ofEq_eq ..

theorem now2_so : ∀ t : Fin k0_t2_loop.trips, (![k0_off180 t, k0_off183 t, k0_off186 t, k0_off189 t, k0_off192 t, k0_off195 t, k0_off198 t, k0_off201 t, k0_off204 t, k0_off207 t, k0_off210 t, k0_off213 t, k0_off216 t, k0_off219 t, k0_off222 t, k0_off225 t] : Fin 16 → Fin 2 → ℕ) = fun i => ![(t.val) % 2, i.val] := by
  decide +kernel
theorem now2_dof : ∀ t : Fin k0_t2_loop.trips, (![k0_off181 t, k0_off184 t, k0_off187 t, k0_off190 t, k0_off193 t, k0_off196 t, k0_off199 t, k0_off202 t, k0_off205 t, k0_off208 t, k0_off211 t, k0_off214 t, k0_off217 t, k0_off220 t, k0_off223 t, k0_off226 t] : Fin 16 → Fin 3 → ℕ) = fun i => ![(t.val) % 2, 64 * i.val, 0] := by
  decide +kernel
theorem now2_co : ∀ (d : Dev nD) (t : Fin k0_t2_loop.trips), (![k0_off182 d t, k0_off185 d t, k0_off188 d t, k0_off191 d t, k0_off194 d t, k0_off197 d t, k0_off200 d t, k0_off203 d t, k0_off206 d t, k0_off209 d t, k0_off212 d t, k0_off215 d t, k0_off218 d t, k0_off221 d t, k0_off224 d t, k0_off227 d t] : Fin 16 → Fin 4 → ℕ) =
    fun i => ![d.val, 64 * blk i, 8 * srcOf 1 d + (t.val), 0] := by
  decide +kernel
/-- Loop 2's copies of its own head, as printed. -/
def now2 (d : Dev nD) (t : Fin k0_t2_loop.trips) (ht : t.val < 8) : Fam :=
  (famT 1 d (t.val) ht).ofEq ![k0_off180 t, k0_off183 t, k0_off186 t, k0_off189 t, k0_off192 t, k0_off195 t, k0_off198 t, k0_off201 t, k0_off204 t, k0_off207 t, k0_off210 t, k0_off213 t, k0_off216 t, k0_off219 t, k0_off222 t, k0_off225 t] ![k0_off181 t, k0_off184 t, k0_off187 t, k0_off190 t, k0_off193 t, k0_off196 t, k0_off199 t, k0_off202 t, k0_off205 t, k0_off208 t, k0_off211 t, k0_off214 t, k0_off217 t, k0_off220 t, k0_off223 t, k0_off226 t] ![k0_off182 d t, k0_off185 d t, k0_off188 d t, k0_off191 d t, k0_off194 d t, k0_off197 d t, k0_off200 d t, k0_off203 d t, k0_off206 d t, k0_off209 d t, k0_off212 d t, k0_off215 d t, k0_off218 d t, k0_off221 d t, k0_off224 d t, k0_off227 d t] (now2_so t) (now2_dof t) (now2_co d t)
theorem now2_eq (d : Dev nD) (t : Fin k0_t2_loop.trips) (ht : t.val < 8) : now2 d t ht = famT 1 d (t.val) ht :=
  Fam.ofEq_eq ..

theorem pre3_so : ∀ t : Fin k0_t3_loop.trips, (![k0_off231 t, k0_off234 t, k0_off237 t, k0_off240 t, k0_off243 t, k0_off246 t, k0_off249 t, k0_off252 t, k0_off255 t, k0_off258 t, k0_off261 t, k0_off264 t, k0_off267 t, k0_off270 t, k0_off273 t, k0_off276 t] : Fin 16 → Fin 2 → ℕ) = fun i => ![(t.val + 1) % 2, i.val] := by
  decide +kernel
theorem pre3_dof : ∀ t : Fin k0_t3_loop.trips, (![k0_off232 t, k0_off235 t, k0_off238 t, k0_off241 t, k0_off244 t, k0_off247 t, k0_off250 t, k0_off253 t, k0_off256 t, k0_off259 t, k0_off262 t, k0_off265 t, k0_off268 t, k0_off271 t, k0_off274 t, k0_off277 t] : Fin 16 → Fin 3 → ℕ) = fun i => ![(t.val + 1) % 2, 64 * i.val, 0] := by
  decide +kernel
theorem pre3_co : ∀ (d : Dev nD) (t : Fin k0_t3_loop.trips), (![k0_off233 d t, k0_off236 d t, k0_off239 d t, k0_off242 d t, k0_off245 d t, k0_off248 d t, k0_off251 d t, k0_off254 d t, k0_off257 d t, k0_off260 d t, k0_off263 d t, k0_off266 d t, k0_off269 d t, k0_off272 d t, k0_off275 d t, k0_off278 d t] : Fin 16 → Fin 4 → ℕ) =
    fun i => ![d.val, 64 * blk i, 8 * srcOf 2 d + (t.val + 1), 0] := by
  decide +kernel
/-- Loop 3's copies of the next head, as printed. -/
def pre3 (d : Dev nD) (t : Fin k0_t3_loop.trips) (ht : t.val + 1 < 8) : Fam :=
  (famT 2 d (t.val + 1) ht).ofEq ![k0_off231 t, k0_off234 t, k0_off237 t, k0_off240 t, k0_off243 t, k0_off246 t, k0_off249 t, k0_off252 t, k0_off255 t, k0_off258 t, k0_off261 t, k0_off264 t, k0_off267 t, k0_off270 t, k0_off273 t, k0_off276 t] ![k0_off232 t, k0_off235 t, k0_off238 t, k0_off241 t, k0_off244 t, k0_off247 t, k0_off250 t, k0_off253 t, k0_off256 t, k0_off259 t, k0_off262 t, k0_off265 t, k0_off268 t, k0_off271 t, k0_off274 t, k0_off277 t] ![k0_off233 d t, k0_off236 d t, k0_off239 d t, k0_off242 d t, k0_off245 d t, k0_off248 d t, k0_off251 d t, k0_off254 d t, k0_off257 d t, k0_off260 d t, k0_off263 d t, k0_off266 d t, k0_off269 d t, k0_off272 d t, k0_off275 d t, k0_off278 d t] (pre3_so t) (pre3_dof t) (pre3_co d t)
theorem pre3_eq (d : Dev nD) (t : Fin k0_t3_loop.trips) (ht : t.val + 1 < 8) : pre3 d t ht = famT 2 d (t.val + 1) ht :=
  Fam.ofEq_eq ..

theorem now3_so : ∀ t : Fin k0_t3_loop.trips, (![k0_off279 t, k0_off282 t, k0_off285 t, k0_off288 t, k0_off291 t, k0_off294 t, k0_off297 t, k0_off300 t, k0_off303 t, k0_off306 t, k0_off309 t, k0_off312 t, k0_off315 t, k0_off318 t, k0_off321 t, k0_off324 t] : Fin 16 → Fin 2 → ℕ) = fun i => ![(t.val) % 2, i.val] := by
  decide +kernel
theorem now3_dof : ∀ t : Fin k0_t3_loop.trips, (![k0_off280 t, k0_off283 t, k0_off286 t, k0_off289 t, k0_off292 t, k0_off295 t, k0_off298 t, k0_off301 t, k0_off304 t, k0_off307 t, k0_off310 t, k0_off313 t, k0_off316 t, k0_off319 t, k0_off322 t, k0_off325 t] : Fin 16 → Fin 3 → ℕ) = fun i => ![(t.val) % 2, 64 * i.val, 0] := by
  decide +kernel
theorem now3_co : ∀ (d : Dev nD) (t : Fin k0_t3_loop.trips), (![k0_off281 d t, k0_off284 d t, k0_off287 d t, k0_off290 d t, k0_off293 d t, k0_off296 d t, k0_off299 d t, k0_off302 d t, k0_off305 d t, k0_off308 d t, k0_off311 d t, k0_off314 d t, k0_off317 d t, k0_off320 d t, k0_off323 d t, k0_off326 d t] : Fin 16 → Fin 4 → ℕ) =
    fun i => ![d.val, 64 * blk i, 8 * srcOf 2 d + (t.val), 0] := by
  decide +kernel
/-- Loop 3's copies of its own head, as printed. -/
def now3 (d : Dev nD) (t : Fin k0_t3_loop.trips) (ht : t.val < 8) : Fam :=
  (famT 2 d (t.val) ht).ofEq ![k0_off279 t, k0_off282 t, k0_off285 t, k0_off288 t, k0_off291 t, k0_off294 t, k0_off297 t, k0_off300 t, k0_off303 t, k0_off306 t, k0_off309 t, k0_off312 t, k0_off315 t, k0_off318 t, k0_off321 t, k0_off324 t] ![k0_off280 t, k0_off283 t, k0_off286 t, k0_off289 t, k0_off292 t, k0_off295 t, k0_off298 t, k0_off301 t, k0_off304 t, k0_off307 t, k0_off310 t, k0_off313 t, k0_off316 t, k0_off319 t, k0_off322 t, k0_off325 t] ![k0_off281 d t, k0_off284 d t, k0_off287 d t, k0_off290 d t, k0_off293 d t, k0_off296 d t, k0_off299 d t, k0_off302 d t, k0_off305 d t, k0_off308 d t, k0_off311 d t, k0_off314 d t, k0_off317 d t, k0_off320 d t, k0_off323 d t, k0_off326 d t] (now3_so t) (now3_dof t) (now3_co d t)
theorem now3_eq (d : Dev nD) (t : Fin k0_t3_loop.trips) (ht : t.val < 8) : now3 d t ht = famT 2 d (t.val) ht :=
  Fam.ofEq_eq ..

theorem pre4_so : ∀ t : Fin k0_t4_loop.trips, (![k0_off330 t, k0_off333 t, k0_off336 t, k0_off339 t, k0_off342 t, k0_off345 t, k0_off348 t, k0_off351 t, k0_off354 t, k0_off357 t, k0_off360 t, k0_off363 t, k0_off366 t, k0_off369 t, k0_off372 t, k0_off375 t] : Fin 16 → Fin 2 → ℕ) = fun i => ![(t.val + 1) % 2, i.val] := by
  decide +kernel
theorem pre4_dof : ∀ t : Fin k0_t4_loop.trips, (![k0_off331 t, k0_off334 t, k0_off337 t, k0_off340 t, k0_off343 t, k0_off346 t, k0_off349 t, k0_off352 t, k0_off355 t, k0_off358 t, k0_off361 t, k0_off364 t, k0_off367 t, k0_off370 t, k0_off373 t, k0_off376 t] : Fin 16 → Fin 3 → ℕ) = fun i => ![(t.val + 1) % 2, 64 * i.val, 0] := by
  decide +kernel
theorem pre4_co : ∀ (d : Dev nD) (t : Fin k0_t4_loop.trips), (![k0_off332 d t, k0_off335 d t, k0_off338 d t, k0_off341 d t, k0_off344 d t, k0_off347 d t, k0_off350 d t, k0_off353 d t, k0_off356 d t, k0_off359 d t, k0_off362 d t, k0_off365 d t, k0_off368 d t, k0_off371 d t, k0_off374 d t, k0_off377 d t] : Fin 16 → Fin 4 → ℕ) =
    fun i => ![d.val, 64 * blk i, 8 * srcOf 3 d + (t.val + 1), 0] := by
  decide +kernel
/-- Loop 4's copies of the next head, as printed. -/
def pre4 (d : Dev nD) (t : Fin k0_t4_loop.trips) (ht : t.val + 1 < 8) : Fam :=
  (famT 3 d (t.val + 1) ht).ofEq ![k0_off330 t, k0_off333 t, k0_off336 t, k0_off339 t, k0_off342 t, k0_off345 t, k0_off348 t, k0_off351 t, k0_off354 t, k0_off357 t, k0_off360 t, k0_off363 t, k0_off366 t, k0_off369 t, k0_off372 t, k0_off375 t] ![k0_off331 t, k0_off334 t, k0_off337 t, k0_off340 t, k0_off343 t, k0_off346 t, k0_off349 t, k0_off352 t, k0_off355 t, k0_off358 t, k0_off361 t, k0_off364 t, k0_off367 t, k0_off370 t, k0_off373 t, k0_off376 t] ![k0_off332 d t, k0_off335 d t, k0_off338 d t, k0_off341 d t, k0_off344 d t, k0_off347 d t, k0_off350 d t, k0_off353 d t, k0_off356 d t, k0_off359 d t, k0_off362 d t, k0_off365 d t, k0_off368 d t, k0_off371 d t, k0_off374 d t, k0_off377 d t] (pre4_so t) (pre4_dof t) (pre4_co d t)
theorem pre4_eq (d : Dev nD) (t : Fin k0_t4_loop.trips) (ht : t.val + 1 < 8) : pre4 d t ht = famT 3 d (t.val + 1) ht :=
  Fam.ofEq_eq ..

theorem now4_so : ∀ t : Fin k0_t4_loop.trips, (![k0_off378 t, k0_off381 t, k0_off384 t, k0_off387 t, k0_off390 t, k0_off393 t, k0_off396 t, k0_off399 t, k0_off402 t, k0_off405 t, k0_off408 t, k0_off411 t, k0_off414 t, k0_off417 t, k0_off420 t, k0_off423 t] : Fin 16 → Fin 2 → ℕ) = fun i => ![(t.val) % 2, i.val] := by
  decide +kernel
theorem now4_dof : ∀ t : Fin k0_t4_loop.trips, (![k0_off379 t, k0_off382 t, k0_off385 t, k0_off388 t, k0_off391 t, k0_off394 t, k0_off397 t, k0_off400 t, k0_off403 t, k0_off406 t, k0_off409 t, k0_off412 t, k0_off415 t, k0_off418 t, k0_off421 t, k0_off424 t] : Fin 16 → Fin 3 → ℕ) = fun i => ![(t.val) % 2, 64 * i.val, 0] := by
  decide +kernel
theorem now4_co : ∀ (d : Dev nD) (t : Fin k0_t4_loop.trips), (![k0_off380 d t, k0_off383 d t, k0_off386 d t, k0_off389 d t, k0_off392 d t, k0_off395 d t, k0_off398 d t, k0_off401 d t, k0_off404 d t, k0_off407 d t, k0_off410 d t, k0_off413 d t, k0_off416 d t, k0_off419 d t, k0_off422 d t, k0_off425 d t] : Fin 16 → Fin 4 → ℕ) =
    fun i => ![d.val, 64 * blk i, 8 * srcOf 3 d + (t.val), 0] := by
  decide +kernel
/-- Loop 4's copies of its own head, as printed. -/
def now4 (d : Dev nD) (t : Fin k0_t4_loop.trips) (ht : t.val < 8) : Fam :=
  (famT 3 d (t.val) ht).ofEq ![k0_off378 t, k0_off381 t, k0_off384 t, k0_off387 t, k0_off390 t, k0_off393 t, k0_off396 t, k0_off399 t, k0_off402 t, k0_off405 t, k0_off408 t, k0_off411 t, k0_off414 t, k0_off417 t, k0_off420 t, k0_off423 t] ![k0_off379 t, k0_off382 t, k0_off385 t, k0_off388 t, k0_off391 t, k0_off394 t, k0_off397 t, k0_off400 t, k0_off403 t, k0_off406 t, k0_off409 t, k0_off412 t, k0_off415 t, k0_off418 t, k0_off421 t, k0_off424 t] ![k0_off380 d t, k0_off383 d t, k0_off386 d t, k0_off389 d t, k0_off392 d t, k0_off395 d t, k0_off398 d t, k0_off401 d t, k0_off404 d t, k0_off407 d t, k0_off410 d t, k0_off413 d t, k0_off416 d t, k0_off419 d t, k0_off422 d t, k0_off425 d t] (now4_so t) (now4_dof t) (now4_co d t)
theorem now4_eq (d : Dev nD) (t : Fin k0_t4_loop.trips) (ht : t.val < 8) : now4 d t ht = famT 3 d (t.val) ht :=
  Fam.ofEq_eq ..

theorem fst0_so : (![![0, 0], ![0, 1], ![0, 2], ![0, 3], ![0, 4], ![0, 5], ![0, 6], ![0, 7], ![0, 8], ![0, 9], ![0, 10], ![0, 11], ![0, 12], ![0, 13], ![0, 14], ![0, 15]] : Fin 16 → Fin 2 → ℕ) = fun i => ![0 % 2, i.val] := by decide
theorem fst0_dof : (![![0, 0, 0], ![0, 64, 0], ![0, 128, 0], ![0, 192, 0], ![0, 256, 0], ![0, 320, 0], ![0, 384, 0], ![0, 448, 0], ![0, 512, 0], ![0, 576, 0], ![0, 640, 0], ![0, 704, 0], ![0, 768, 0], ![0, 832, 0], ![0, 896, 0], ![0, 960, 0]] : Fin 16 → Fin 3 → ℕ) = fun i => ![0 % 2, 64 * i.val, 0] := by decide
theorem fst0_co : ∀ (d : Dev nD), (![k0_off1 d, k0_off2 d, k0_off3 d, k0_off4 d, k0_off5 d, k0_off6 d, k0_off7 d, k0_off8 d, k0_off9 d, k0_off10 d, k0_off11 d, k0_off12 d, k0_off13 d, k0_off14 d, k0_off15 d, k0_off16 d] : Fin 16 → Fin 4 → ℕ) =
    fun i => ![d.val, 64 * blk i, 8 * srcOf 0 d + 0, 0] := by
  decide +kernel
/-- Stage 0's copies of its first head, as printed. -/
def fst0 (d : Dev nD) : Fam :=
  (famT 0 d 0 (by omega)).ofEq ![![0, 0], ![0, 1], ![0, 2], ![0, 3], ![0, 4], ![0, 5], ![0, 6], ![0, 7], ![0, 8], ![0, 9], ![0, 10], ![0, 11], ![0, 12], ![0, 13], ![0, 14], ![0, 15]] ![![0, 0, 0], ![0, 64, 0], ![0, 128, 0], ![0, 192, 0], ![0, 256, 0], ![0, 320, 0], ![0, 384, 0], ![0, 448, 0], ![0, 512, 0], ![0, 576, 0], ![0, 640, 0], ![0, 704, 0], ![0, 768, 0], ![0, 832, 0], ![0, 896, 0], ![0, 960, 0]] ![k0_off1 d, k0_off2 d, k0_off3 d, k0_off4 d, k0_off5 d, k0_off6 d, k0_off7 d, k0_off8 d, k0_off9 d, k0_off10 d, k0_off11 d, k0_off12 d, k0_off13 d, k0_off14 d, k0_off15 d, k0_off16 d] fst0_so fst0_dof (fst0_co d)
theorem fst0_eq (d : Dev nD) : fst0 d = famT 0 d 0 (by omega) := Fam.ofEq_eq ..

theorem fst1_so : (![![0, 0], ![0, 1], ![0, 2], ![0, 3], ![0, 4], ![0, 5], ![0, 6], ![0, 7], ![0, 8], ![0, 9], ![0, 10], ![0, 11], ![0, 12], ![0, 13], ![0, 14], ![0, 15]] : Fin 16 → Fin 2 → ℕ) = fun i => ![0 % 2, i.val] := by decide
theorem fst1_dof : (![![0, 0, 0], ![0, 64, 0], ![0, 128, 0], ![0, 192, 0], ![0, 256, 0], ![0, 320, 0], ![0, 384, 0], ![0, 448, 0], ![0, 512, 0], ![0, 576, 0], ![0, 640, 0], ![0, 704, 0], ![0, 768, 0], ![0, 832, 0], ![0, 896, 0], ![0, 960, 0]] : Fin 16 → Fin 3 → ℕ) = fun i => ![0 % 2, 64 * i.val, 0] := by decide
theorem fst1_co : ∀ (d : Dev nD), (![k0_off116 d 1#32, k0_off117 d 1#32, k0_off118 d 1#32, k0_off119 d 1#32, k0_off120 d 1#32, k0_off121 d 1#32, k0_off122 d 1#32, k0_off123 d 1#32, k0_off124 d 1#32, k0_off125 d 1#32, k0_off126 d 1#32, k0_off127 d 1#32, k0_off128 d 1#32, k0_off129 d 1#32, k0_off130 d 1#32, k0_off131 d 1#32] : Fin 16 → Fin 4 → ℕ) =
    fun i => ![d.val, 64 * blk i, 8 * srcOf 1 d + 0, 0] := by
  decide +kernel
/-- Stage 1's copies of its first head, as printed. -/
def fst1 (d : Dev nD) : Fam :=
  (famT 1 d 0 (by omega)).ofEq ![![0, 0], ![0, 1], ![0, 2], ![0, 3], ![0, 4], ![0, 5], ![0, 6], ![0, 7], ![0, 8], ![0, 9], ![0, 10], ![0, 11], ![0, 12], ![0, 13], ![0, 14], ![0, 15]] ![![0, 0, 0], ![0, 64, 0], ![0, 128, 0], ![0, 192, 0], ![0, 256, 0], ![0, 320, 0], ![0, 384, 0], ![0, 448, 0], ![0, 512, 0], ![0, 576, 0], ![0, 640, 0], ![0, 704, 0], ![0, 768, 0], ![0, 832, 0], ![0, 896, 0], ![0, 960, 0]] ![k0_off116 d 1#32, k0_off117 d 1#32, k0_off118 d 1#32, k0_off119 d 1#32, k0_off120 d 1#32, k0_off121 d 1#32, k0_off122 d 1#32, k0_off123 d 1#32, k0_off124 d 1#32, k0_off125 d 1#32, k0_off126 d 1#32, k0_off127 d 1#32, k0_off128 d 1#32, k0_off129 d 1#32, k0_off130 d 1#32, k0_off131 d 1#32] fst1_so fst1_dof (fst1_co d)
theorem fst1_eq (d : Dev nD) : fst1 d = famT 1 d 0 (by omega) := Fam.ofEq_eq ..

theorem fst2_so : (![![0, 0], ![0, 1], ![0, 2], ![0, 3], ![0, 4], ![0, 5], ![0, 6], ![0, 7], ![0, 8], ![0, 9], ![0, 10], ![0, 11], ![0, 12], ![0, 13], ![0, 14], ![0, 15]] : Fin 16 → Fin 2 → ℕ) = fun i => ![0 % 2, i.val] := by decide
theorem fst2_dof : (![![0, 0, 0], ![0, 64, 0], ![0, 128, 0], ![0, 192, 0], ![0, 256, 0], ![0, 320, 0], ![0, 384, 0], ![0, 448, 0], ![0, 512, 0], ![0, 576, 0], ![0, 640, 0], ![0, 704, 0], ![0, 768, 0], ![0, 832, 0], ![0, 896, 0], ![0, 960, 0]] : Fin 16 → Fin 3 → ℕ) = fun i => ![0 % 2, 64 * i.val, 0] := by decide
theorem fst2_co : ∀ (d : Dev nD), (![k0_off116 d 2#32, k0_off117 d 2#32, k0_off118 d 2#32, k0_off119 d 2#32, k0_off120 d 2#32, k0_off121 d 2#32, k0_off122 d 2#32, k0_off123 d 2#32, k0_off124 d 2#32, k0_off125 d 2#32, k0_off126 d 2#32, k0_off127 d 2#32, k0_off128 d 2#32, k0_off129 d 2#32, k0_off130 d 2#32, k0_off131 d 2#32] : Fin 16 → Fin 4 → ℕ) =
    fun i => ![d.val, 64 * blk i, 8 * srcOf 2 d + 0, 0] := by
  decide +kernel
/-- Stage 2's copies of its first head, as printed. -/
def fst2 (d : Dev nD) : Fam :=
  (famT 2 d 0 (by omega)).ofEq ![![0, 0], ![0, 1], ![0, 2], ![0, 3], ![0, 4], ![0, 5], ![0, 6], ![0, 7], ![0, 8], ![0, 9], ![0, 10], ![0, 11], ![0, 12], ![0, 13], ![0, 14], ![0, 15]] ![![0, 0, 0], ![0, 64, 0], ![0, 128, 0], ![0, 192, 0], ![0, 256, 0], ![0, 320, 0], ![0, 384, 0], ![0, 448, 0], ![0, 512, 0], ![0, 576, 0], ![0, 640, 0], ![0, 704, 0], ![0, 768, 0], ![0, 832, 0], ![0, 896, 0], ![0, 960, 0]] ![k0_off116 d 2#32, k0_off117 d 2#32, k0_off118 d 2#32, k0_off119 d 2#32, k0_off120 d 2#32, k0_off121 d 2#32, k0_off122 d 2#32, k0_off123 d 2#32, k0_off124 d 2#32, k0_off125 d 2#32, k0_off126 d 2#32, k0_off127 d 2#32, k0_off128 d 2#32, k0_off129 d 2#32, k0_off130 d 2#32, k0_off131 d 2#32] fst2_so fst2_dof (fst2_co d)
theorem fst2_eq (d : Dev nD) : fst2 d = famT 2 d 0 (by omega) := Fam.ofEq_eq ..

theorem fst3_so : (![![0, 0], ![0, 1], ![0, 2], ![0, 3], ![0, 4], ![0, 5], ![0, 6], ![0, 7], ![0, 8], ![0, 9], ![0, 10], ![0, 11], ![0, 12], ![0, 13], ![0, 14], ![0, 15]] : Fin 16 → Fin 2 → ℕ) = fun i => ![0 % 2, i.val] := by decide
theorem fst3_dof : (![![0, 0, 0], ![0, 64, 0], ![0, 128, 0], ![0, 192, 0], ![0, 256, 0], ![0, 320, 0], ![0, 384, 0], ![0, 448, 0], ![0, 512, 0], ![0, 576, 0], ![0, 640, 0], ![0, 704, 0], ![0, 768, 0], ![0, 832, 0], ![0, 896, 0], ![0, 960, 0]] : Fin 16 → Fin 3 → ℕ) = fun i => ![0 % 2, 64 * i.val, 0] := by decide
theorem fst3_co : ∀ (d : Dev nD), (![k0_off116 d 3#32, k0_off117 d 3#32, k0_off118 d 3#32, k0_off119 d 3#32, k0_off120 d 3#32, k0_off121 d 3#32, k0_off122 d 3#32, k0_off123 d 3#32, k0_off124 d 3#32, k0_off125 d 3#32, k0_off126 d 3#32, k0_off127 d 3#32, k0_off128 d 3#32, k0_off129 d 3#32, k0_off130 d 3#32, k0_off131 d 3#32] : Fin 16 → Fin 4 → ℕ) =
    fun i => ![d.val, 64 * blk i, 8 * srcOf 3 d + 0, 0] := by
  decide +kernel
/-- Stage 3's copies of its first head, as printed. -/
def fst3 (d : Dev nD) : Fam :=
  (famT 3 d 0 (by omega)).ofEq ![![0, 0], ![0, 1], ![0, 2], ![0, 3], ![0, 4], ![0, 5], ![0, 6], ![0, 7], ![0, 8], ![0, 9], ![0, 10], ![0, 11], ![0, 12], ![0, 13], ![0, 14], ![0, 15]] ![![0, 0, 0], ![0, 64, 0], ![0, 128, 0], ![0, 192, 0], ![0, 256, 0], ![0, 320, 0], ![0, 384, 0], ![0, 448, 0], ![0, 512, 0], ![0, 576, 0], ![0, 640, 0], ![0, 704, 0], ![0, 768, 0], ![0, 832, 0], ![0, 896, 0], ![0, 960, 0]] ![k0_off116 d 3#32, k0_off117 d 3#32, k0_off118 d 3#32, k0_off119 d 3#32, k0_off120 d 3#32, k0_off121 d 3#32, k0_off122 d 3#32, k0_off123 d 3#32, k0_off124 d 3#32, k0_off125 d 3#32, k0_off126 d 3#32, k0_off127 d 3#32, k0_off128 d 3#32, k0_off129 d 3#32, k0_off130 d 3#32, k0_off131 d 3#32] fst3_so fst3_dof (fst3_co d)
theorem fst3_eq (d : Dev nD) : fst3 d = famT 3 d 0 (by omega) := Fam.ofEq_eq ..

end Cert.RingAttn
-- ==== Proof.Clean.lean ====
/-
# The kernel's program in closed form

`prog` is the kernel's body over its concrete buffers, with the copies of the K and V tiles as lists
(`startsK`, `waitsK`), the stages' moves as short functions and the four counted loops over one trip `trip`.
`body_eq` says that the printed body is `prog`.
-/
module

public import proofs.«01_k».proof.Proof.Families

@[expose] public section

set_option maxRecDepth 65536

noncomputable section

namespace Cert.RingAttn

open Cert.KernelIdeal Cert.KernelIdeal.Gen
open Idealize.ShloMosaic Idealize.ShloMosaic.TcCoe Idealize.SL.Sem
open Idealize.ShloMosaic.Pipeline (chain)

variable {F : FTy → Type} [FloatOps F]

/-! ## The ring's slots -/

theorem slot_inb (s : Fin 3) : ∀ a, (![s.val, 0, 0] : Fin 3 → ℕ) a + S1x1024x1024.size a ≤ S3x1024x1024.size a := by
  revert s; decide
theorem slot_words : ∀ s : Fin 3, (Rect.unit (s := S3x1024x1024) ![s.val, 0, 0] S1x1024x1024.size (slot_inb s)).WholeWords
    (EltTy.packing .bf16) := by decide
theorem sem3_inb (s : Fin 3) : ∀ a, (![s.val] : Fin 1 → ℕ) a + S1.size a ≤ S3.size a := by
  revert s; decide

/-- Slot `s` of a landing buffer. -/
def slotOf (m : Memref sig .tc .vmem S3x1024x1024 .bf16) (s : Fin 3) : Memref sig .tc .vmem S1024x1024 .bf16 :=
  (m.slice (Rect.unit (s := S3x1024x1024) ![s.val, 0, 0] S1x1024x1024.size (slot_inb s)) (fun _ => rfl)).squeeze
    S1024x1024 squeezes_S1x1024x1024_S1024x1024
theorem slotOf_exact (m : Memref sig .tc .vmem S3x1024x1024 .bf16) (hm : m.IsWhole) (s : Fin 3) :
    (slotOf m s).view.WordExact :=
  (hm.wordExact_slice rfl _ (slot_words s)).reshape _ _
/-- Semaphore `s` of an array of three. -/
def semOf (m : DmaSems sig S3) (s : Fin 3) : DmaSem sig :=
  ((m.slice (Rect.unit (s := S3) ![s.val] S1.size (sem3_inb s))).squeeze S_ squeezes_S1_S_).sem

/-- Send `src` to slot `s` of device `e`'s buffer `m`. -/
def sendK {α : Type} (m : Memref sig .tc .vmem S3x1024x1024 .bf16) (hm : m.IsWhole) (ss rs : DmaSems sig S3) (s : Fin 3)
    (src : Memref sig .tc .vmem S1024x1024 .bf16) (hs : src.view.WordExact) (e : Dev nD) (k : Unit → Pg F α) : Pg F α :=
  .op (.enqueueDma src (.remote (Dev.tc e) (slotOf m s) (.dma (semOf ss s))) (.dma (semOf rs s)) hs
    (slotOf_exact m hm s) ⟨⟨rfl, Or.inl rfl⟩, trivial⟩) k

/-- Wait for the send from slot `s`, then for what lands in slot `s`. -/
def arriveK {α : Type} (m : Memref sig .tc .vmem S3x1024x1024 .bf16) (hm : m.IsWhole) (ss rs : DmaSems sig S3) (s : Fin 3)
    (w : Memref sig .tc .vmem S1024x1024 .bf16) (hw : w.IsWhole) (k : Unit → Pg F α) : Pg F α :=
  .op (.waitDma2 (semOf ss s) (slotOf m s) w (slotOf_exact m hm s) hw.wordExact) fun _ =>
  .op (.waitDma2 (semOf rs s) w (slotOf m s) hw.wordExact (slotOf_exact m hm s)) k

/-! ## Moves within a device -/

theorem x_inb : ∀ (i : Fin 16) (a), (![0, 64 * blk i, 0] : Fin 3 → ℕ) a + S1x64x1024.size a ≤ S1x1024x1024.size a := by decide
theorem xp_inb : ∀ (i : Fin 16) (a), (![64 * i.val, 0] : Fin 2 → ℕ) a + S64x1024.size a ≤ S1024x1024.size a := by decide
theorem xp_packed : ∀ i : Fin 16, (Rect.unit (s := S1024x1024) ![64 * i.val, 0] S64x1024.size (xp_inb i)).PackedRows
    (EltTy.packing .bf16) := by decide
abbrev xR (i : Fin 16) := Rect.unit (s := S1x1024x1024) ![0, 64 * blk i, 0] S1x64x1024.size (x_inb i)
abbrev xpR (i : Fin 16) := Rect.unit (s := S1024x1024) ![64 * i.val, 0] S64x1024.size (xp_inb i)

/-- Copy the listed blocks of 64 rows of `x` to their places. -/
def permK {α : Type} : List (Fin 16) → (Unit → Pg F α) → Pg F α
  | [], k => k ⟨⟩
  | i :: l, k => .op (.load mX (xR i).toLoadRect (View.loadsAt_vmem h_S1x64x1024)) fun v =>
    .op (.load mXp (xpR i).toLoadRect (View.loadsAt_vmem h_S64x1024)) fun _ =>
    .op (.store mXp (xpR i) (k0_pay78 v) Finset.univ
      (View.stores_vmem h_S64x1024 ((Memref.isWhole_whole _).storeExact_slice rfl _ (xp_packed i)) (fun _ => rfl)) (.inl rfl))
    fun _ => permK l k

theorem out_slices : ∀ i : Fin 16, S1024x1024.Slices ![64 * i.val, 0] S64x1024 := by decide

/-- The block of 64 rows of `acc` at place `i`. -/
def outVal (i : Fin 16) (acc : FVec F S1024x1024 .f32) : FVec F S1x64x1024 .f32 :=
  shapeCast S1x64x1024 (extractStridedSlice S64x1024 ![64 * i.val, 0] acc (out_slices i)) shapeCasts_S64x1024_S1x64x1024

/-- Write the listed blocks of `acc` back to the places they stand at in the result. -/
def outK {α : Type} (acc : FVec F S1024x1024 .f32) : List (Fin 16) → (Unit → Pg F α) → Pg F α
  | [], k => k ⟨⟩
  | i :: l, k => .op (.load mOut (xR i).toLoadRect (View.loadsAt_vmem h_S1x64x1024)) fun _ =>
    .op (.store mOut (xR i) (outVal i acc) Finset.univ (View.stores_vmem_bits_univ h_S1x64x1024 rfl) (.inl rfl))
    fun _ => outK acc l k

/-- The places in order. -/
def places : List (Fin 16) := [0, 1, 2, 3, 4, 5, 6, 7, 8, 9, 10, 11, 12, 13, 14, 15]

theorem w_inb : ∀ (j : Fin 4) (a), (![1024 * j.val, 0] : Fin 2 → ℕ) a + S1024x1024.size a ≤ S4096x1024.size a := by decide
theorem w_packed : ∀ j : Fin 4, (Rect.unit (s := S4096x1024) ![1024 * j.val, 0] S1024x1024.size (w_inb j)).PackedRows
    (EltTy.packing .bf16) := by decide
abbrev wR (j : Fin 4) := Rect.unit (s := S4096x1024) ![1024 * j.val, 0] S1024x1024.size (w_inb j)
abbrev sqR :=
  Rect.unit (s := S1024x1024) ![0, 0] S1024x1024.size inb_S1024x1024_S1024x1024_0_0
abbrev slotR (s : Fin 3) :=
  Rect.unit (s := S3x1024x1024) ![s.val, 0, 0] S1x1024x1024.size (slot_inb s)

/-- Write `v` as block `j` of the gathered output weight. -/
def putWK {α : Type} (j : Fin 4) (v : FVec F S1024x1024 .bf16) (k : Unit → Pg F α) : Pg F α :=
  .op (.load mW (wR j).toLoadRect (View.loadsAt_vmem h_S1024x1024)) fun _ =>
  .op (.store mW (wR j) v Finset.univ
    (View.stores_vmem h_S1024x1024 ((Memref.isWhole_whole _).storeExact_slice rfl _ (w_packed j)) (fun _ => rfl)) (.inl rfl)) k

/-- Write `v` as the queries. -/
def putQK {α : Type} (v : FVec F S1024x1024 .bf16) (k : Unit → Pg F α) : Pg F α :=
  .op (.load mQ sqR.toLoadRect (View.loadsAt_vmem h_S1024x1024)) fun _ =>
  .op (.store mQ sqR v Finset.univ
    (View.stores_vmem h_S1024x1024 ((Memref.isWhole_whole _).storeExact_slice rfl _ packedbf16_S1024x1024_S1024x1024_0_0)
      (fun _ => rfl)) (.inl rfl)) k

/-! ## One head -/

/-- One head's context from its queries and its K and V tiles. -/
def headVal (q : Vec F S1024x128 .bf16) (kk vv : Vec F S1x1024x128 .f32) : FVec F S1024x128 .bf16 :=
  k0_pay98 (k0_pay3 vv) (k0_pay6 (k0_pay4 vv) (k0_pay5 q kk)) (k0_pay12 q (k0_pay2 kk)) (k0_pay13 q (k0_pay2 kk) (k0_pay3 vv))
    (k0_pay17 q (k0_pay2 kk)) (k0_pay18 q (k0_pay2 kk) (k0_pay3 vv)) (k0_pay19 q) (k0_pay20 (k0_pay2 kk))

/-- Where one head reads its queries and tiles and writes its context. -/
structure Offs where
  oq : Fin 2 → ℕ
  hq : ∀ a, oq a + S1024x128.size a ≤ S1024x1024.size a
  ov : Fin 3 → ℕ
  hv : ∀ a, ov a + S1x1024x128.size a ≤ S2x1024x128.size a
  oc : Fin 2 → ℕ
  hc : ∀ a, oc a + S1024x128.size a ≤ S1024x4096.size a
  hp : (Rect.unit (s := S1024x4096) oc S1024x128.size hc).PackedRows (EltTy.packing .bf16)

theorem Offs.ext' {O P : Offs} (h₁ : O.oq = P.oq) (h₂ : O.ov = P.ov) (h₃ : O.oc = P.oc) : O = P := by
  cases O; cases P; simp only at h₁ h₂ h₃; subst h₁; subst h₂; subst h₃; rfl

abbrev Offs.qR (O : Offs) := Rect.unit (s := S1024x1024) O.oq S1024x128.size O.hq
abbrev Offs.vR (O : Offs) := Rect.unit (s := S2x1024x128) O.ov S1x1024x128.size O.hv
abbrev Offs.cR (O : Offs) := Rect.unit (s := S1024x4096) O.oc S1024x128.size O.hc

/-- The head's reads, its arithmetic and its write. -/
def headK (O : Offs) : Pg F Unit :=
  .op (.load mQ O.qR.toLoadRect (View.loadsAt_vmem h_S1024x128)) fun q =>
  .op (.load (kvBuf false) O.vR.toLoadRect (View.loadsAt_vmem h_S1x1024x128)) fun kk =>
  .op (.load (kvBuf true) O.vR.toLoadRect (View.loadsAt_vmem h_S1x1024x128)) fun vv =>
  .op (.load mC O.cR.toLoadRect (View.loadsAt_vmem h_S1024x128)) fun _ =>
  .op (.store mC O.cR (headVal q kk vv) Finset.univ
    (View.stores_vmem h_S1024x128 ((Memref.isWhole_whole _).storeExact_slice rfl _ O.hp) (fun _ => rfl)) (.inl rfl)) fun _ =>
  .ret ⟨⟩

theorem off_q (t : Fin 8) : ∀ a, (![0, 128 * t.val] : Fin 2 → ℕ) a + S1024x128.size a ≤ S1024x1024.size a := by
  revert t; decide
theorem off_v (t : Fin 8) : ∀ a, (![t.val % 2, 0, 0] : Fin 3 → ℕ) a + S1x1024x128.size a ≤ S2x1024x128.size a := by
  revert t; decide
theorem off_c (j : Fin 4) (t : Fin 8) :
    ∀ a, (![0, 128 * t.val + 1024 * j.val] : Fin 2 → ℕ) a + S1024x128.size a ≤ S1024x4096.size a := by
  revert j t; decide
theorem off_p : ∀ (j : Fin 4) (t : Fin 8), (Rect.unit (s := S1024x4096) ![0, 128 * t.val + 1024 * j.val] S1024x128.size
    (off_c j t)).PackedRows (EltTy.packing .bf16) := by decide +kernel

/-- Stage `j`'s head `t`. -/
def offs (j : Fin 4) (t : Fin 8) : Offs :=
  ⟨![0, 128 * t.val], off_q t, ![t.val % 2, 0, 0], off_v t, ![0, 128 * t.val + 1024 * j.val], off_c j t, off_p j t⟩

/-- One trip of stage `j`'s loop: start the next head's copies, wait for this head's, compute it. -/
def trip (j : Fin 4) (d : Dev nD) (t : Fin 8) : Pg F Unit :=
  if h : t.val + 1 < 8 then
    startsK (famT j d (t.val + 1) h) order fun _ => waitsK (famT j d t.val t.isLt) order fun _ => headK (offs j t)
  else waitsK (famT j d t.val t.isLt) order fun _ => headK (offs j t)

/-- The offsets of loop 1's head, as printed. -/
def offs1 (t : Fin k0_t1_loop.trips) : Offs :=
  ⟨k0_off113 t, k0_off113_inb t, k0_off114 t, k0_off114_inb t, k0_off115 t, k0_off115_inb t, k0_off115_packedbf16 t⟩
theorem offs1_eq (t : Fin 8) : offs1 t = offs 0 t :=
  Offs.ext' (k0_off113_eq t) (k0_off114_eq t) (k0_off115_eq t)

theorem cond1 : ∀ t : Fin k0_t1_loop.trips, (k0_cond1 t = 1#1) ↔ t.val + 1 < 8 := by decide +kernel

/-- The rest of loop 1's first printed part: three waits and the words it passes on. -/
def k0_w1 (d : Dev nD) (t : Fin k0_t1_loop.trips) : Pg F (Σ' (arg20 : BitVec 32), BitVec 32) :=
  waitsK (now1 d t t.isLt) [(false, 0), (true, 0), (false, 1)] fun _ =>
    .ret ⟨Scf.iv 0#32 1#32 t, Scalar.remsi (Scf.iv 0#32 1#32 t) 2#32⟩

/-- Loop 1's printed trip is `trip 0`. -/
theorem loop1_eq (d : Dev nD) (v2 : BitVec 32) (t : Fin k0_t1_loop.trips) (u : Unit) :
    k0_t1_body (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v2 t u = trip 0 d t := by
  unfold trip
  split
  · next h =>
    refine Eq.trans (b := startsK (pre1 d t h) order fun _ => waitsK (now1 d t t.isLt) order fun _ => headK (offs1 t)) ?_
      (by rw [pre1_eq d t h, now1_eq d t t.isLt, offs1_eq t]; rfl)
    have hc : k0_cond1 t = 1#1 := (cond1 t).2 h
    have e : k0_part7 (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v2 0#32 1#32 t =
        startsK (pre1 d t h) order fun _ => k0_w1 d t := by
      rw [k0_part7_eq_skeleton]; unfold k0_part7_skel; rw [dif_pos hc]
      chain_rfl
    unfold k0_t1_body; rw [e]
    show _ = _
    chain_rfl
  · next h =>
    refine Eq.trans (b := waitsK (now1 d t t.isLt) order fun _ => headK (offs1 t)) ?_
      (by rw [now1_eq d t t.isLt, offs1_eq t]; rfl)
    have hc : ¬ k0_cond1 t = 1#1 := fun hc => h ((cond1 t).1 hc)
    have e : k0_part7 (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v2 0#32 1#32 t =
        k0_w1 d t := by
      rw [k0_part7_eq_skeleton]; unfold k0_part7_skel; rw [dif_neg hc]
      chain_rfl
    unfold k0_t1_body; rw [e]
    show _ = _
    chain_rfl

/-- The offsets of loop 2's head, as printed. -/
def offs2 (t : Fin k0_t2_loop.trips) : Offs :=
  ⟨k0_off228 t, k0_off228_inb t, k0_off229 t, k0_off229_inb t, k0_off230 t, k0_off230_inb t, k0_off230_packedbf16 t⟩
theorem offs2_eq (t : Fin 8) : offs2 t = offs 1 t :=
  Offs.ext' (k0_off228_eq t) (k0_off229_eq t) (k0_off230_eq t)

theorem cond2 : ∀ t : Fin k0_t2_loop.trips, (k0_cond2 t = 1#1) ↔ t.val + 1 < 8 := by decide +kernel

/-- The rest of loop 2's first printed part: three waits and the words it passes on. -/
def k0_w2 (d : Dev nD) (t : Fin k0_t2_loop.trips) : Pg F (Σ' (arg20 : BitVec 32), BitVec 32) :=
  waitsK (now2 d t t.isLt) [(false, 0), (true, 0), (false, 1)] fun _ =>
    .ret ⟨Scf.iv 0#32 1#32 t, Scalar.remsi (Scf.iv 0#32 1#32 t) 2#32⟩

/-- Loop 2's printed trip is `trip 1`. -/
theorem loop2_eq (d : Dev nD) (v2 v348 : BitVec 32) (t : Fin k0_t2_loop.trips) (u : Unit) :
    k0_t2_body (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v2 v348 t u = trip 1 d t := by
  unfold trip
  split
  · next h =>
    refine Eq.trans (b := startsK (pre2 d t h) order fun _ => waitsK (now2 d t t.isLt) order fun _ => headK (offs2 t)) ?_
      (by rw [pre2_eq d t h, now2_eq d t t.isLt, offs2_eq t]; rfl)
    have hc : k0_cond2 t = 1#1 := (cond2 t).2 h
    have e : k0_part21 (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v348 0#32 1#32 t =
        startsK (pre2 d t h) order fun _ => k0_w2 d t := by
      rw [k0_part21_eq_skeleton]; unfold k0_part21_skel; rw [dif_pos hc]
      chain_rfl
    unfold k0_t2_body; rw [e]
    show _ = _
    chain_rfl
  · next h =>
    refine Eq.trans (b := waitsK (now2 d t t.isLt) order fun _ => headK (offs2 t)) ?_
      (by rw [now2_eq d t t.isLt, offs2_eq t]; rfl)
    have hc : ¬ k0_cond2 t = 1#1 := fun hc => h ((cond2 t).1 hc)
    have e : k0_part21 (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v348 0#32 1#32 t =
        k0_w2 d t := by
      rw [k0_part21_eq_skeleton]; unfold k0_part21_skel; rw [dif_neg hc]
      chain_rfl
    unfold k0_t2_body; rw [e]
    show _ = _
    chain_rfl

/-- The offsets of loop 3's head, as printed. -/
def offs3 (t : Fin k0_t3_loop.trips) : Offs :=
  ⟨k0_off327 t, k0_off327_inb t, k0_off328 t, k0_off328_inb t, k0_off329 t, k0_off329_inb t, k0_off329_packedbf16 t⟩
theorem offs3_eq (t : Fin 8) : offs3 t = offs 2 t :=
  Offs.ext' (k0_off327_eq t) (k0_off328_eq t) (k0_off329_eq t)

theorem cond3 : ∀ t : Fin k0_t3_loop.trips, (k0_cond3 t = 1#1) ↔ t.val + 1 < 8 := by decide +kernel

/-- The rest of loop 3's first printed part: three waits and the words it passes on. -/
def k0_w3 (d : Dev nD) (t : Fin k0_t3_loop.trips) : Pg F (Σ' (arg20 : BitVec 32), BitVec 32) :=
  waitsK (now3 d t t.isLt) [(false, 0), (true, 0), (false, 1)] fun _ =>
    .ret ⟨Scf.iv 0#32 1#32 t, Scalar.remsi (Scf.iv 0#32 1#32 t) 2#32⟩

/-- Loop 3's printed trip is `trip 2`. -/
theorem loop3_eq (d : Dev nD) (v2 v611 : BitVec 32) (t : Fin k0_t3_loop.trips) (u : Unit) :
    k0_t3_body (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v2 v611 t u = trip 2 d t := by
  unfold trip
  split
  · next h =>
    refine Eq.trans (b := startsK (pre3 d t h) order fun _ => waitsK (now3 d t t.isLt) order fun _ => headK (offs3 t)) ?_
      (by rw [pre3_eq d t h, now3_eq d t t.isLt, offs3_eq t]; rfl)
    have hc : k0_cond3 t = 1#1 := (cond3 t).2 h
    have e : k0_part35 (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v611 0#32 1#32 t =
        startsK (pre3 d t h) order fun _ => k0_w3 d t := by
      rw [k0_part35_eq_skeleton]; unfold k0_part35_skel; rw [dif_pos hc]
      chain_rfl
    unfold k0_t3_body; rw [e]
    show _ = _
    chain_rfl
  · next h =>
    refine Eq.trans (b := waitsK (now3 d t t.isLt) order fun _ => headK (offs3 t)) ?_
      (by rw [now3_eq d t t.isLt, offs3_eq t]; rfl)
    have hc : ¬ k0_cond3 t = 1#1 := fun hc => h ((cond3 t).1 hc)
    have e : k0_part35 (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v611 0#32 1#32 t =
        k0_w3 d t := by
      rw [k0_part35_eq_skeleton]; unfold k0_part35_skel; rw [dif_neg hc]
      chain_rfl
    unfold k0_t3_body; rw [e]
    show _ = _
    chain_rfl

/-- The offsets of loop 4's head, as printed. -/
def offs4 (t : Fin k0_t4_loop.trips) : Offs :=
  ⟨k0_off426 t, k0_off426_inb t, k0_off427 t, k0_off427_inb t, k0_off428 t, k0_off428_inb t, k0_off428_packedbf16 t⟩
theorem offs4_eq (t : Fin 8) : offs4 t = offs 3 t :=
  Offs.ext' (k0_off426_eq t) (k0_off427_eq t) (k0_off428_eq t)

theorem cond4 : ∀ t : Fin k0_t4_loop.trips, (k0_cond4 t = 1#1) ↔ t.val + 1 < 8 := by decide +kernel

/-- The rest of loop 4's first printed part: three waits and the words it passes on. -/
def k0_w4 (c0 : BitVec 32) (d : Dev nD) (t : Fin k0_t4_loop.trips) : Pg F (Σ' (arg20 : BitVec 32), BitVec 32) :=
  waitsK (now4 d t t.isLt) [(false, 0), (true, 0), (false, 1)] fun _ =>
    .ret ⟨Scf.iv c0 1#32 t, Scalar.remsi (Scf.iv c0 1#32 t) 2#32⟩

/-- Loop 4's printed trip is `trip 3`. -/
theorem loop4_eq (d : Dev nD) (v874 c0 : BitVec 32) (t : Fin k0_t4_loop.trips) (u : Unit) :
    k0_t4_body (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v874 c0 t u = trip 3 d t := by
  unfold trip
  split
  · next h =>
    refine Eq.trans (b := startsK (pre4 d t h) order fun _ => waitsK (now4 d t t.isLt) order fun _ => headK (offs4 t)) ?_
      (by rw [pre4_eq d t h, now4_eq d t t.isLt, offs4_eq t]; rfl)
    have hc : k0_cond4 t = 1#1 := (cond4 t).2 h
    have e : k0_part49 (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v874 c0 1#32 t =
        startsK (pre4 d t h) order fun _ => k0_w4 c0 d t := by
      rw [k0_part49_eq_skeleton]; unfold k0_part49_skel; rw [dif_pos hc]
      chain_rfl
    unfold k0_t4_body; rw [e]
    show _ = _
    chain_rfl
  · next h =>
    refine Eq.trans (b := waitsK (now4 d t t.isLt) order fun _ => headK (offs4 t)) ?_
      (by rw [now4_eq d t t.isLt, offs4_eq t]; rfl)
    have hc : ¬ k0_cond4 t = 1#1 := fun hc => h ((cond4 t).1 hc)
    have e : k0_part49 (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v874 c0 1#32 t =
        k0_w4 c0 d t := by
      rw [k0_part49_eq_skeleton]; unfold k0_part49_skel; rw [dif_neg hc]
      chain_rfl
    unfold k0_t4_body; rw [e]
    show _ = _
    chain_rfl

/-! ## The stages between the loops -/

/-- What stands before the first loop, after the handshake. -/
def stage0 {α : Type} (d : Dev nD) (k : Unit → Pg F α) : Pg F α :=
  sendK mQB (Memref.isWhole_whole _) cc0_scratch10 cc0_scratch11 0 mWq (hstage0_1 0).wordExact ⟨k0_dev3 d, k0_dev3_lt d⟩ fun _ =>
  sendK mOB (Memref.isWhole_whole _) cc0_scratch12 cc0_scratch13 0 mWo (hstage0_2 0).wordExact ⟨k0_dev4 d, k0_dev4_lt d⟩ fun _ =>
  permK places fun _ =>
  .op (.load mWo sqR.toLoadRect (View.loadsAt_vmem h_S1024x1024)) fun w =>
  putWK 0 (k0_pay96 w) fun _ =>
  startsK (fst0 d) order fun _ =>
  .op (.load mXp sqR.toLoadRect (View.loadsAt_vmem h_S1024x1024)) fun x =>
  .op (.load mWq sqR.toLoadRect (View.loadsAt_vmem h_S1024x1024)) fun y =>
  putQK (k0_pay97 x y) k

/-- What stands between loops 1 and 2. -/
def stage1 {α : Type} (d : Dev nD) (k : Unit → Pg F α) : Pg F α :=
  startsK (fst1 d) order fun _ =>
  arriveK mQB (Memref.isWhole_whole _) cc0_scratch10 cc0_scratch11 0 mWq (hstage0_1 0) fun _ =>
  arriveK mOB (Memref.isWhole_whole _) cc0_scratch12 cc0_scratch13 0 mWo (hstage0_2 0) fun _ =>
  sendK mQB (Memref.isWhole_whole _) cc0_scratch10 cc0_scratch11 1 (slotOf mQB 0) (slotOf_exact mQB (Memref.isWhole_whole _) 0) ⟨k0_dev5 d, k0_dev5_lt d⟩ fun _ =>
  sendK mOB (Memref.isWhole_whole _) cc0_scratch12 cc0_scratch13 1 (slotOf mOB 0) (slotOf_exact mOB (Memref.isWhole_whole _) 0) ⟨k0_dev6 d, k0_dev6_lt d⟩ fun _ =>
  .op (.load mOB (slotR 0).toLoadRect (View.loadsAt_vmem h_S1x1024x1024)) fun w =>
  putWK 3 (k0_pay99 w) fun _ =>
  .op (.load mXp sqR.toLoadRect (View.loadsAt_vmem h_S1024x1024)) fun x =>
  .op (.load (slotOf mQB 0) sqR.toLoadRect (View.loadsAt_vmem h_S1024x1024)) fun y =>
  putQK (k0_pay100 x y) k

/-- What stands between loops 2 and 3. -/
def stage2 {α : Type} (d : Dev nD) (k : Unit → Pg F α) : Pg F α :=
  startsK (fst2 d) order fun _ =>
  arriveK mQB (Memref.isWhole_whole _) cc0_scratch10 cc0_scratch11 1 mWq (hstage0_1 0) fun _ =>
  arriveK mOB (Memref.isWhole_whole _) cc0_scratch12 cc0_scratch13 1 mWo (hstage0_2 0) fun _ =>
  sendK mQB (Memref.isWhole_whole _) cc0_scratch10 cc0_scratch11 2 (slotOf mQB 1) (slotOf_exact mQB (Memref.isWhole_whole _) 1) ⟨k0_dev7 d, k0_dev7_lt d⟩ fun _ =>
  sendK mOB (Memref.isWhole_whole _) cc0_scratch12 cc0_scratch13 2 (slotOf mOB 1) (slotOf_exact mOB (Memref.isWhole_whole _) 1) ⟨k0_dev8 d, k0_dev8_lt d⟩ fun _ =>
  .op (.load mOB (slotR 1).toLoadRect (View.loadsAt_vmem h_S1x1024x1024)) fun w =>
  putWK 2 (k0_pay99 w) fun _ =>
  .op (.load mXp sqR.toLoadRect (View.loadsAt_vmem h_S1024x1024)) fun x =>
  .op (.load (slotOf mQB 1) sqR.toLoadRect (View.loadsAt_vmem h_S1024x1024)) fun y =>
  putQK (k0_pay100 x y) k

/-- What stands between loops 3 and 4. -/
def stage3 {α : Type} (d : Dev nD) (k : Unit → Pg F α) : Pg F α :=
  startsK (fst3 d) order fun _ =>
  arriveK mQB (Memref.isWhole_whole _) cc0_scratch10 cc0_scratch11 2 mWq (hstage0_1 0) fun _ =>
  arriveK mOB (Memref.isWhole_whole _) cc0_scratch12 cc0_scratch13 2 mWo (hstage0_2 0) fun _ =>
  .op (.load mOB (slotR 2).toLoadRect (View.loadsAt_vmem h_S1x1024x1024)) fun w =>
  putWK 1 (k0_pay99 w) fun _ =>
  .op (.load mXp sqR.toLoadRect (View.loadsAt_vmem h_S1024x1024)) fun x =>
  .op (.load (slotOf mQB 2) sqR.toLoadRect (View.loadsAt_vmem h_S1024x1024)) fun y =>
  putQK (k0_pay100 x y) k

/-- What stands after the last loop. -/
def stage4 : Pg F Unit :=
  .op (.load mC (Rect.unit (s := S1024x4096) ![0, 0] S1024x4096.size inb_S1024x4096_S1024x4096_0_0).toLoadRect
    (View.loadsAt_vmem h_S1024x4096)) fun c =>
  .op (.load mW (Rect.unit (s := S4096x1024) ![0, 0] S4096x1024.size inb_S4096x1024_S4096x1024_0_0).toLoadRect
    (View.loadsAt_vmem h_S4096x1024)) fun w =>
  outK (k0_pay108 c w) places fun _ => .ret ⟨⟩

/-- The four loops over their common trip. -/
def loopP (j : Fin 4) (d : Dev nD) : Pg F Unit :=
  Scf.Loop.for k0_t1_loop k0_t1_ok ⟨⟩ fun t _ => trip j d t
/-- The runtime's barrier semaphore. -/
abbrev barS : Sem sig := (SemArray.scalar (sig.barrier 0 rfl) : Sems sig S_).sem
/-- The entry handshake. -/
def handshake {α : Type} (d : Dev nD) (k : Unit → Pg F α) : Pg F α :=
  semSignalWord (⟨k0_dev1 d, k0_dev1_lt d⟩ : Dev nD) barS 1#32 >>= fun _ =>
  semSignalWord (⟨k0_dev2 d, k0_dev2_lt d⟩ : Dev nD) barS 1#32 >>= fun _ =>
  semWaitWord barS 2#32 >>= k

/-- The kernel's body, ending in `e`. -/
def progOf {α : Type} (e : Pg F α) : Pg F α :=
  .op .deviceId fun d => handshake d fun _ =>
  stage0 d fun _ => loopP 0 d >>= fun _ =>
  stage1 d fun _ => loopP 1 d >>= fun _ =>
  stage2 d fun _ => loopP 2 d >>= fun _ =>
  stage3 d fun _ => loopP 3 d >>= fun _ => e
/-- The kernel's body. -/
def prog : Pg F Unit := progOf stage4

theorem handshake_bind {α β : Type} (d : Dev nD) (k : Unit → Pg F α) (f : α → Pg F β) :
    (handshake d k >>= f) = handshake d fun x => k x >>= f := by chain_rfl
theorem stage0_bind {α β : Type} (d : Dev nD) (k : Unit → Pg F α) (f : α → Pg F β) :
    (stage0 d k >>= f) = stage0 d fun x => k x >>= f := by chain_rfl
theorem stage1_bind {α β : Type} (d : Dev nD) (k : Unit → Pg F α) (f : α → Pg F β) :
    (stage1 d k >>= f) = stage1 d fun x => k x >>= f := by chain_rfl
theorem stage2_bind {α β : Type} (d : Dev nD) (k : Unit → Pg F α) (f : α → Pg F β) :
    (stage2 d k >>= f) = stage2 d fun x => k x >>= f := by chain_rfl
theorem stage3_bind {α β : Type} (d : Dev nD) (k : Unit → Pg F α) (f : α → Pg F β) :
    (stage3 d k >>= f) = stage3 d fun x => k x >>= f := by chain_rfl
theorem progOf_bind {α β : Type} (e : Pg F α) (f : α → Pg F β) : (progOf e >>= f) = progOf (e >>= f) := by
  unfold progOf
  simp only [Prog.bind_op, handshake_bind, stage0_bind, stage1_bind, stage2_bind, stage3_bind, Prog.bind_assoc]

/-! ## The printed parts that hold the loops -/

theorem loop1_for (d : Dev nD) (v2 : BitVec 32) :
    Scf.Loop.for k0_t1_loop k0_t1_ok ⟨⟩ (k0_t1_body (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v2) = loopP 0 d :=
  congrArg (Scf.Loop.for k0_t1_loop k0_t1_ok ⟨⟩) (funext fun t => funext fun u => loop1_eq d v2 t u)
theorem loop2_for (d : Dev nD) (v2 v348 : BitVec 32) :
    Scf.Loop.for k0_t2_loop k0_t2_ok ⟨⟩ (k0_t2_body (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v2 v348) = loopP 1 d :=
  congrArg (Scf.Loop.for k0_t2_loop k0_t2_ok ⟨⟩) (funext fun t => funext fun u => loop2_eq d v2 v348 t u)
theorem loop3_for (d : Dev nD) (v2 v611 : BitVec 32) :
    Scf.Loop.for k0_t3_loop k0_t3_ok ⟨⟩ (k0_t3_body (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v2 v611) = loopP 2 d :=
  congrArg (Scf.Loop.for k0_t3_loop k0_t3_ok ⟨⟩) (funext fun t => funext fun u => loop3_eq d v2 v611 t u)
theorem loop4_for (d : Dev nD) (v874 c0 : BitVec 32) :
    Scf.Loop.for k0_t4_loop k0_t4_ok ⟨⟩ (k0_t4_body (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v874 c0) = loopP 3 d :=
  congrArg (Scf.Loop.for k0_t4_loop k0_t4_ok ⟨⟩) (funext fun t => funext fun u => loop4_eq d v874 c0 t u)

/-- What the first loop's part does before its loop. -/
def pre69 {α : Type} (d : Dev nD) (k : Unit → Pg F α) : Pg F α :=
  startsK (fst0 d) [(true, 15)] fun _ =>
  .op (.load mXp sqR.toLoadRect (View.loadsAt_vmem h_S1024x1024)) fun x =>
  .op (.load mWq sqR.toLoadRect (View.loadsAt_vmem h_S1024x1024)) fun y =>
  putQK (k0_pay97 x y) k
/-- What the second loop's part does before its loop. -/
def pre79 {α : Type} (k : Unit → Pg F α) : Pg F α :=
  .op (.load mOB (slotR 0).toLoadRect (View.loadsAt_vmem h_S1x1024x1024)) fun w =>
  putWK 3 (k0_pay99 w) fun _ =>
  .op (.load mXp sqR.toLoadRect (View.loadsAt_vmem h_S1024x1024)) fun x =>
  .op (.load (slotOf mQB 0) sqR.toLoadRect (View.loadsAt_vmem h_S1024x1024)) fun y =>
  putQK (k0_pay100 x y) k
/-- What the third loop's part does before its loop. -/
def pre89 {α : Type} (d : Dev nD) (k : Unit → Pg F α) : Pg F α :=
  sendK mOB (Memref.isWhole_whole _) cc0_scratch12 cc0_scratch13 2 (slotOf mOB 1) (slotOf_exact mOB (Memref.isWhole_whole _) 1) ⟨k0_dev8 d, k0_dev8_lt d⟩ fun _ =>
  .op (.load mOB (slotR 1).toLoadRect (View.loadsAt_vmem h_S1x1024x1024)) fun w =>
  putWK 2 (k0_pay99 w) fun _ =>
  .op (.load mXp sqR.toLoadRect (View.loadsAt_vmem h_S1024x1024)) fun x =>
  .op (.load (slotOf mQB 1) sqR.toLoadRect (View.loadsAt_vmem h_S1024x1024)) fun y =>
  putQK (k0_pay100 x y) k

def w69 (v2 : BitVec 32) : BitVec 32 :=
  let v337 : BitVec 32 := Scalar.addi v2 4#32
  let v338 : BitVec 32 := Scalar.subi v337 1#32
  let v339 : BitVec 1 := Scalar.cmpi .eq 4#32 0#32
  let v340 : BitVec 32 := Scalar.select v339 1#32 4#32
  let v341 : BitVec 32 := Scalar.remsi v338 v340
  let v342 : BitVec 1 := Scalar.cmpi .ne v341 0#32
  let v343 : BitVec 1 := Scalar.cmpi .slt v341 0#32
  let v344 : BitVec 1 := Scalar.cmpi .slt v340 0#32
  let v345 : BitVec 1 := Scalar.xori v343 v344
  let v346 : BitVec 1 := Scalar.andi v345 v342
  let v347 : BitVec 32 := Scalar.addi v341 v340
  let v348 : BitVec 32 := Scalar.select v346 v347 v341
  v348
def w79 (v2 v348 : BitVec 32) : Σ' (v611 : BitVec 32), BitVec 32 :=
  let v600 : BitVec 32 := Scalar.addi v2 4#32
  let v601 : BitVec 32 := Scalar.subi v600 2#32
  let v602 : BitVec 1 := Scalar.cmpi .eq 4#32 0#32
  let v603 : BitVec 32 := Scalar.select v602 1#32 4#32
  let v604 : BitVec 32 := Scalar.remsi v601 v603
  let v605 : BitVec 1 := Scalar.cmpi .ne v604 0#32
  let v606 : BitVec 1 := Scalar.cmpi .slt v604 0#32
  let v607 : BitVec 1 := Scalar.cmpi .slt v603 0#32
  let v608 : BitVec 1 := Scalar.xori v606 v607
  let v609 : BitVec 1 := Scalar.andi v608 v605
  let v610 : BitVec 32 := Scalar.addi v604 v603
  let v611 : BitVec 32 := Scalar.select v609 v610 v604
  ⟨v611, 8#32⟩
def w89 (v2 v611 : BitVec 32) : Σ' (v866 : BitVec 32) (v867 : BitVec 32) (v868 : BitVec 1), BitVec 1 :=
  let v863 : BitVec 32 := Scalar.addi v2 4#32
  let v864 : BitVec 32 := Scalar.subi v863 3#32
  let v865 : BitVec 1 := Scalar.cmpi .eq 4#32 0#32
  let v866 : BitVec 32 := Scalar.select v865 1#32 4#32
  let v867 : BitVec 32 := Scalar.remsi v864 v866
  let v868 : BitVec 1 := Scalar.cmpi .ne v867 0#32
  let v869 : BitVec 1 := Scalar.cmpi .slt v867 0#32
  let v870 : BitVec 1 := Scalar.cmpi .slt v866 0#32
  let v871 : BitVec 1 := Scalar.xori v869 v870
  ⟨v866, v867, v868, v871⟩

theorem part69_bind {β : Type} (d : Dev nD) (v2 : BitVec 32) (k : BitVec 32 → Pg F β) :
    (k0_part69 (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v2 >>= k) = pre69 d fun _ => loopP 0 d >>= fun _ => k (w69 v2) := by
  rw [← loop1_for d v2, k0_part69_eq_skeleton]
  refine Eq.trans (b := pre69 d fun _ => (Scf.Loop.for k0_t1_loop k0_t1_ok ⟨⟩ (k0_t1_body (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v2) >>=
    fun _ => Prog.ret (w69 v2)) >>= k) ?_ (congrArg (pre69 d) (funext fun _ => Prog.bind_assoc ..))
  show _ = _
  chain_rfl
theorem part79_bind {β : Type} (d : Dev nD) (v2 v348 : BitVec 32) (k : (Σ' (v611 : BitVec 32), BitVec 32) → Pg F β) :
    (k0_part79 (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v2 v348 >>= k) = pre79 fun _ => loopP 1 d >>= fun _ => k (w79 v2 v348) := by
  rw [← loop2_for d v2 v348, k0_part79_eq_skeleton]
  refine Eq.trans (b := pre79 fun _ => (Scf.Loop.for k0_t2_loop k0_t2_ok ⟨⟩ (k0_t2_body (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v2 v348) >>=
    fun _ => Prog.ret (w79 v2 v348)) >>= k) ?_ (congrArg pre79 (funext fun _ => Prog.bind_assoc ..))
  show _ = _
  chain_rfl
theorem part89_bind {β : Type} (d : Dev nD) (v2 v611 : BitVec 32)
    (k : (Σ' (v866 : BitVec 32) (v867 : BitVec 32) (v868 : BitVec 1), BitVec 1) → Pg F β) :
    (k0_part89 (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v2 v611 >>= k) = pre89 d fun _ => loopP 2 d >>= fun _ => k (w89 v2 v611) := by
  rw [← loop3_for d v2 v611, k0_part89_eq_skeleton]
  refine Eq.trans (b := pre89 d fun _ => (Scf.Loop.for k0_t3_loop k0_t3_ok ⟨⟩ (k0_t3_body (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v2 v611) >>=
    fun _ => Prog.ret (w89 v2 v611)) >>= k) ?_ (congrArg (pre89 d) (funext fun _ => Prog.bind_assoc ..))
  show _ = _
  chain_rfl
/-- What the last loop's part does after its loop. -/
def post99 : Pg F (Σ' (v1108 : FVec F S1024x1024 .f32), FVec F S1x64x1024 .f32) :=
  .op (.load mC (Rect.unit (s := S1024x4096) ![0, 0] S1024x4096.size inb_S1024x4096_S1024x4096_0_0).toLoadRect
    (View.loadsAt_vmem h_S1024x4096)) fun c =>
  .op (.load mW (Rect.unit (s := S4096x1024) ![0, 0] S4096x1024.size inb_S4096x1024_S4096x1024_0_0).toLoadRect
    (View.loadsAt_vmem h_S4096x1024)) fun w =>
  outK (k0_pay108 c w) [0, 1, 2, 3, 4] fun _ =>
  .op (.load mOut (xR 5).toLoadRect (View.loadsAt_vmem h_S1x64x1024)) fun _ =>
  .ret ⟨k0_pay108 c w, outVal 5 (k0_pay108 c w)⟩
theorem part99_eq (d : Dev nD) (v874 c0 : BitVec 32) :
    k0_part99 (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v874 c0 = loopP 3 d >>= fun _ => post99 := by
  rw [← loop4_for d v874 c0, k0_part99_eq_skeleton]
  chain_rfl
theorem part99_bind {β : Type} (d : Dev nD) (v874 c0 : BitVec 32)
    (k : (Σ' (v1108 : FVec F S1024x1024 .f32), FVec F S1x64x1024 .f32) → Pg F β) :
    (k0_part99 (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 d v874 c0 >>= k) = loopP 3 d >>= fun _ => post99 >>= k := by
  rw [part99_eq, Prog.bind_assoc]

/-- What the last part does after the part before it. -/
def post101 (acc : FVec F S1024x1024 .f32) (y : FVec F S64x1024 .f32) : Pg F (FVec F S64x1024 .f32) :=
  .op (.load mOut (xR 13).toLoadRect (View.loadsAt_vmem h_S1x64x1024)) fun _ =>
  .op (.store mOut (xR 13) (k0_pay123 y) Finset.univ (View.stores_vmem_bits_univ h_S1x64x1024 rfl) (.inl rfl)) fun _ =>
  outK acc [14] fun _ => .ret (k0_pay125 acc)
/-- The printed body is `prog`. -/
theorem body_eq : cc0_body (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 = prog := by
  have e : k0_part101 (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 = progOf (post99 >>= fun x => (k0_part100 (F := F) mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 x.1 x.2 >>= fun y => post101 x.1 y)) := by
    rw [k0_part101_eq_skeleton]; unfold k0_part101_skel
    simp only [part69_bind, part79_bind, part89_bind, part99_bind]
    show _ = _
    chain_rfl
  rw [cc0_body_eq_skeleton]; unfold cc0_body_skel
  rw [e, progOf_bind]
  show _ = _
  chain_rfl

end Cert.RingAttn
-- ==== Proof.Setup.lean ====
/-
# The ring and its bookkeeping

The devices in their ring, the resource algebra, the cells the devices signal each other on, what each device owes
in order of payment (`owing`), and the levels that order the waits.
-/
module

public import proofs.«01_k».proof.Proof.Clean
public import Idealize.ShloMosaic.Lib.Pipeline.Launch
public import Idealize.ShloMosaic.Lib.Pipeline.Kit
public import Idealize.ShloMosaic.Lib.Tactic
public import Idealize.ShloMosaic.Lib.Transfers

@[expose] public section

set_option maxRecDepth 65536

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring cells' share of the algebra. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' share. -/
abbrev EC : UEmb Counters (MT nD τ sig Unit (Elt F) ℕ UU ℕ) := countersEmb

abbrev 𝒱₀ : Variants := Variants.none

/-! ## The ring -/

set_option backward.proofsInPublic true in
/-- The device on the right; -/
def rgt (c : Dev nD) : Dev nD := ⟨(c.val + 1) % 4, Nat.mod_lt _ (by decide)⟩
set_option backward.proofsInPublic true in
/-- the device on the left. -/
def lft (c : Dev nD) : Dev nD := ⟨(c.val + 3) % 4, Nat.mod_lt _ (by decide)⟩

/-- The device buffer `b` is sent to: the query weights (`false`) go right, the output weights (`true`) go left. -/
def tgt (b : Bool) (c : Dev nD) : Dev nD := if b then lft c else rgt c
/-- The device buffer `b` comes from. -/
def fr (b : Bool) (c : Dev nD) : Dev nD := if b then rgt c else lft c

theorem fr_tgt (b : Bool) (c : Dev nD) : fr b (tgt b c) = c := by revert b c; decide
theorem tgt_fr (b : Bool) (c : Dev nD) : tgt b (fr b c) = c := by revert b c; decide
theorem tgt_true_eq (c : Dev nD) : tgt true c = fr false c := rfl
theorem tgt_false_eq (c : Dev nD) : tgt false c = fr true c := rfl

theorem dev1_eq (c : Dev nD) : (⟨k0_dev1 c, k0_dev1_lt c⟩ : Dev nD) = fr false c := by revert c; decide +kernel
theorem dev2_eq (c : Dev nD) : (⟨k0_dev2 c, k0_dev2_lt c⟩ : Dev nD) = fr true c := by revert c; decide +kernel
theorem dev3_eq (c : Dev nD) : (⟨k0_dev3 c, k0_dev3_lt c⟩ : Dev nD) = tgt false c := by revert c; decide +kernel
theorem dev4_eq (c : Dev nD) : (⟨k0_dev4 c, k0_dev4_lt c⟩ : Dev nD) = tgt true c := by revert c; decide +kernel
theorem dev5_eq (c : Dev nD) : (⟨k0_dev5 c, k0_dev5_lt c⟩ : Dev nD) = tgt false c := by revert c; decide +kernel
theorem dev6_eq (c : Dev nD) : (⟨k0_dev6 c, k0_dev6_lt c⟩ : Dev nD) = tgt true c := by revert c; decide +kernel
theorem dev7_eq (c : Dev nD) : (⟨k0_dev7 c, k0_dev7_lt c⟩ : Dev nD) = tgt false c := by revert c; decide +kernel
theorem dev8_eq (c : Dev nD) : (⟨k0_dev8 c, k0_dev8_lt c⟩ : Dev nD) = tgt true c := by revert c; decide +kernel

def ringEquiv (b : Bool) : Dev nD ≃ Dev nD := ⟨tgt b, fr b, fr_tgt b, tgt_fr b⟩

/-! ## The cells -/

/-- The landing buffers: query weights at `false`, output weights at `true`. -/
abbrev wBuf : Bool → Memref sig .tc .vmem S3x1024x1024 .bf16
  | false => mQB
  | true => mOB
theorem wBuf_whole (b : Bool) : (wBuf b).IsWhole := by cases b <;> exact Memref.isWhole_whole _
/-- The device's own weight. -/
abbrev wOwn : Bool → Memref sig .tc .vmem S1024x1024 .bf16
  | false => mWq
  | true => mWo
theorem wOwn_whole (b : Bool) : (wOwn b).IsWhole := by cases b <;> exact Memref.isWhole_whole _
abbrev sSem : Bool → DmaSems sig S3
  | false => cc0_scratch10
  | true => cc0_scratch12
abbrev rSem : Bool → DmaSems sig S3
  | false => cc0_scratch11
  | true => cc0_scratch13

/-- The ring's cells on one device: the barrier (`none`); of buffer `b` and slot `s`, what the send pays
    (`(b, false, s)`) and what the landing pays (`(b, true, s)`). -/
abbrev CI : Type := Option (Bool × Bool × Fin 3)

def ringSem (x : Bool × Bool × Fin 3) : DmaSem sig := semOf (if x.2.1 then rSem x.1 else sSem x.1) x.2.2
def csem : CI → SemLoc sig
  | none => .reg barS
  | some x => .dma (ringSem x)
abbrev kcell (c : Dev nD) (k : CI) : GSem nD τ sig := ((c : Thread nD τ), csem k)
abbrev barCell (c : Dev nD) : GSem nD τ sig := kcell c none
abbrev sendCell (c : Dev nD) (b : Bool) (s : Fin 3) : GSem nD τ sig := kcell c (some (b, false, s))
abbrev recvCell (c : Dev nD) (b : Bool) (s : Fin 3) : GSem nD τ sig := kcell c (some (b, true, s))

/-- The semaphore of K or V tile `i` in slot `s`. -/
def kvSemAt (x : Bool × Fin 2 × Fin 16) : DmaSem sig :=
  (fam x.2.1.val 0 0 x.2.1.isLt (by decide) (by decide)).sem x.1 x.2.2

theorem ringSem_injective : Function.Injective ringSem := by decide +kernel
theorem kvSemAt_injective : Function.Injective kvSemAt := by decide +kernel
theorem kvSemAt_ne_ringSem : ∀ x y, kvSemAt x ≠ ringSem y := by decide +kernel

theorem csem_injective : Function.Injective csem := by
  intro a b h
  match a, b with
  | none, none => rfl
  | none, some _ => exact absurd h (by simp [csem])
  | some _, none => exact absurd h (by simp [csem])
  | some x, some y => exact congrArg some (ringSem_injective (SemLoc.dma.inj h))

theorem kcell_inj {c c' : Dev nD} {k k' : CI} : kcell c k = kcell c' k' ↔ c = c' ∧ k = k' := by
  constructor
  · intro h
    have h1 : c = c' := congrArg (fun g : GSem nD τ sig => g.1.1) h
    exact ⟨h1, csem_injective (congrArg Prod.snd h)⟩
  · rintro ⟨rfl, rfl⟩; rfl

/-! ## What is owed, in order of payment -/

/-- The sum of a list of dues, the first the last summand. -/
def dues : List (GSem nD τ sig × ℕ) → CellTallies nD τ sig Unit
  | [] => 0
  | x :: l => dues l + tallyAt x.1 () x.2

/-- The bytes of one weight block. -/
def N : ℕ := (slotOf mQB 0).view.dmaCredit

theorem N_pos : 0 < N := View.dmaCredit_pos _ (by decide)

/-- What device `c` owes, the next payment first: the two signals, then the sends of slots 0, 1 and 2. -/
def owing (c : Dev nD) : List (GSem nD τ sig × ℕ) :=
  [(barCell (fr false c), 1), (barCell (fr true c), 1),
   (recvCell (tgt false c) false 0, N), (recvCell (tgt true c) true 0, N),
   (recvCell (tgt false c) false 1, N), (recvCell (tgt true c) true 1, N),
   (recvCell (tgt false c) false 2, N), (recvCell (tgt true c) true 2, N)]

/-- What device `c` owes after `n` payments. -/
def O (c : Dev nD) (n : ℕ) : CellTallies nD τ sig Unit := dues ((owing c).drop n)

def L (g : GSem nD τ sig) : Finset Unit := if g.1.2 = .tc then {()} else ∅
/-- The level of a semaphore: the barrier's 1, the landing of slot `s`'s `2 + s`, every other's 0. -/
def lvS (sm : SemLoc sig) : ℕ :=
  if sm = csem none then 1
  else if sm = csem (some (false, true, 0)) ∨ sm = csem (some (true, true, 0)) then 2
  else if sm = csem (some (false, true, 1)) ∨ sm = csem (some (true, true, 1)) then 3
  else if sm = csem (some (false, true, 2)) ∨ sm = csem (some (true, true, 2)) then 4
  else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_bar : lvS (csem none) = 1 := by unfold lvS; rw [if_pos rfl]
theorem lvS_recv : ∀ (b : Bool) (s : Fin 3), lvS (csem (some (b, true, s))) = 2 + s.val := by
  intro b s
  unfold lvS
  simp only [csem_injective.eq_iff]
  revert b s; decide
theorem lvS_send : ∀ (b : Bool) (s : Fin 3), lvS (csem (some (b, false, s))) = 0 := by
  intro b s
  unfold lvS
  simp only [csem_injective.eq_iff]
  revert b s; decide
theorem lvS_other (q : DmaSem sig) (h : ∀ b s, q ≠ ringSem (b, true, s)) : lvS (.dma q) = 0 := by
  have hn : ∀ b s, SemLoc.dma q ≠ csem (some (b, true, s)) := fun b s e => h b s (SemLoc.dma.inj e)
  unfold lvS
  rw [if_neg (by simp [csem]), if_neg (by simp [hn]), if_neg (by simp [hn]), if_neg (by simp [hn])]

/-- Every due of the list is at a device's core, above level `n`. -/
def Above (n : ℕ) (l : List (GSem nD τ sig × ℕ)) : Prop := ∀ x ∈ l, x.1.1.2 = .tc ∧ n < lv x.1 ()

theorem dues_pos {l : List (GSem nD τ sig × ℕ)} {g : GSem nD τ sig} {u : Unit} (h : 0 < dues l g u) : ∃ x ∈ l, x.1 = g := by
  induction l with
  | nil => exact absurd h (Nat.lt_irrefl 0)
  | cons x l ih =>
    unfold dues at h
    rw [Pi.add_apply, Finsupp.add_apply, tallyAt_apply] at h
    by_cases hx : x.1 = g
    · exact ⟨x, List.mem_cons_self, hx⟩
    · rw [if_neg (fun h' => hx h'.1.symm), Nat.add_zero] at h
      obtain ⟨y, hy, e⟩ := ih h
      exact ⟨y, List.mem_cons_of_mem _ hy, e⟩

omit [FloatOps F] in
/-- A wait at or below level `n` while every due is above it. -/
theorem mayWait (c : Dev nD) (sm : SemLoc sig) (n : ℕ) (l : List (GSem nD τ sig × ℕ)) (hs : lvS sm ≤ n) (hl : Above n l) :
    (levAts L lv : sProp 𝕄) ⊢ MayWait (c : Thread nD τ) sm () (dues l) :=
  MayOwe.of_cut (L := L) (lev := lv) n (fun p hp => by rw [Finset.mem_singleton.mp hp, L_tc]; exact Finset.mem_singleton_self _)
    (fun g u hg => by
      obtain ⟨x, hx, rfl⟩ := dues_pos hg
      unfold L; rw [if_pos (hl x hx).1]; exact Finset.mem_singleton_self _)
    (fun p hp => by rw [Finset.mem_singleton.mp hp]; exact hs)
    (fun g u hg => by
      obtain ⟨x, hx, rfl⟩ := dues_pos hg
      exact (hl x hx).2)

/-- The levels of the dues in order. -/
def owingLv : List ℕ := [1, 1, 2, 2, 3, 3, 4, 4]

theorem owing_lv (c : Dev nD) : (owing c).map (fun x => lv x.1 ()) = owingLv := by
  simp only [owing, List.map, lv, lvS_bar, lvS_recv]; rfl
theorem owing_tc (c : Dev nD) : ∀ x ∈ owing c, x.1.1.2 = .tc := by
  intro x hx
  simp only [owing, List.mem_cons, List.not_mem_nil, or_false] at hx
  rcases hx with h | h | h | h | h | h | h | h <;> subst h <;> rfl

theorem above_owing (c : Dev nD) (n k : ℕ) (h : ∀ y ∈ owingLv.drop k, n < y) : Above n ((owing c).drop k) := by
  intro x hx
  refine ⟨owing_tc c x (List.mem_of_mem_drop hx), h _ ?_⟩
  rw [← owing_lv c, ← List.map_drop]
  exact List.mem_map_of_mem hx

end Cert.RingAttn
-- ==== Proof.Copies.lean ====
/-
# The copies of the K and V tiles

One copy at a time: before its start a tile's place is idle (`idle1`), from its start to its wait a copy of head `h`
is in flight (`busy1`), after its wait the place holds the tile (`full1`). Then lists of them (`wp_starts`, `wp_waits`)
and a whole slot of sixteen tiles of K and of V (`slot_open`, `slot_close`).
-/
module

public import proofs.«01_k».proof.Proof.Setup
public import Idealize.ShloMosaic.Lib.ValueIdx
public import Idealize.ShloMosaic.Lib.ValueLayout
public import Idealize.ShloMosaic.Lib.VecWindow

@[expose] public section

set_option maxRecDepth 65536

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx

variable {F : FTy → Type} [FloatOps F]

local notation "𝕄" => MT nD τ sig Unit (Elt F) ℕ UU ℕ

/-! ## Lists of resources -/

/-- The separating conjunction of `Φ` over a list. -/
def sepL {X : Type} (Φ : X → sProp 𝕄) : List X → sProp 𝕄
  | [] => iprop(emp)
  | x :: l => iprop(Φ x ∗ sepL Φ l)

omit [FloatOps F] in
theorem sepL_eq {X : Type} [DecidableEq X] (Φ : X → sProp 𝕄) (l : List X) (h : l.Nodup) : sepL Φ l = bigSep l.toFinset Φ := by
  induction l with
  | nil => rw [List.toFinset_nil, bigSep_empty]; rfl
  | cons x l ih =>
    rw [List.toFinset_cons, bigSep_insert (by rw [List.mem_toFinset]; exact (List.nodup_cons.mp h).1), ← ih (List.nodup_cons.mp h).2]
    rfl

omit [FloatOps F] in
theorem sepL_order (Φ : Bool × Fin 16 → sProp 𝕄) :
    sepL Φ order = iprop((bigSep Finset.univ fun i => Φ (false, i)) ∗ bigSep Finset.univ fun i => Φ (true, i)) := by
  rw [sepL_eq Φ order (by decide), show order.toFinset = Finset.univ by decide, bigSep_univ_prod,
    bigSep_univ_eq_bigSepL [false, true] (by decide) (by decide)]
  rfl

/-! ## The tiles -/

/-- The row that stands at place `r`. -/
def permRow (r : Fin 1024) : Fin 1024 :=
  ⟨64 * blk ⟨r.val / 64, by omega⟩ + r.val % 64, by have := blk_lt ⟨r.val / 64, by omega⟩; omega⟩

/-- Head `h` of device `d`'s rows of `a`, in the order of the places. -/
def tileFn (a : S4x1024x32x128.Idx → Elt F .f32) (d : Fin 4) (h : Fin 32) : S2x1024x128.Idx → Elt F .f32 :=
  fun x => a (ix4 d (permRow (x 1)) h (x 2))

/-- Contents of the K or V array, -/
def kvC (c : Dev nD) (b : Bool) (g : S4x1024x32x128.Idx → Elt F .f32) : Buf (Elt F) ((kvArr b).view.loc (c : Thread nD τ)) :=
  match b with
  | false => g
  | true => g
/-- and of the K or V buffer. -/
def kvB (c : Dev nD) (b : Bool) (g : S2x1024x128.Idx → Elt F .f32) : Buf (Elt F) ((kvBuf b).view.loc (c : Thread nD τ)) :=
  match b with
  | false => g
  | true => g

/-- The copies of head `h` into slot `s`. -/
abbrev famS (c : Dev nD) (s : Fin 2) (h : Fin 32) : Fam := fam s.val c.val h.val s.isLt c.isLt h.isLt
/-- The copies into slot `s` of any head. -/
abbrev fam0 (s : Fin 2) : Fam := fam s.val 0 0 s.isLt (by decide) (by decide)

/-- The tile's place. -/
abbrev dset (b : Bool) (s : Fin 2) (i : Fin 16) := ((fam0 s).dst b i).view.set

theorem dst_emb (s : Fin 2) (i : Fin 16) (r : Rect S2x1024x128) (hr : r = Rect.unit (s := S2x1024x128) ((fam0 s).dof i) S1x64x128.size ((fam0 s).hdof i))
    (x : Fin 64) (y : Fin 128) :
    (Rect.unit (s := S2x1024x128) ((fam0 s).dof i) S1x64x128.size ((fam0 s).hdof i)).emb
      (Shape.reshapeEquiv (squeezes_S1x64x128_S64x128).numel_eq (ix2 x y))
      = ix3 (n0 := 2) (n1 := 1024) (n2 := 128) s ⟨64 * i.val + x.val, by omega⟩ y := by
  rw [show Shape.reshapeEquiv (squeezes_S1x64x128_S64x128).numel_eq (ix2 x y) = ix3 (⟨0, Nat.one_pos⟩ : Fin 1) x y from reshapeEquiv_ix2_1ab _ x y]
  funext a
  apply Fin.ext
  fin_cases a
  · show s.val + 1 * 0 = s.val; omega
  · show 64 * i.val + 1 * x.val = 64 * i.val + x.val; omega
  · show 0 + 1 * y.val = y.val; omega

theorem src_emb (c : Dev nD) (s : Fin 2) (h : Fin 32) (i : Fin 16) (x : Fin 64) (y : Fin 128) :
    (Rect.unit (s := S4x1024x32x128) ((famS c s h).co i) S1x64x1x128.size ((famS c s h).hco i)).emb
      (Shape.reshapeEquiv (squeezes_S1x64x1x128_S64x128).numel_eq (ix2 x y))
      = ix4 (n0 := 4) (n1 := 1024) (n2 := 32) (n3 := 128) c ⟨64 * blk i + x.val, by have := blk_lt i; omega⟩ h y := by
  rw [show Shape.reshapeEquiv (squeezes_S1x64x1x128_S64x128).numel_eq (ix2 x y)
      = ix4 (⟨0, Nat.one_pos⟩ : Fin 1) x (⟨0, Nat.one_pos⟩ : Fin 1) y from Shape.reshapeEquiv_eq_of_rowMajor _ (by
    rw [Shape.rowMajor_val_four, Shape.rowMajor_val_two]
    show ((0 * 64 + x.val) * 1 + 0) * 128 + y.val = x.val * 128 + y.val
    omega)]
  funext a
  apply Fin.ext
  fin_cases a
  · show c.val + 1 * 0 = c.val; omega
  · show 64 * blk i + 1 * x.val = 64 * blk i + x.val; omega
  · show h.val + 1 * 0 = h.val; omega
  · show 0 + 1 * y.val = y.val; omega

theorem permRow_at (i : Fin 16) (x : Fin 64) (hx : 64 * i.val + x.val < 1024) :
    permRow ⟨64 * i.val + x.val, hx⟩ = ⟨64 * blk i + x.val, by have := blk_lt i; omega⟩ := by
  apply Fin.ext
  have h1 : (64 * i.val + x.val) / 64 = i.val := by omega
  have h2 : (64 * i.val + x.val) % 64 = x.val := by omega
  show 64 * blk ⟨(64 * i.val + x.val) / 64, _⟩ + (64 * i.val + x.val) % 64 = _
  simp only [h1, h2]

omit [FloatOps F] in
/-- What a copy lands is the tile. -/
theorem landed_tile (c : Dev nD) (b : Bool) (s : Fin 2) (h : Fin 32) (i : Fin 16) (a : S4x1024x32x128.Idx → Elt F .f32)
    (fd : Buf (Elt F) (((famS c s h).dst b i).view.loc (c : Thread nD τ))) :
    ∀ x ∈ ((famS c s h).dst b i).view.set,
      ((famS c s h).dst b i).view.write (Elt F) fd (((famS c s h).src b i).view.read (Elt F) (kvC c b a)) Finset.univ x
        = kvB c b (tileFn a c h) x := by
  intro x hx
  obtain ⟨y, -, rfl⟩ := Finset.mem_map.mp hx
  rw [View.write_emb_of_mem _ _ (Finset.mem_univ y)]
  rw [eq_ix2 y]
  cases b
  · show a _ = tileFn a c h _
    refine (congrArg a (src_emb c s h i (y 0) (y 1))).trans ?_
    refine Eq.trans ?_ (congrArg (tileFn a c h) (dst_emb s i _ rfl (y 0) (y 1)).symm)
    show _ = a (ix4 c (permRow _) h _)
    exact congrArg (fun r => a (ix4 c r h (y 1))) (permRow_at i (y 0) _).symm
  · show a _ = tileFn a c h _
    refine (congrArg a (src_emb c s h i (y 0) (y 1))).trans ?_
    refine Eq.trans ?_ (congrArg (tileFn a c h) (dst_emb s i _ rfl (y 0) (y 1)).symm)
    show _ = a (ix4 c (permRow _) h _)
    exact congrArg (fun r => a (ix4 c r h (y 1))) (permRow_at i (y 0) _).symm

/-! ## One copy -/

/-- The share of the K or V array that slot `s`'s copies read; -/
def slotS (s : Fin 2) : PosShare TreeShare := if s = 0 then fullShare.left else fullShare.right
/-- the copy's own token of it. -/
def tok (s : Fin 2) (i : Fin 16) : PosShare TreeShare := shareTok (slotS s) 16 i

section One
variable (c : Dev nD) (fa : Bool → S4x1024x32x128.Idx → Elt F .f32)

def arrTok (s : Fin 2) (x : Bool × Fin 16) : sProp 𝕄 :=
  (kvArr x.1).view.loc (c : Thread nD τ) ↦[Finset.univ]{tok s x.2} kvC c x.1 (fa x.1)

/-- The tile's counter at zero, its place at some contents and its token. -/
def idle1 (s : Fin 2) (x : Bool × Fin 16) : sProp 𝕄 :=
  iprop(semVal ((c : Thread nD τ), .dma (kvSemAt (x.1, s, x.2))) 0
    ∗ (∃ f, (kvBuf x.1).view.loc (c : Thread nD τ) ↦[dset x.1 s x.2]{fullShare} f) ∗ arrTok c fa s x)
/-- The same with the tile of head `h` in place. -/
def full1 (s : Fin 2) (h : Fin 32) (x : Bool × Fin 16) : sProp 𝕄 :=
  iprop(semVal ((c : Thread nD τ), .dma (kvSemAt (x.1, s, x.2))) 0
    ∗ ((kvBuf x.1).view.loc (c : Thread nD τ) ↦[dset x.1 s x.2]{fullShare} kvB c x.1 (tileFn (fa x.1) c h)) ∗ arrTok c fa s x)
/-- The copy of head `h`'s tile in flight. -/
def busy1 (s : Fin 2) (h : Fin 32) (x : Bool × Fin 16) : sProp 𝕄 :=
  iprop(Flight EC (c : Thread nD τ) (.dma (kvSemAt (x.1, s, x.2))) () ((famS c s h).dst x.1 x.2).view.dmaCredit
      iprop(((kvBuf x.1).view.loc (c : Thread nD τ) ↦[dset x.1 s x.2]{fullShare} kvB c x.1 (tileFn (fa x.1) c h))
        ∗ ((kvArr x.1).view.loc (c : Thread nD τ) ↦[((famS c s h).src x.1 x.2).view.set]{tok s x.2} kvC c x.1 (fa x.1)))
    ∗ ((kvArr x.1).view.loc (c : Thread nD τ) ↦[Finset.univ \ ((famS c s h).src x.1 x.2).view.set]{tok s x.2} kvC c x.1 (fa x.1)))

omit [FloatOps F] in
theorem full1_idle (s : Fin 2) (h : Fin 32) (x : Bool × Fin 16) : full1 c fa s h x ⊢ idle1 c fa s x := by
  unfold full1 idle1
  iintro ⟨H1, H2, H3⟩
  isplitl [H1]; · iexact H1
  isplitl [H2]; · iexists _; iexact H2
  iexact H3

theorem wp_start1 (s : Fin 2) (h : Fin 32) (x : Bool × Fin 16) (l : List (Bool × Fin 16)) {α : Type} {Q : α → sProp 𝕄} {k : Unit → Pg F α} :
    idle1 c fa s x ⊢ iprop((busy1 c fa s h x
        -∗ wp frame (wpE (defs₀ (F := F)) 𝒱₀ (c : Thread nD τ) none) Set.univ (startsK (famS c s h) l k) Q)
      -∗ wp frame (wpE (defs₀ (F := F)) 𝒱₀ (c : Thread nD τ) none) Set.univ (startsK (famS c s h) (x :: l) k) Q) := by
  rw [startsK]
  unfold idle1 busy1 arrTok
  iintro ⟨Hv, ⟨%f, Hd⟩, Ha⟩ Hk
  ihave Ha' := (pointsTo_split_subset (Finset.subset_univ ((famS c s h).src x.1 x.2).view.set)).1 $$ Ha
  icases Ha' with ⟨Hs, Hr⟩
  iapply (wp_dmaLocal EC 𝒱₀ (c : Thread nD τ) none (src := (famS c s h).src x.1 x.2) (dst := (famS c s h).dst x.1 x.2)
    (sm := .dma ((famS c s h).sem x.1 x.2)) (q := tok s x.2) (fs := kvC c x.1 (fa x.1)) (Sd := ((famS c s h).dst x.1 x.2).view.set) (fd := f)
    () ((famS c s h).dst x.1 x.2).view.dmaCredit rfl (View.dmaCredit_pos _ (by decide)) (Finset.Subset.refl _)) $$ [Hv Hd Hs]
  · isplitl [Hs]; · iexact Hs
    isplitl [Hd]; · iexact Hd
    iexact Hv
  iintro Hf
  iapply Hk
  isplitl [Hf]
  · iapply (Flight_mono (EC := EC) (h := ?_)) $$ Hf
    refine sep_mono_left (Entails.of_eq ?_)
    exact pointsTo_congr (landed_tile c x.1 s h x.2 (fa x.1) f)
  · iexact Hr

theorem wp_wait1 (s : Fin 2) (h : Fin 32) (x : Bool × Fin 16) (D : List (GSem nD τ sig × ℕ)) (hD : Above 0 D) (W : Waits sig Unit)
    (l : List (Bool × Fin 16)) {α : Type} {Q : α → sProp 𝕄} {k : Unit → Pg F α} :
    iprop(busy1 c fa s h x ∗ owes (c : Thread nD τ) (dues D) W ∗ levAts L lv)
      ⊢ iprop(((full1 c fa s h x ∗ ∃ W, owes (c : Thread nD τ) (dues D) W)
          -∗ wp frame (wpE (defs₀ (F := F)) 𝒱₀ (c : Thread nD τ) none) Set.univ (waitsK (famS c s h) l k) Q)
      -∗ wp frame (wpE (defs₀ (F := F)) 𝒱₀ (c : Thread nD τ) none) Set.univ (waitsK (famS c s h) (x :: l) k) Q) := by
  rw [waitsK]
  unfold busy1 full1 arrTok
  iintro ⟨⟨Hf, Hr⟩, HO, Hlev⟩ Hk
  iapply (wp_waitLocalO EC 𝒱₀ (c : Thread nD τ) none (sem := (famS c s h).sem x.1 x.2) (srcw := (famS c s h).src x.1 x.2)
    (dstw := (famS c s h).dst x.1 x.2) () rfl) $$ [Hf HO Hlev]
  · isplitl [Hf]; · iexact Hf
    isplitl [HO]; · iexact HO
    iapply (mayWait c _ 0 D (le_of_eq (lvS_other _ fun b s' => kvSemAt_ne_ringSem (x.1, s, x.2) (b, true, s'))) hD) $$ Hlev
  iintro ⟨⟨Hd, Hs⟩, Hv, HO⟩
  iapply Hk
  isplitr [HO]
  · isplitl [Hv]; · iexact Hv
    isplitl [Hd]; · iexact Hd
    iapply (pointsTo_split_subset (Finset.subset_univ ((famS c s h).src x.1 x.2).view.set)).2
    isplitl [Hs] <;> iassumption
  · iexists _; iexact HO

/-! ## Lists of copies -/

theorem wp_starts (s : Fin 2) (h : Fin 32) (l : List (Bool × Fin 16)) {α : Type} {Q : α → sProp 𝕄} {k : Unit → Pg F α} :
    sepL (idle1 c fa s) l ⊢ iprop((sepL (busy1 c fa s h) l -∗ wp frame (wpE (defs₀ (F := F)) 𝒱₀ (c : Thread nD τ) none) Set.univ (k ⟨⟩) Q)
      -∗ wp frame (wpE (defs₀ (F := F)) 𝒱₀ (c : Thread nD τ) none) Set.univ (startsK (famS c s h) l k) Q) := by
  induction l with
  | nil => unfold sepL startsK; iintro H Hk; iapply Hk; iexact H
  | cons x l ih =>
    unfold sepL
    iintro ⟨H, Hl⟩ Hk
    iapply (wp_start1 c fa s h x l) $$ H; iintro H
    iapply ih $$ Hl; iintro Hl
    iapply Hk
    isplitl [H] <;> iassumption

theorem wp_waits (s : Fin 2) (h : Fin 32) (D : List (GSem nD τ sig × ℕ)) (hD : Above 0 D) (l : List (Bool × Fin 16))
    {α : Type} {Q : α → sProp 𝕄} {k : Unit → Pg F α} :
    iprop(sepL (busy1 c fa s h) l ∗ (∃ W, owes (c : Thread nD τ) (dues D) W) ∗ levAts L lv)
      ⊢ iprop(((sepL (full1 c fa s h) l ∗ ∃ W, owes (c : Thread nD τ) (dues D) W)
          -∗ wp frame (wpE (defs₀ (F := F)) 𝒱₀ (c : Thread nD τ) none) Set.univ (k ⟨⟩) Q)
      -∗ wp frame (wpE (defs₀ (F := F)) 𝒱₀ (c : Thread nD τ) none) Set.univ (waitsK (famS c s h) l k) Q) := by
  induction l with
  | nil =>
    unfold sepL waitsK
    iintro ⟨H, HO, -⟩ Hk; iapply Hk
    isplitl [H] <;> iassumption
  | cons x l ih =>
    unfold sepL
    iintro ⟨⟨H, Hl⟩, ⟨%W, HO⟩, #Hlev⟩ Hk
    iapply (wp_wait1 c fa s h x D hD W l) $$ [H HO]
    · isplitl [H]; · iexact H
      isplitl [HO]; · iexact HO
      iexact Hlev
    iintro ⟨H, HO⟩
    iapply ih $$ [Hl HO]
    · isplitl [Hl]; · iexact Hl
      isplitl [HO]; · iexact HO
      iexact Hlev
    iintro ⟨Hl, HO⟩
    iapply Hk
    isplitr [HO]
    · isplitl [H] <;> iassumption
    · iexact HO

end One

end Cert.RingAttn
-- ==== Proof.Heads.lean ====
/-
# The loops over heads

A slot of sixteen tiles opened to the K and V tiles a head reads (`slot_open`), one head's step (`wp_head`), one trip
of a loop (`wp_trip`) and a whole loop (`wp_loopP`), each with what it has written to the context.
-/
module

public import proofs.«01_k».proof.Proof.Copies

@[expose] public section

set_option maxRecDepth 65536

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx

variable {F : FTy → Type} [FloatOps F]

local notation "𝕄" => MT nD τ sig Unit (Elt F) ℕ UU ℕ

/-! ## A slot of tiles -/

/-- A tile's place in the buffer; -/
abbrev tileR (s : Fin 2) (i : Fin 16) := Rect.unit (s := S2x1024x128) ((fam0 s).dof i) S1x64x128.size ((fam0 s).hdof i)
def tileSet (s : Fin 2) (i : Fin 16) : Finset S2x1024x128.Idx := (tileR s i).set
/-- the slot's part of it. -/
def slotSet (s : Fin 2) : Finset S2x1024x128.Idx := Finset.univ.biUnion (tileSet s)
/-- A set of places, in the K or V buffer. -/
def kvS (c : Dev nD) (b : Bool) (S : Finset S2x1024x128.Idx) : Finset (Idx ((kvBuf b).view.loc (c : Thread nD τ))) :=
  match b with
  | false => S
  | true => S

theorem dset_eq (c : Dev nD) (b : Bool) (s : Fin 2) (i : Fin 16) :
    (dset b s i : Finset (Idx ((kvBuf b).view.loc (c : Thread nD τ)))) = kvS c b (tileSet s i) := by
  cases b
  · exact (Memref.set_view_squeeze _ squeezes_S1x64x128_S64x128).trans (View.set_slice_whole cc0_scratch6 (tileR s i))
  · exact (Memref.set_view_squeeze _ squeezes_S1x64x128_S64x128).trans (View.set_slice_whole cc0_scratch7 (tileR s i))

theorem mem_tileSet (s : Fin 2) (i : Fin 16) (x : S2x1024x128.Idx) :
    Iff (x ∈ tileSet s i) ((x 0).val = s.val ∧ (x 1).val / 64 = i.val) := by
  unfold tileSet
  rw [Rect.mem_set_unit]
  have h0 := (x 0).isLt; have h1 := (x 1).isLt; have h2 := (x 2).isLt
  constructor
  · intro h
    have a0 := h 0; have a1 := h 1
    have b0 : s.val ≤ (x 0).val ∧ (x 0).val < s.val + 1 := a0
    have b1 : 64 * i.val ≤ (x 1).val ∧ (x 1).val < 64 * i.val + 64 := a1
    exact ⟨by omega, by omega⟩
  · rintro ⟨e0, e1⟩ a
    fin_cases a
    · show s.val ≤ (x 0).val ∧ (x 0).val < s.val + 1; omega
    · show 64 * i.val ≤ (x 1).val ∧ (x 1).val < 64 * i.val + 64; omega
    · show 0 ≤ (x 2).val ∧ (x 2).val < 0 + 128; exact ⟨Nat.zero_le _, by have : (x 2).val < 128 := h2; omega⟩

theorem tileSet_disj (s : Fin 2) : ∀ i ∈ (Finset.univ : Finset (Fin 16)), ∀ j ∈ (Finset.univ : Finset (Fin 16)), i ≠ j →
    Disjoint (tileSet s i) (tileSet s j) := by
  intro i _ j _ hij
  rw [Finset.disjoint_left]
  intro x hx hy
  exact hij (Fin.ext (((mem_tileSet s i x).1 hx).2.symm.trans ((mem_tileSet s j x).1 hy).2))

theorem load_sub' (j : Fin 4) (t : Fin 8) (s : Fin 2) (hs : s.val = t.val % 2) : (offs j t).vR.toLoadRect.set ⊆ slotSet s := by
  intro y hy
  have h0 : (y 0).val = s.val := by
    have h := (Rect.mem_set_unit (s := S2x1024x128)).1 hy 0
    have h' : t.val % 2 ≤ (y 0).val ∧ (y 0).val < t.val % 2 + 1 := h
    omega
  have h1 : (y 1).val / 64 < 16 := by have : (y 1).val < 1024 := (y 1).isLt; omega
  exact Finset.mem_biUnion.mpr ⟨⟨(y 1).val / 64, h1⟩, Finset.mem_univ _, (mem_tileSet s _ y).2 ⟨h0, rfl⟩⟩

theorem load_sub (c : Dev nD) (b : Bool) (j : Fin 4) (t : Fin 8) (s : Fin 2) (hs : s.val = t.val % 2) :
    (kvBuf b).view.setOn (offs j t).vR.toLoadRect.set ⊆ kvS c b (slotSet s) := by
  intro x hx
  obtain ⟨y, hy, rfl⟩ := Finset.mem_map.mp hx
  cases b
  · exact load_sub' j t s hs hy
  · exact load_sub' j t s hs hy

/-- The head whose tiles stage `j` reads at trip `t`. -/
def hd (j : ℕ) (c : Dev nD) (t : ℕ) (ht : t < 8) : Fin 32 := ⟨8 * srcOf j c + t, by have := srcOf_lt j c; omega⟩
/-- The slot of trip `t`. -/
def sl (t : ℕ) : Fin 2 := ⟨t % 2, by omega⟩

theorem famT_eq (j : ℕ) (c : Dev nD) (t : ℕ) (ht : t < 8) : famT j c t ht = famS c (sl t) (hd j c t ht) := rfl

/-! ## Values -/

/-- The columns of the queries that belong to head `t`. -/
def qCols (q : S1024x1024.Idx → Elt F .bf16) (t : Fin 8) : Vec F S1024x128 .bf16 :=
  fun y => q (ix2 (n0 := 1024) (n1 := 1024) (y 0) ⟨128 * t.val + (y 1).val, by have : (y 1).val < 128 := (y 1).isLt; omega⟩)
/-- Head `h` of device `d`'s rows of `a`, in the order of the places. -/
def kvTile (a : S4x1024x32x128.Idx → Elt F .f32) (d : Fin 4) (h : Fin 32) : Vec F S1x1024x128 .f32 :=
  fun y => a (ix4 d (permRow (y 1)) h (y 2))

section Ctx
variable (c : Dev nD) (fa : Bool → S4x1024x32x128.Idx → Elt F .f32) (qj : Fin 4 → S1024x1024.Idx → Elt F .bf16)

/-- Head `t` of stage `j`. -/
def headOf (j : Fin 4) (t : Fin 8) : FVec F S1024x128 .bf16 :=
  headVal (qCols (qj j) t) (kvTile (fa false) c (hd j c t t.isLt)) (kvTile (fa true) c (hd j c t t.isLt))

/-- The whole context: block `j` of 1024 columns from stage `j`, 128 columns of it from each head. -/
def ctxAll : S1024x4096.Idx → Elt F .bf16 := fun x =>
  headOf c fa qj ⟨(x 1).val / 1024, by have : (x 1).val < 4096 := (x 1).isLt; omega⟩
    ⟨(x 1).val % 1024 / 128, by omega⟩ (ix2 (n0 := 1024) (n1 := 128) (x 0) ⟨(x 1).val % 128, by omega⟩)

/-- `f` holds the context of the first `n` heads. -/
def CtxUpTo (n : ℕ) (f : S1024x4096.Idx → Elt F .bf16) : Prop := ∀ x, (x 1).val < 128 * n → f x = ctxAll c fa qj x

theorem ctx_step (j : Fin 4) (t : Fin 8) (f : S1024x4096.Idx → Elt F .bf16) (h : CtxUpTo c fa qj (8 * j.val + t.val) f) :
    CtxUpTo c fa qj (8 * j.val + t.val + 1)
      ((mC.access (offs j t).cR).write (Elt F) f (headOf c fa qj j t) Finset.univ : S1024x4096.Idx → Elt F .bf16) := by
  intro x hx
  by_cases hin : 128 * (8 * j.val + t.val) ≤ (x 1).val
  · have e : x = (offs j t).cR.emb (ix2 (n0 := 1024) (n1 := 128) (x 0) ⟨(x 1).val % 128, by omega⟩) := by
      funext a
      apply Fin.ext
      fin_cases a
      · show (x 0).val = 0 + 1 * (x 0).val; omega
      · show (x 1).val = (128 * t.val + 1024 * j.val) + 1 * ((x 1).val % 128); omega
    have e' : (mC.access (offs j t).cR).write (Elt F) f (headOf c fa qj j t) Finset.univ
        ((offs j t).cR.emb (ix2 (n0 := 1024) (n1 := 128) (x 0) ⟨(x 1).val % 128, by omega⟩))
        = headOf c fa qj j t (ix2 (n0 := 1024) (n1 := 128) (x 0) ⟨(x 1).val % 128, by omega⟩) :=
      View.write_emb_of_mem (v := mC.access (offs j t).cR) f _ (Finset.mem_univ _)
    refine (congrArg _ e).trans (e'.trans ?_)
    have hc : (x 1).val < 4096 := (x 1).isLt
    have h1 : (⟨(x 1).val / 1024, by omega⟩ : Fin 4) = j := Fin.ext (by show (x 1).val / 1024 = j.val; omega)
    have h2 : (⟨(x 1).val % 1024 / 128, by omega⟩ : Fin 8) = t := Fin.ext (by show (x 1).val % 1024 / 128 = t.val; omega)
    show _ = headOf c fa qj _ _ _
    rw [h1, h2]
  · refine (View.write_of_not_mem (v := mC.access (offs j t).cR) f _ Finset.univ ?_).trans (h x (by omega))
    intro hm
    have hm' : x ∈ ((View.whole cc0_scratch4).slice (offs j t).cR).set := hm
    rw [View.set_slice_whole] at hm'
    have := (Rect.mem_set_unit (s := S1024x4096)).1 hm' 1
    have h' : 128 * t.val + 1024 * j.val ≤ (x 1).val := this.1
    omega

/-! ## A head -/

theorem slot_open (s : Fin 2) (h : Fin 32) (b : Bool) :
    (bigSep Finset.univ fun i : Fin 16 => full1 c fa s h (b, i))
      = iprop((bigSep Finset.univ fun i : Fin 16 => semVal ((c : Thread nD τ), .dma (kvSemAt (b, s, i))) 0)
        ∗ ((kvBuf b).view.loc (c : Thread nD τ) ↦[kvS c b (slotSet s)]{fullShare} kvB c b (tileFn (fa b) c h))
        ∗ (bigSep Finset.univ fun i : Fin 16 => arrTok c fa s (b, i)) : sProp 𝕄) := by
  unfold full1
  rw [bigSep_sep', bigSep_sep']
  refine congrArg (fun X => iprop(_ ∗ X ∗ _)) ?_
  cases b
  · exact (bigSep_congr fun i _ => congrArg (fun S => iprop((kvBuf false).view.loc (c : Thread nD τ) ↦[S]{fullShare} kvB c false (tileFn (fa false) c h))) (dset_eq c false s i)).trans
      (pointsTo_biUnion (ℓ := (kvBuf false).view.loc (c : Thread nD τ)) Finset.univ (tileSet s) (tileSet_disj s)).symm
  · exact (bigSep_congr fun i _ => congrArg (fun S => iprop((kvBuf true).view.loc (c : Thread nD τ) ↦[S]{fullShare} kvB c true (tileFn (fa true) c h))) (dset_eq c true s i)).trans
      (pointsTo_biUnion (ℓ := (kvBuf true).view.loc (c : Thread nD τ)) Finset.univ (tileSet s) (tileSet_disj s)).symm

/-- The buffers a head works on besides its tiles. -/
def qc (j : Fin 4) (n : ℕ) : sProp 𝕄 :=
  iprop((mQ.view.loc (c : Thread nD τ) ↦[Finset.univ]{fullShare} qj j)
    ∗ ∃ f, ⌜CtxUpTo c fa qj n f⌝ ∗ (mC.view.loc (c : Thread nD τ) ↦[Finset.univ]{fullShare} f))

theorem read_q (q : S1024x1024.Idx → Elt F .bf16) (j : Fin 4) (t : Fin 8) :
    mQ.view.readAt (Elt F) (offs j t).qR.toLoadRect q = qCols q t := by
  funext y
  refine congrArg q ?_
  funext a
  apply Fin.ext
  fin_cases a
  · show 0 + 1 * (y 0).val = (y 0).val; omega
  · show 128 * t.val + 1 * (y 1).val = 128 * t.val + (y 1).val; omega

theorem read_kv (c : Dev nD) (b : Bool) (j : Fin 4) (t : Fin 8) (h : Fin 32) (a : S4x1024x32x128.Idx → Elt F .f32) :
    (kvBuf b).view.readAt (Elt F) (offs j t).vR.toLoadRect (kvB c b (tileFn a c h)) = kvTile a c h := by
  funext y
  have e1 : (offs j t).vR.emb y 1 = y 1 := Fin.ext (by show 0 + 1 * (y 1).val = (y 1).val; omega)
  have e2 : (offs j t).vR.emb y 2 = y 2 := Fin.ext (by show 0 + 1 * (y 2).val = (y 2).val; omega)
  cases b
  · show a (ix4 c (permRow ((offs j t).vR.emb y 1)) h ((offs j t).vR.emb y 2)) = a _
    rw [e1, e2]
  · show a (ix4 c (permRow ((offs j t).vR.emb y 1)) h ((offs j t).vR.emb y 2)) = a _
    rw [e1, e2]

theorem wp_head (j : Fin 4) (t : Fin 8) {Q : Unit → sProp 𝕄} :
    iprop(sepL (full1 c fa (sl t) (hd j c t t.isLt)) order ∗ qc c fa qj j (8 * j.val + t.val))
      ⊢ iprop(((sepL (idle1 c fa (sl t)) order ∗ qc c fa qj j (8 * j.val + t.val + 1)) -∗ Q ⟨⟩)
        -∗ wp frame (wpE (defs₀ (F := F)) 𝒱₀ (c : Thread nD τ) none) Set.univ (headK (offs j t)) Q) := by
  have hback : (sepL (full1 c fa (sl t) (hd j c t t.isLt)) order : sProp 𝕄) ⊢ sepL (idle1 c fa (sl t)) order := by
    rw [sepL_order, sepL_order]
    exact BI.sep_mono (bigSep_mono fun i _ => full1_idle c fa _ _ _) (bigSep_mono fun i _ => full1_idle c fa _ _ _)
  refine BIBase.Entails.trans (Q := iprop((sepL (full1 c fa (sl t) (hd j c t t.isLt)) order -∗ sepL (idle1 c fa (sl t)) order) ∗ sepL (full1 c fa (sl t) (hd j c t t.isLt)) order ∗ qc c fa qj j (8 * j.val + t.val))) ?_ ?_
  · iintro H; isplitr [H]
    · iintro H; iapply hback; iexact H
    · iexact H
  rw [sepL_order, slot_open, slot_open]
  unfold qc headK
  iintro ⟨Hb, ⟨⟨Hs0, Hk, Ht0⟩, Hs1, Hv, Ht1⟩, Hq, ⟨%f, %hf, Hc⟩⟩ HQ
  iapply (wp_load 𝒱₀ (c : Thread nD τ) none Set.univ (m := mQ) (Finset.subset_univ _)) $$ Hq; iintro Hq
  iapply (wp_load 𝒱₀ (c : Thread nD τ) none Set.univ (m := kvBuf false) (load_sub c false j t _ rfl)) $$ Hk; iintro Hk
  iapply (wp_load 𝒱₀ (c : Thread nD τ) none Set.univ (m := kvBuf true) (load_sub c true j t _ rfl)) $$ Hv; iintro Hv
  iapply (wp_load 𝒱₀ (c : Thread nD τ) none Set.univ (m := mC) (Finset.subset_univ _)) $$ Hc; iintro Hc
  iapply (wp_store 𝒱₀ (c : Thread nD τ) none Set.univ (m := mC) (r := (offs j t).cR) (Mk := Finset.univ) (f := f) (Finset.subset_univ _)) $$ Hc; iintro Hc
  rw [wp_ret]
  imodintro
  iapply HQ
  isplitr [Hq Hc]
  · iapply Hb
    isplitl [Hs0 Hk Ht0]
    · isplitl [Hs0]; · iexact Hs0
      isplitl [Hk] <;> iassumption
    · isplitl [Hs1]; · iexact Hs1
      isplitl [Hv] <;> iassumption
  isplitl [Hq]; · iexact Hq
  iexists _
  isplitr [Hc]
  swap; · iexact Hc
  ipureintro
  have hw := ctx_step c fa qj j t f hf
  unfold headOf at hw
  rw [← read_q (qj j) j t, ← read_kv c false j t, ← read_kv c true j t] at hw
  exact hw

/-! ## A loop -/

/-- The copies' state before trip `t`. -/
def kvState (j : Fin 4) (t : ℕ) : sProp 𝕄 :=
  if h : t < 8 then iprop(sepL (busy1 c fa (sl t) (hd j c t h)) order ∗ sepL (idle1 c fa (sl (t + 1))) order)
  else iprop(sepL (idle1 c fa (sl t)) order ∗ sepL (idle1 c fa (sl (t + 1))) order)

/-- Everything a loop works on, before its trip `t`. -/
def loopSt (D : List (GSem nD τ sig × ℕ)) (j : Fin 4) (t : ℕ) : sProp 𝕄 :=
  iprop(kvState c fa j t ∗ qc c fa qj j (8 * j.val + t) ∗ (∃ W, owes (c : Thread nD τ) (dues D) W) ∗ levAts L lv)

omit [FloatOps F] in
theorem sl_succ2 (t : ℕ) : sl (t + 1 + 1) = sl t := Fin.ext (by show (t + 1 + 1) % 2 = t % 2; omega)

theorem wp_trip (D : List (GSem nD τ sig × ℕ)) (hD : Above 0 D) (j : Fin 4) (t : Fin 8) :
    loopSt c fa qj D j t.val
      ⊢ wp frame (wpE (defs₀ (F := F)) 𝒱₀ (c : Thread nD τ) none) Set.univ (trip j c t) (fun _ => loopSt c fa qj D j (t.val + 1)) := by
  unfold loopSt trip
  unfold kvState
  rw [dif_pos t.isLt, sl_succ2]
  by_cases h : t.val + 1 < 8
  · rw [dif_pos h, dif_pos h]
    rw [famT_eq, famT_eq]
    iintro ⟨⟨Hb, Hi⟩, Hq, HO, #Hlev⟩
    iapply (wp_starts c fa (sl (t.val + 1)) (hd j c (t.val + 1) h) order) $$ Hi; iintro Hi
    iapply (wp_waits c fa (sl t.val) (hd j c t.val t.isLt) D hD order) $$ [Hb HO]
    · isplitl [Hb]; · iexact Hb
      isplitl [HO]; · iexact HO
      iexact Hlev
    iintro ⟨Hb, HO⟩
    iapply (wp_head c fa qj j t) $$ [Hb Hq]
    · isplitl [Hb] <;> iassumption
    iintro ⟨Hb, Hq⟩
    isplitl [Hb Hi]
    · isplitl [Hi] <;> iassumption
    isplitl [Hq]; · iexact Hq
    isplitl [HO]; · iexact HO
    iexact Hlev
  · rw [dif_neg h, dif_neg h]
    rw [famT_eq]
    iintro ⟨⟨Hb, Hi⟩, Hq, HO, #Hlev⟩
    iapply (wp_waits c fa (sl t.val) (hd j c t.val t.isLt) D hD order) $$ [Hb HO]
    · isplitl [Hb]; · iexact Hb
      isplitl [HO]; · iexact HO
      iexact Hlev
    iintro ⟨Hb, HO⟩
    iapply (wp_head c fa qj j t) $$ [Hb Hq]
    · isplitl [Hb] <;> iassumption
    iintro ⟨Hb, Hq⟩
    isplitl [Hb Hi]
    · isplitl [Hi] <;> iassumption
    isplitl [Hq]; · iexact Hq
    isplitl [HO]; · iexact HO
    iexact Hlev

theorem wp_loopP (D : List (GSem nD τ sig × ℕ)) (hD : Above 0 D) (j : Fin 4) {α : Type} {Q : α → sProp 𝕄} {k : Unit → Pg F α} :
    loopSt c fa qj D j 0
      ⊢ iprop((loopSt c fa qj D j 8 -∗ wp frame (wpE (defs₀ (F := F)) 𝒱₀ (c : Thread nD τ) none) Set.univ (k ⟨⟩) Q)
        -∗ wp frame (wpE (defs₀ (F := F)) 𝒱₀ (c : Thread nD τ) none) Set.univ (loopP j c >>= k) Q) := by
  unfold loopP
  iintro H Hk
  iapply (Scf.wp_for_bind frame (wpE (defs₀ (F := F)) 𝒱₀ (c : Thread nD τ) none) Set.univ _ _ _ k0_t1_ok (⟨⟩ : Unit) (fun t _ => trip j c t)
    (fun n _ => loopSt c fa qj D j n) (fun t _ => wp_trip c fa qj D hD j t)) $$ H
  iintro %u H
  iapply Hk
  iexact H
end Ctx

end Cert.RingAttn
-- ==== Proof.Ring.lean ====
/-
# The ring

The schedule of the ring's cells (`ringRd`), the entry handshake (`wp_handshake`), one send to a neighbour (`wp_sendK`)
and one arrival (`wp_arriveK`), for either buffer and any slot.
-/
module

public import proofs.«01_k».proof.Proof.Heads

@[expose] public section

set_option maxRecDepth 65536

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx

variable {F : FTy → Type} [FloatOps F]

local notation "𝕄" => MT nD τ sig Unit (Elt F) ℕ UU ℕ

/-! ## Contents -/

/-- The device whose weight comes to `c` over `n` steps. -/
def og (b : Bool) : ℕ → Dev nD → Dev nD
  | 0, c => c
  | n + 1, c => og b n (fr b c)

theorem og_tgt (b : Bool) (n : ℕ) (c : Dev nD) : og b (n + 1) (tgt b c) = og b n c := by
  show og b n (fr b (tgt b c)) = og b n c; rw [fr_tgt]

/-- Contents of a landing buffer, -/
def wbC (c : Dev nD) (b : Bool) (g : S3x1024x1024.Idx → Elt F .bf16) : Buf (Elt F) ((wBuf b).view.loc (c : Thread nD τ)) :=
  match b with
  | false => g
  | true => g
def slotC (c : Dev nD) (b : Bool) (s : Fin 3) (g : S3x1024x1024.Idx → Elt F .bf16) : Buf (Elt F) ((slotOf (wBuf b) s).view.loc (c : Thread nD τ)) :=
  wbC c b g
/-- and of a device's own weight. -/
def ownC (c : Dev nD) (b : Bool) (g : S1024x1024.Idx → Elt F .bf16) : Buf (Elt F) ((wOwn b).view.loc (c : Thread nD τ)) :=
  match b with
  | false => g
  | true => g

/-- What send `s` of buffer `b` reads. -/
abbrev srcM (b : Bool) (s : Fin 3) : Memref sig .tc .vmem S1024x1024 .bf16 :=
  match s with
  | 0 => wOwn b
  | 1 => slotOf (wBuf b) 0
  | 2 => slotOf (wBuf b) 1
theorem srcM_exact (b : Bool) (s : Fin 3) : (srcM b s).view.WordExact := by
  match s with
  | 0 => exact (wOwn_whole b).wordExact
  | 1 => exact slotOf_exact _ (wBuf_whole b) 0
  | 2 => exact slotOf_exact _ (wBuf_whole b) 1

theorem slot_credit (b : Bool) (s : Fin 3) : (slotOf (wBuf b) s).view.dmaCredit = N := by
  cases b <;> rfl
theorem own_credit (b : Bool) : (wOwn b).view.dmaCredit = N := by
  cases b <;> rfl

theorem slot_emb (s : Fin 3) (x y : Fin 1024) :
    (slotR s).emb (Shape.reshapeEquiv (squeezes_S1x1024x1024_S1024x1024).numel_eq (ix2 x y))
      = ix3 (n0 := 3) (n1 := 1024) (n2 := 1024) s x y := by
  rw [show Shape.reshapeEquiv (squeezes_S1x1024x1024_S1024x1024).numel_eq (ix2 x y) = ix3 (⟨0, Nat.one_pos⟩ : Fin 1) x y from reshapeEquiv_ix2_1ab _ _ _]
  funext a
  apply Fin.ext
  fin_cases a
  · show s.val + 1 * 0 = s.val; omega
  · show 0 + 1 * x.val = x.val; omega
  · show 0 + 1 * y.val = y.val; omega

section Ring
variable (ww : Dev nD → Bool → S1024x1024.Idx → Elt F .bf16)

/-- What the landing buffer holds, slot by slot, once everything has landed. -/
def landF (c : Dev nD) (b : Bool) : S3x1024x1024.Idx → Elt F .bf16 :=
  fun x => ww (og b ((x 0).val + 1) c) b (ix2 (n0 := 1024) (n1 := 1024) (x 1) (x 2))

/-- The contents send `s` reads. -/
def srcC (c : Dev nD) (b : Bool) (s : Fin 3) : Buf (Elt F) ((srcM b s).view.loc (c : Thread nD τ)) :=
  match s with
  | 0 => ownC c b (ww c b)
  | 1 => wbC c b (landF ww c b)
  | 2 => wbC c b (landF ww c b)

omit [FloatOps F] in
theorem read_landF (c : Dev nD) (b : Bool) (s : Fin 3) :
    (slotOf (wBuf b) s).view.read (Elt F) (wbC c b (landF ww c b)) = ww (og b (s.val + 1) c) b := by
  funext y
  have e := (congrArg (fun z => landF ww c b ((slotR s).emb (Shape.reshapeEquiv (squeezes_S1x1024x1024_S1024x1024).numel_eq z))) (eq_ix2 y)).trans
    (congrArg (landF ww c b) (slot_emb s (y 0) (y 1)))
  have e2 : landF ww c b (ix3 (n0 := 3) (n1 := 1024) (n2 := 1024) s (y 0) (y 1)) = ww (og b (s.val + 1) c) b y :=
    congrArg (ww (og b (s.val + 1) c) b) (eq_ix2 y).symm
  cases b <;> exact e.trans e2

omit [FloatOps F] in
theorem read_src (c : Dev nD) (b : Bool) (s : Fin 3) :
    (srcM b s).view.read (Elt F) (srcC ww c b s) = ww (og b s.val c) b := by
  match s with
  | 0 => cases b <;> rfl
  | 1 => exact read_landF ww c b 0
  | 2 => exact read_landF ww c b 1

omit [FloatOps F] in
theorem landed_slot (c : Dev nD) (b : Bool) (s : Fin 3) (fd : Buf (Elt F) ((slotOf (wBuf b) s).view.loc ((tgt b c : Dev nD) : Thread nD τ))) :
    ∀ x ∈ (slotOf (wBuf b) s).view.set,
      (slotOf (wBuf b) s).view.write (Elt F) fd ((srcM b s).view.read (Elt F) (srcC ww c b s)) Finset.univ x
        = wbC (tgt b c) b (landF ww (tgt b c) b) x := by
  intro x hx
  obtain ⟨y, -, rfl⟩ := Finset.mem_map.mp hx
  rw [View.write_emb_of_mem _ _ (Finset.mem_univ y), read_src]
  have e := congrFun (read_landF ww (tgt b c) b s) y
  rw [og_tgt] at e
  cases b <;> exact e.symm

/-! ## The schedule -/

/-- A landing buffer of device `e`, whole, at some contents. -/
def bufAny (e : Dev nD) (b : Bool) : sProp 𝕄 :=
  iprop(∃ f, (wBuf b).view.loc (e : Thread nD τ) ↦[Finset.univ]{fullShare} f)
/-- Half of what send `s` reads. -/
def srcPay (c : Dev nD) (b : Bool) (s : Fin 3) : sProp 𝕄 :=
  (srcM b s).view.loc (c : Thread nD τ) ↦[(srcM b s).view.set]{fullShare.left} srcC ww c b s
/-- A slot with what has landed in it. -/
def landPay (c : Dev nD) (b : Bool) (s : Fin 3) : sProp 𝕄 :=
  (slotOf (wBuf b) s).view.loc (c : Thread nD τ) ↦[(slotOf (wBuf b) s).view.set]{fullShare} slotC c b s (landF ww c b)

omit [FloatOps F] in
instance bufAny_storable (e : Dev nD) (b : Bool) : BI.Storable (upEmb : UEmb _ 𝕄) (bufAny (F := F) e b) := by unfold bufAny; infer_instance
omit [FloatOps F] in
instance srcPay_storable (c : Dev nD) (b : Bool) (s : Fin 3) : BI.Storable (upEmb : UEmb _ 𝕄) (srcPay (F := F) ww c b s) := by unfold srcPay; infer_instance
omit [FloatOps F] in
instance landPay_storable (c : Dev nD) (b : Bool) (s : Fin 3) : BI.Storable (upEmb : UEmb _ 𝕄) (landPay (F := F) ww c b s) := by unfold landPay; infer_instance

open Classical in
/-- The ring's cell that a semaphore is. -/
def decode (sm : SemLoc sig) : Option CI := if h : ∃ k, csem k = sm then some h.choose else none
theorem decode_csem (k : CI) : decode (csem k) = some k := by
  unfold decode
  have h : ∃ k', csem k' = csem k := ⟨k, rfl⟩
  rw [dif_pos h]
  exact congrArg some (csem_injective h.choose_spec)

def payOf (c : Dev nD) (d : Bool) : Option CI → sProp 𝕄
  | none => iprop(emp)
  | some none => bufAny (tgt d c) d
  | some (some (b, false, s)) => srcPay ww c b s
  | some (some (b, true, s)) => landPay ww c b s
omit [FloatOps F] in
instance payOf_storable (c : Dev nD) (d : Bool) (k : Option CI) : BI.Storable (upEmb : UEmb _ 𝕄) (payOf (F := F) ww c d k) := by
  match k with
  | none => unfold payOf; infer_instance
  | some none => unfold payOf; infer_instance
  | some (some (b, false, s)) => unfold payOf; infer_instance
  | some (some (b, true, s)) => unfold payOf; infer_instance

def dutiesOf : Option CI → Finset Bool
  | none => ∅
  | some none => Finset.univ
  | some (some _) => {false}
def amountOf : Option CI → ℕ
  | some none => 1
  | _ => N
theorem amountOf_pos (k : Option CI) : 0 < amountOf k := by
  match k with
  | none => exact N_pos
  | some none => exact Nat.one_pos
  | some (some _) => exact N_pos

/-- One round: a barrier's two duties of one unit, each handing over a neighbour's landing buffer; a send's duty, handing
    back what it read; a landing's duty, handing over what landed. -/
def ringRd : Rounds.Schedule (GSem nD τ sig) Bool 𝕄 where
  duties g r := if r = 0 ∧ g.1.2 = .tc then dutiesOf (decode g.2) else ∅
  unitless _ := False
  amount g _ _ := amountOf (decode g.2)
  payload g _ d := payOf ww g.1.1 d (decode g.2)
  amount_pos g _ _ _ := amountOf_pos _

instance ringRd_payload_storable (g : GSem nD τ sig) (r : ℕ) (d : Bool) :
    BI.Storable (upEmb : UEmb _ 𝕄) ((ringRd (F := F) ww).payload g r d) := by
  show BI.Storable upEmb (payOf ww g.1.1 d (decode g.2)); infer_instance

omit [FloatOps F] in
theorem duties_eq (c : Dev nD) (k : CI) : (ringRd (F := F) ww).duties (kcell c k) 0 = dutiesOf (some k) := by
  dsimp only [ringRd]; rw [if_pos ⟨rfl, rfl⟩, decode_csem]
omit [FloatOps F] in
theorem duties_later (g : GSem nD τ sig) : ∀ r, 1 ≤ r → (ringRd (F := F) ww).duties g r = ∅ :=
  fun r hr => by dsimp only [ringRd]; rw [if_neg fun h => by omega]
omit [FloatOps F] in
theorem amount_eq (c : Dev nD) (k : CI) (d : Bool) : (ringRd (F := F) ww).amount (kcell c k) 0 d = amountOf (some k) := by
  dsimp only [ringRd]; rw [decode_csem]
omit [FloatOps F] in
theorem payload_eq (c : Dev nD) (k : CI) (d : Bool) : (ringRd (F := F) ww).payload (kcell c k) 0 d = payOf ww c d (some k) := by
  dsimp only [ringRd]; rw [decode_csem]
omit [FloatOps F] in
theorem expect_bar (c : Dev nD) : (ringRd (F := F) ww).expect (barCell c) 0 = 2 := by
  unfold Schedule.expect Schedule.amountOf
  rw [duties_eq, Finset.sum_congr rfl fun d _ => amount_eq ww c none d]
  rfl
omit [FloatOps F] in
theorem expect_xfer (c : Dev nD) (x : Bool × Bool × Fin 3) : (ringRd (F := F) ww).expect (kcell c (some x)) 0 = N := by
  unfold Schedule.expect Schedule.amountOf
  rw [duties_eq, show dutiesOf (some (some x)) = {false} from rfl, Finset.sum_singleton, amount_eq]; rfl
omit [FloatOps F] in
theorem rest_bar (c : Dev nD) :
    bigSep ((ringRd (F := F) ww).duties (barCell c) 0 \ ∅) (fun d => (ringRd (F := F) ww).payload (barCell c) 0 d)
      = iprop(bufAny (tgt false c) false ∗ bufAny (tgt true c) true) := by
  rw [Finset.sdiff_empty, duties_eq, show dutiesOf (some none) = Finset.univ from rfl, bigSep_univ_eq_bigSepL [false, true] (by decide) (by decide),
    bigSepL_cons_cons, bigSepL_singleton, payload_eq, payload_eq]
  rfl
omit [FloatOps F] in
theorem rest_xfer (c : Dev nD) (x : Bool × Bool × Fin 3) :
    bigSep ((ringRd (F := F) ww).duties (kcell c (some x)) 0 \ ∅) (fun d => (ringRd (F := F) ww).payload (kcell c (some x)) 0 d)
      = payOf ww c false (some (some x)) := by
  rw [Finset.sdiff_empty, duties_eq, show dutiesOf (some (some x)) = {false} from rfl, bigSep_singleton, payload_eq]

omit [FloatOps F] in
theorem mem_bar (c : Dev nD) (d : Bool) : d ∈ (ringRd (F := F) ww).duties (barCell c) 0 := by
  rw [duties_eq ww c none]; exact Finset.mem_univ _
omit [FloatOps F] in
theorem mem_xfer (c : Dev nD) (x : Bool × Bool × Fin 3) : false ∈ (ringRd (F := F) ww).duties (kcell c (some x)) 0 := by
  rw [duties_eq ww c (some x)]; exact Finset.mem_singleton_self _
omit [FloatOps F] in
theorem pay_bar (c : Dev nD) (d : Bool) : (bufAny (F := F) c d) ⊢ (ringRd (F := F) ww).payload ((fr d c : Thread nD τ), SemLoc.reg barS) 0 d := by
  show _ ⊢ (ringRd (F := F) ww).payload (barCell (fr d c)) 0 d
  rw [payload_eq ww (fr d c) none]; unfold payOf; rw [tgt_fr]
omit [FloatOps F] in
theorem rest_bar' (c : Dev nD) :
    bigSep ((ringRd (F := F) ww).duties ((c : Thread nD τ), SemLoc.reg barS) 0 \ ∅)
        (fun d => (ringRd (F := F) ww).payload ((c : Thread nD τ), SemLoc.reg barS) 0 d)
      ⊢ iprop(bufAny (tgt false c) false ∗ bufAny (tgt true c) true) := Entails.of_eq (rest_bar ww c)
omit [FloatOps F] in
theorem rest_send (c : Dev nD) (b : Bool) (s : Fin 3) :
    bigSep ((ringRd (F := F) ww).duties ((c : Thread nD τ), SemLoc.dma (semOf (sSem b) s)) 0 \ ∅)
        (fun d => (ringRd (F := F) ww).payload ((c : Thread nD τ), SemLoc.dma (semOf (sSem b) s)) 0 d) ⊢ srcPay ww c b s :=
  Entails.of_eq (rest_xfer ww c (b, false, s))
omit [FloatOps F] in
theorem rest_recv (c : Dev nD) (b : Bool) (s : Fin 3) :
    bigSep ((ringRd (F := F) ww).duties ((c : Thread nD τ), SemLoc.dma (semOf (rSem b) s)) 0 \ ∅)
        (fun d => (ringRd (F := F) ww).payload ((c : Thread nD τ), SemLoc.dma (semOf (rSem b) s)) 0 d) ⊢ landPay ww c b s :=
  Entails.of_eq (rest_xfer ww c (b, true, s))

/-! ## A channel -/

variable (K : Dev nD × CI → ℕ)

def inv1 (c : Dev nD) (k : CI) : sProp 𝕄 := cellInv ER (ringRd ww) (K (c, k)) (kcell c k)
instance inv1_persistent (c : Dev nD) (k : CI) : BI.Persistent (inv1 (F := F) ww K c k) := by unfold inv1; infer_instance

/-- What device `c` starts with for send and arrival `s` of buffer `b`. -/
def chanPre (c : Dev nD) (b : Bool) (s : Fin 3) : sProp 𝕄 :=
  iprop((inv1 ww K c (some (b, false, s)) ∗ inv1 ww K c (some (b, true, s)) ∗ inv1 ww K (tgt b c) (some (b, true, s))
      ∗ reached ER (sendCell c b s) 0 ∗ reached ER (recvCell (tgt b c) b s) 0)
    ∗ atPos ER (sendCell c b s) 0 ∅ 0 ∗ atPos ER (recvCell c b s) 0 ∅ 0
    ∗ dutyTok ER (sendCell c b s) 0 false ∗ dutyTok ER (recvCell (tgt b c) b s) 0 false ∗ cred (tallyAt (recvCell c b s) () N))
/-- After the send, before the arrival. -/
def chanMid (c : Dev nD) (b : Bool) (s : Fin 3) : sProp 𝕄 :=
  iprop((inv1 ww K c (some (b, false, s)) ∗ inv1 ww K c (some (b, true, s)))
    ∗ atPos ER (sendCell c b s) 0 ∅ 0 ∗ atPos ER (recvCell c b s) 0 ∅ 0
    ∗ cred (tallyAt (sendCell c b s) () N) ∗ cred (tallyAt (recvCell c b s) () N))
/-- After the arrival. -/
def chanPost (c : Dev nD) (b : Bool) (s : Fin 3) : sProp 𝕄 :=
  iprop(semVal (sendCell c b s) 0 ∗ semVal (recvCell c b s) 0 ∗ srcPay ww c b s ∗ landPay ww c b s)

/-- A slot of device `e`'s landing buffer at some contents. -/
def slotAny (e : Dev nD) (b : Bool) (s : Fin 3) : sProp 𝕄 :=
  iprop(∃ f, (slotOf (wBuf b) s).view.loc (e : Thread nD τ) ↦[(slotOf (wBuf b) s).view.set]{fullShare} f)

theorem wp_sendK (c : Dev nD) (b : Bool) (s : Fin 3) (e : Dev nD) (he : e = tgt b c) (l : List (GSem nD τ sig × ℕ))
    (hm : (wBuf b).IsWhole) (hs : (srcM b s).view.WordExact) {α : Type} {Q : α → sProp 𝕄} {k : Unit → Pg F α} :
    iprop(chanPre ww K c b s ∗ srcPay ww c b s ∗ slotAny (tgt b c) b s
        ∗ ∃ W, owes (c : Thread nD τ) (dues ((recvCell (tgt b c) b s, N) :: l)) W)
      ⊢ iprop(((chanMid ww K c b s ∗ ∃ W, owes (c : Thread nD τ) (dues l) W)
          -∗ wp frame (wpE (defs₀ (F := F)) 𝒱₀ (c : Thread nD τ) none) Set.univ (k ⟨⟩) Q)
        -∗ wp frame (wpE (defs₀ (F := F)) 𝒱₀ (c : Thread nD τ) none) Set.univ
          (sendK (wBuf b) hm (sSem b) (rSem b) s (srcM b s) hs e k) Q) := by
  subst he
  unfold chanPre srcPay slotAny sendK
  iintro ⟨⟨⟨#I1, #I2, #I3, #R1, #R2⟩, A1, A2, T1, T2, C2⟩, Hsrc, ⟨%fd, Hdst⟩, ⟨%W, HO⟩⟩ Hk
  iapply (Rounds.wp_send_pointsTo 𝒱₀ ER (ringRd ww) (c : Thread nD τ) none (κ₁ := K (c, some (b, false, s))) (κ₂ := K (tgt b c, some (b, true, s)))
    (c' := ((tgt b c : Dev nD) : Thread nD τ))
    (sem := .dma (semOf (rSem b) s)) (sS := .dma (semOf (sSem b) s)) (src := srcM b s) (q := fullShare.left) (fs := srcC ww c b s)
    (r₁ := 0) (r₂ := 0) (d₁ := false) (d₂ := false) (fd := fd)
    (mem_xfer ww c (b, false, s)) (mem_xfer ww (tgt b c) (b, true, s))
    () () N (slot_credit b s) (amount_eq ww c (some (b, false, s)) false) (amount_eq ww (tgt b c) (some (b, true, s)) false) (dues l) rfl (W := W)
    (Entails.of_eq (payload_eq ww c (some (b, false, s)) false).symm)
    (Entails.of_eq ((pointsTo_congr (landed_slot ww c b s fd)).trans (payload_eq ww (tgt b c) (some (b, true, s)) false).symm))) $$ [Hsrc Hdst HO T1 T2]
  · isplitr; · unfold inv1; iexact I1
    isplitr; · unfold inv1; iexact I3
    isplitl [Hsrc]; · iexact Hsrc
    isplitl [Hdst]; · iexact Hdst
    isplitl [HO]; · iexact HO
    isplitl [T1]; · iexact T1
    isplitr; · iexact R1
    isplitl [T2]; · iexact T2
    iexact R2
  iintro ⟨C1, HO⟩
  iapply Hk
  isplitr [HO]
  · unfold chanMid
    isplitr
    · isplitr <;> iassumption
    isplitl [A1]; · iexact A1
    isplitl [A2]; · iexact A2
    isplitl [C1]; · iexact C1
    iexact C2
  · iexists _; iexact HO

theorem wp_arriveK (c : Dev nD) (b : Bool) (s : Fin 3) (D : List (GSem nD τ sig × ℕ)) (hD : Above (2 + s.val) D)
    (hm : (wBuf b).IsWhole) (hw : (wOwn b).IsWhole) {α : Type} {Q : α → sProp 𝕄} {k : Unit → Pg F α} :
    iprop(chanMid ww K c b s ∗ (∃ W, owes (c : Thread nD τ) (dues D) W) ∗ levAts L lv)
      ⊢ iprop(((chanPost ww c b s ∗ ∃ W, owes (c : Thread nD τ) (dues D) W)
          -∗ wp frame (wpE (defs₀ (F := F)) 𝒱₀ (c : Thread nD τ) none) Set.univ (k ⟨⟩) Q)
        -∗ wp frame (wpE (defs₀ (F := F)) 𝒱₀ (c : Thread nD τ) none) Set.univ
          (arriveK (wBuf b) hm (sSem b) (rSem b) s (wOwn b) hw k) Q) := by
  unfold chanMid arriveK inv1
  iintro ⟨⟨⟨#I1, #I2⟩, A1, A2, C1, C2⟩, ⟨%W, HO⟩, #Hlev⟩ Hk
  iapply (Rounds.wp_wait_rest_token 𝒱₀ ER (ringRd ww) (c : Thread nD τ) none (κ := K (c, some (b, false, s))) (sm := .dma (semOf (sSem b) s))
      (wpE_waitDma2_eq 𝒱₀ (c : Thread nD τ) none Set.univ) (Set.mem_univ _) () (O := dues D) (W := W) (R := 0) (m := 0) (T := ∅)
      (by rw [Nat.zero_add]; exact (own_credit b).trans (expect_xfer ww c (b, false, s)).symm)) $$ [C1 HO A1]
  · isplitr; · iexact I1
    isplitl [C1]; · rw [own_credit]; iexact C1
    isplitl [HO]; · iexact HO
    isplitr; · iapply (mayWait c _ (2 + s.val) D (by show lvS (csem (some (b, false, s))) ≤ _; rw [lvS_send]; exact Nat.zero_le _) hD); iexact Hlev
    iexact A1
  iintro ⟨HO, A1, -, P1⟩
  iapply (Rounds.wp_wait_rest_token 𝒱₀ ER (ringRd ww) (c : Thread nD τ) none (κ := K (c, some (b, true, s))) (sm := .dma (semOf (rSem b) s))
      (wpE_waitDma2_eq 𝒱₀ (c : Thread nD τ) none Set.univ) (Set.mem_univ _) () (O := dues D) (R := 0) (m := 0) (T := ∅)
      (by rw [Nat.zero_add]; exact (slot_credit b s).trans (expect_xfer ww c (b, true, s)).symm)) $$ [C2 HO A2]
  · isplitr; · iexact I2
    isplitl [C2]; · rw [slot_credit]; iexact C2
    isplitl [HO]; · iexact HO
    isplitr; · iapply (mayWait c _ (2 + s.val) D (by show lvS (csem (some (b, true, s))) ≤ _; rw [lvS_recv]) hD); iexact Hlev
    iexact A2
  iintro ⟨HO, A2, -, P2⟩
  imod (Rounds.cell_close ER (ringRd ww) (Set.mem_univ (K (c, some (b, false, s)))) (fun h => h) (R := 0 + 1) (duties_later ww (sendCell c b s))) $$ [A1] with Z1
  · isplitr; · iexact I1
    iexact A1
  imod (Rounds.cell_close ER (ringRd ww) (Set.mem_univ (K (c, some (b, true, s)))) (fun h => h) (R := 0 + 1) (duties_later ww (recvCell c b s))) $$ [A2] with Z2
  · isplitr; · iexact I2
    iexact A2
  ihave P1 := (rest_send ww c b s) $$ P1
  ihave P2 := (rest_recv ww c b s) $$ P2
  iapply Hk
  isplitr [HO]
  · unfold chanPost
    isplitl [Z1]; · iexact Z1
    isplitl [Z2]; · iexact Z2
    isplitl [P1] <;> iassumption
  · iexists _; iexact HO

/-! ## The handshake -/

/-- What device `c` starts with for the handshake. -/
def barPre (c : Dev nD) : sProp 𝕄 :=
  iprop((inv1 ww K c none ∗ inv1 ww K (fr false c) none ∗ inv1 ww K (fr true c) none
      ∗ reached ER (barCell (fr false c)) 0 ∗ reached ER (barCell (fr true c)) 0)
    ∗ atPos ER (barCell c) 0 ∅ 0 ∗ dutyTok ER (barCell (fr false c)) 0 false ∗ dutyTok ER (barCell (fr true c)) 0 true
    ∗ cred (tallyAt (barCell c) () 2))

theorem wp_handshake (c : Dev nD) {α : Type} {Q : α → sProp 𝕄} {k : Unit → Pg F α} :
    iprop(barPre ww K c ∗ bufAny c false ∗ bufAny c true ∗ (∃ W, owes (c : Thread nD τ) (O c 0) W) ∗ levAts L lv)
      ⊢ iprop(((semVal (barCell c) 0 ∗ bufAny (tgt false c) false ∗ bufAny (tgt true c) true
            ∗ ∃ W, owes (c : Thread nD τ) (dues ((owing c).drop 2)) W)
          -∗ wp frame (wpE (defs₀ (F := F)) 𝒱₀ (c : Thread nD τ) none) Set.univ (k ⟨⟩) Q)
        -∗ wp frame (wpE (defs₀ (F := F)) 𝒱₀ (c : Thread nD τ) none) Set.univ (handshake c k) Q) := by
  unfold handshake
  simp only [semSignalWord, semWaitWord, Prog.lift, Prog.bind_op, Prog.bind_ret, Prog.pure_eq_ret]
  simp only [dev1_eq c, dev2_eq c]
  unfold barPre inv1
  iintro ⟨⟨⟨#I0, #I1, #I2, #R1, #R2⟩, A0, T1, T2, C0⟩, B0, B1, ⟨%W, HO⟩, #Hlev⟩ Hk
  iapply (Rounds.wp_signal 𝒱₀ ER (ringRd ww) (c : Thread nD τ) none (dst := (fr false c : Thread nD τ)) (κ := K (fr false c, none))
      (d := false) (mem_bar ww (fr false c) false) ((amount_eq ww (fr false c) none false).trans (by decide)) ()
      (O c 1) rfl) $$ [HO T1 B0]
  · isplitr; · iexact I1
    isplitl [HO]; · iexact HO
    isplitl [T1]; · iexact T1
    isplitl [B0]; · iapply (pay_bar ww c false); iexact B0
    iexact R1
  iintro HO
  iapply (Rounds.wp_signal 𝒱₀ ER (ringRd ww) (c : Thread nD τ) none (dst := (fr true c : Thread nD τ)) (κ := K (fr true c, none))
      (d := true) (mem_bar ww (fr true c) true) ((amount_eq ww (fr true c) none true).trans (by decide)) ()
      (O c 2) rfl) $$ [HO T2 B1]
  · isplitr; · iexact I2
    isplitl [HO]; · iexact HO
    isplitl [T2]; · iexact T2
    isplitl [B1]; · iapply (pay_bar ww c true); iexact B1
    iexact R2
  iintro HO
  iapply (Rounds.wp_wait_rest_token 𝒱₀ ER (ringRd ww) (c : Thread nD τ) none (κ := K (c, none))
      (wpE_semWait_eq 𝒱₀ (c : Thread nD τ) none Set.univ) (Set.mem_univ _) () (O := O c 2) (R := 0) (m := 0) (T := ∅)
      ((show 0 + (2#32).toNat = 2 from rfl).trans (expect_bar ww c).symm)) $$ [C0 HO A0]
  · isplitr; · iexact I0
    isplitl [C0]; · iexact C0
    isplitl [HO]; · iexact HO
    isplitr; · iapply (mayWait c _ 1 _ (le_of_eq lvS_bar) (above_owing c 1 2 (by decide))); iexact Hlev
    iexact A0
  iintro ⟨HO, A0, -, P⟩
  ihave P := (rest_bar' ww c) $$ P
  icases P with ⟨P0, P1⟩
  imod (Rounds.cell_close ER (ringRd ww) (Set.mem_univ (K (c, none))) (fun h => h) (R := 0 + 1) (duties_later ww (barCell c))) $$ [A0] with Z
  · isplitr; · iexact I0
    iexact A0
  iapply Hk
  isplitl [Z]; · iexact Z
  isplitl [P0]; · iexact P0
  isplitl [P1]; · iexact P1
  iexists _; iexact HO

end Ring

end Cert.RingAttn
-- ==== Proof.Moves.lean ====
/-
# The moves within a device

The permuted rows of `x` (`wp_permK`), the gathered output weight (`wp_putWK`), the queries (`wp_putQK`) and the rows of
the result (`wp_outK`), each with what it has written.
-/
module

public import proofs.«01_k».proof.Proof.Ring

@[expose] public section

set_option maxRecDepth 65536

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx

variable {F : FTy → Type} [FloatOps F]

local notation "𝕄" => MT nD τ sig Unit (Elt F) ℕ UU ℕ

omit [FloatOps F] in
/-- A store through a rectangle of a whole buffer agrees with `T` where the stored value does and, elsewhere, where the
    old contents do. -/
theorem write_agree (b : Ref sig .tc) (r : Rect b.ty.shape) (f : b.ty.Contents (Elt F)) (w : r.shape.Idx → Elt F b.ty.elt)
    (T : b.ty.Contents (Elt F)) (x : b.ty.Idx) (h : x ∉ r.set → f x = T x) (hw : ∀ y, w y = T (r.emb y)) :
    ((Memref.whole b).access r).write (Elt F) f w Finset.univ x = T x := by
  by_cases hx : x ∈ r.set
  · rw [← Rect.map_emb_univ] at hx
    obtain ⟨y, -, rfl⟩ := Finset.mem_map.mp hx
    exact (View.write_emb_of_mem (v := (Memref.whole b).access r) f w (Finset.mem_univ y)).trans (hw y)
  · refine (View.write_of_not_mem (v := (Memref.whole b).access r) f w Finset.univ ?_).trans (h hx)
    intro hm
    have hm' : x ∈ ((View.whole b).slice r).set := hm
    rw [View.set_slice_whole] at hm'
    exact hx hm'

theorem mem_places : ∀ i : Fin 16, i ∈ places := by decide

/-! ## The permuted rows -/

/-- The rows of `x` in the order of the places. -/
def permF (x0 : S1x1024x1024.Idx → Elt F .bf16) : S1024x1024.Idx → Elt F .bf16 :=
  fun x => x0 (ix3 (n0 := 1) (n1 := 1024) (n2 := 1024) 0 (permRow (x 0)) (x 1))

section Moves
variable (c : Dev nD)

theorem perm_val (x0 : S1x1024x1024.Idx → Elt F .bf16) (i : Fin 16) (y : S64x1024.Idx) :
    k0_pay78 (mX.view.readAt (Elt F) (xR i).toLoadRect x0) y = permF x0 ((xpR i).emb y) := by
  have hy : (y 0).val < 64 := (y 0).isLt
  have hi : i.val < 16 := i.isLt
  have e0 : permRow ((xpR i).emb y 0) = (⟨64 * blk i + (y 0).val, by have := blk_lt i; omega⟩ : Fin 1024) := by
    rw [← permRow_at i (y 0) (by have : (y 0).val < 64 := hy; omega)]
    exact congrArg permRow (Fin.ext (by show 64 * i.val + 1 * (y 0).val = 64 * i.val + (y 0).val; omega))
  have e1 : (xpR i).emb y 1 = y 1 := Fin.ext (by show 0 + 1 * (y 1).val = _; omega)
  unfold permF
  rw [e0, e1]
  show shapeCast S64x1024 (shapeCast S64x1024 (mX.view.readAt (Elt F) (xR i).toLoadRect x0) shapeCasts_S1x64x1024_S64x1024) shapeCasts_S64x1024_S64x1024 y = _
  rw [shapeCast_self]
  refine (congrArg (shapeCast S64x1024 (mX.view.readAt (Elt F) (xR i).toLoadRect x0) shapeCasts_S1x64x1024_S64x1024) (eq_ix2 y)).trans ?_
  refine (shapeCast_1ab_ab_apply _ _ (y 0) (y 1)).trans (congrArg x0 ?_)
  funext a
  apply Fin.ext
  fin_cases a
  · rfl
  · show 64 * blk i + 1 * (y 0).val = 64 * blk i + (y 0).val; omega
  · show 0 + 1 * (y 1).val = (y 1).val; omega

theorem wp_permK (x0 : S1x1024x1024.Idx → Elt F .bf16) (l : List (Fin 16)) (f : S1024x1024.Idx → Elt F .bf16)
    (hf : ∀ x, (∀ i ∈ l, x ∉ (xpR i).set) → f x = permF x0 x) {α : Type} {Q : α → sProp 𝕄} {k : Unit → Pg F α} :
    iprop((mX.view.loc (c : Thread nD τ) ↦[Finset.univ]{fullShare} x0) ∗ (mXp.view.loc (c : Thread nD τ) ↦[Finset.univ]{fullShare} f))
      ⊢ iprop((((mX.view.loc (c : Thread nD τ) ↦[Finset.univ]{fullShare} x0) ∗ (mXp.view.loc (c : Thread nD τ) ↦[Finset.univ]{fullShare} permF x0))
          -∗ wp frame (wpE (defs₀ (F := F)) 𝒱₀ (c : Thread nD τ) none) Set.univ (k ⟨⟩) Q)
        -∗ wp frame (wpE (defs₀ (F := F)) 𝒱₀ (c : Thread nD τ) none) Set.univ (permK l k) Q) := by
  induction l generalizing f with
  | nil =>
    rw [show f = permF x0 from funext fun x => hf x (fun i hi => absurd hi List.not_mem_nil)]
    unfold permK
    iintro H Hk; iapply Hk; iexact H
  | cons i l ih =>
    unfold permK
    iintro ⟨Hx, Hp⟩ Hk
    iapply (wp_load 𝒱₀ (c : Thread nD τ) none Set.univ (m := mX) (Finset.subset_univ _)) $$ Hx; iintro Hx
    iapply (wp_load 𝒱₀ (c : Thread nD τ) none Set.univ (m := mXp) (Finset.subset_univ _)) $$ Hp; iintro Hp
    iapply (wp_store 𝒱₀ (c : Thread nD τ) none Set.univ (m := mXp) (r := xpR i) (Mk := Finset.univ) (f := f) (Finset.subset_univ _)) $$ Hp; iintro Hp
    iapply (ih _ (fun x hx => write_agree cc0_scratch2 (xpR i) f _ (permF x0) x (fun hn => hf x (fun i' hi' => by
      rcases List.mem_cons.mp hi' with rfl | h
      · exact hn
      · exact hx i' h)) (perm_val x0 i))) $$ [Hx Hp]
    · isplitl [Hx] <;> iassumption
    iexact Hk

/-! ## The result's rows -/

/-- The place at which block `b` of 64 rows stands. -/
def unblk : Fin 16 → Fin 16 := ![0, 6, 11, 1, 7, 12, 2, 8, 13, 3, 9, 14, 4, 10, 15, 5]
theorem unblk_blk : ∀ i : Fin 16, unblk ⟨blk i, blk_lt i⟩ = i := by decide
theorem blk_unblk : ∀ i : Fin 16, blk (unblk i) = i.val := by decide

/-- The place at which row `r` stands. -/
def unRow (r : Fin 1024) : Fin 1024 :=
  ⟨64 * (unblk ⟨r.val / 64, by omega⟩).val + r.val % 64, by have := (unblk ⟨r.val / 64, by omega⟩).isLt; omega⟩

/-- `acc` with its rows put back in order. -/
def outF (acc : S1024x1024.Idx → Elt F .f32) : S1x1024x1024.Idx → Elt F .f32 :=
  fun x => acc (ix2 (n0 := 1024) (n1 := 1024) (unRow (x 1)) (x 2))

theorem out_val (acc : FVec F S1024x1024 .f32) (i : Fin 16) (y : S1x64x1024.Idx) : outVal i acc y = outF acc ((xR i).emb y) := by
  have hy : (y 1).val < 64 := (y 1).isLt
  have hb := blk_lt i
  have e1 : ((xR i).emb y 1).val = 64 * blk i + (y 1).val := by show 64 * blk i + 1 * (y 1).val = _; omega
  have e2 : (xR i).emb y 2 = y 2 := Fin.ext (by show 0 + 1 * (y 2).val = _; omega)
  have hq : (⟨((xR i).emb y 1).val / 64, by omega⟩ : Fin 16) = ⟨blk i, hb⟩ := Fin.ext (by show ((xR i).emb y 1).val / 64 = blk i; omega)
  have e0 : (unRow ((xR i).emb y 1)).val = 64 * i.val + (y 1).val := by
    show 64 * (unblk ⟨((xR i).emb y 1).val / 64, _⟩).val + ((xR i).emb y 1).val % 64 = _
    rw [hq, unblk_blk]; omega
  unfold outVal outF
  rw [e2]
  have hy3 : y = ix3 (0 : Fin 1) (y 1) (y 2) := (eq_ix3 y).trans (congrArg (fun z => ix3 z (y 1) (y 2)) (Fin.ext (by have : (y 0).val < 1 := (y 0).isLt; show (y 0).val = 0; omega)))
  refine (congrArg (shapeCast S1x64x1024 (extractStridedSlice S64x1024 ![64 * i.val, 0] acc (out_slices i)) shapeCasts_S64x1024_S1x64x1024) hy3).trans ?_
  refine (shapeCast_ab_1ab_apply _ _ 0 (y 1) (y 2)).trans ?_
  refine congrArg acc ?_
  funext a
  apply Fin.ext
  fin_cases a
  · show 64 * i.val + (y 1).val = _; exact e0.symm
  · show 0 + (y 2).val = (y 2).val; omega

theorem wp_outK (acc : FVec F S1024x1024 .f32) (l : List (Fin 16)) (f : S1x1024x1024.Idx → Elt F .f32)
    (hf : ∀ x, (∀ i ∈ l, x ∉ (xR i).set) → f x = outF acc x) {α : Type} {Q : α → sProp 𝕄} {k : Unit → Pg F α} :
    (mOut.view.loc (c : Thread nD τ) ↦[Finset.univ]{fullShare} f)
      ⊢ iprop(((mOut.view.loc (c : Thread nD τ) ↦[Finset.univ]{fullShare} outF acc)
          -∗ wp frame (wpE (defs₀ (F := F)) 𝒱₀ (c : Thread nD τ) none) Set.univ (k ⟨⟩) Q)
        -∗ wp frame (wpE (defs₀ (F := F)) 𝒱₀ (c : Thread nD τ) none) Set.univ (outK acc l k) Q) := by
  induction l generalizing f with
  | nil =>
    rw [show f = outF acc from funext fun x => hf x (fun i hi => absurd hi List.not_mem_nil)]
    unfold outK
    iintro H Hk; iapply Hk; iexact H
  | cons i l ih =>
    unfold outK
    iintro Hp Hk
    iapply (wp_load 𝒱₀ (c : Thread nD τ) none Set.univ (m := mOut) (Finset.subset_univ _)) $$ Hp; iintro Hp
    iapply (wp_store 𝒱₀ (c : Thread nD τ) none Set.univ (m := mOut) (r := xR i) (Mk := Finset.univ) (f := f) (Finset.subset_univ _)) $$ Hp; iintro Hp
    iapply (ih _ (fun x hx => write_agree cc0_stg3_0 (xR i) f _ (outF acc) x (fun hn => hf x (fun i' hi' => by
      rcases List.mem_cons.mp hi' with rfl | h
      · exact hn
      · exact hx i' h)) (out_val acc i))) $$ Hp
    iexact Hk

theorem xp_cover (x : S1024x1024.Idx) : ∃ i ∈ places, x ∈ (xpR i).set := by
  have h0 : (x 0).val < 1024 := (x 0).isLt
  refine ⟨⟨(x 0).val / 64, by omega⟩, mem_places _, Rect.mem_set_unit.mpr fun a => ?_⟩
  fin_cases a
  · show 64 * ((x 0).val / 64) ≤ (x 0).val ∧ (x 0).val < 64 * ((x 0).val / 64) + 64; omega
  · show 0 ≤ (x 1).val ∧ (x 1).val < 0 + 1024; exact ⟨Nat.zero_le _, by have : (x 1).val < 1024 := (x 1).isLt; omega⟩

theorem x_cover (x : S1x1024x1024.Idx) : ∃ i ∈ places, x ∈ (xR i).set := by
  have h1 : (x 1).val < 1024 := (x 1).isLt
  refine ⟨unblk ⟨(x 1).val / 64, by omega⟩, mem_places _, Rect.mem_set_unit.mpr fun a => ?_⟩
  fin_cases a
  · show 0 ≤ (x 0).val ∧ (x 0).val < 0 + 1; exact ⟨Nat.zero_le _, by have : (x 0).val < 1 := (x 0).isLt; omega⟩
  · show 64 * blk (unblk ⟨(x 1).val / 64, _⟩) ≤ (x 1).val ∧ (x 1).val < 64 * blk (unblk ⟨(x 1).val / 64, _⟩) + 64
    rw [blk_unblk]; show 64 * ((x 1).val / 64) ≤ (x 1).val ∧ (x 1).val < 64 * ((x 1).val / 64) + 64; omega
  · show 0 ≤ (x 2).val ∧ (x 2).val < 0 + 1024; exact ⟨Nat.zero_le _, by have : (x 2).val < 1024 := (x 2).isLt; omega⟩

/-! ## The gathered output weight -/

section Gather
variable (ww : Dev nD → Bool → S1024x1024.Idx → Elt F .bf16)

/-- The gathered output weight: block `t` of rows is the weight that comes over `4 - t` steps. -/
def gathF : S4096x1024.Idx → Elt F .bf16 :=
  fun x => ww (og true ((4 - (x 0).val / 1024) % 4) c) true (ix2 (n0 := 1024) (n1 := 1024) ⟨(x 0).val % 1024, by omega⟩ (x 1))

/-- `f` holds the blocks listed. -/
def GathOn (l : List ℕ) (f : S4096x1024.Idx → Elt F .bf16) : Prop := ∀ x, (x 0).val / 1024 ∈ l → f x = gathF c ww x

theorem wp_putWK (j : Fin 4) (l : List ℕ) (v : FVec F S1024x1024 .bf16) (hv : v = ww (og true ((4 - j.val) % 4) c) true) {α : Type}
    {Q : α → sProp 𝕄} {k : Unit → Pg F α} :
    iprop(∃ f, ⌜GathOn c ww l f⌝ ∗ (mW.view.loc (c : Thread nD τ) ↦[Finset.univ]{fullShare} f))
      ⊢ iprop(((∃ f, ⌜GathOn c ww (j.val :: l) f⌝ ∗ (mW.view.loc (c : Thread nD τ) ↦[Finset.univ]{fullShare} f))
          -∗ wp frame (wpE (defs₀ (F := F)) 𝒱₀ (c : Thread nD τ) none) Set.univ (k ⟨⟩) Q)
        -∗ wp frame (wpE (defs₀ (F := F)) 𝒱₀ (c : Thread nD τ) none) Set.univ (putWK j v k) Q) := by
  unfold putWK
  iintro ⟨%f, %hf, Hw⟩ Hk
  iapply (wp_load 𝒱₀ (c : Thread nD τ) none Set.univ (m := mW) (Finset.subset_univ _)) $$ Hw; iintro Hw
  iapply (wp_store 𝒱₀ (c : Thread nD τ) none Set.univ (m := mW) (r := wR j) (Mk := Finset.univ) (f := f) (Finset.subset_univ _)) $$ Hw; iintro Hw
  iapply Hk
  iexists _
  isplitr [Hw]
  swap; · iexact Hw
  ipureintro
  intro x hx
  refine write_agree cc0_scratch5 (wR j) f v (gathF c ww) x (fun hn => hf x ?_) (fun y => ?_)
  · rcases List.mem_cons.mp hx with h | h
    · refine absurd (Rect.mem_set_unit.mpr fun a => ?_) hn
      fin_cases a
      · show 1024 * j.val ≤ (x 0).val ∧ (x 0).val < 1024 * j.val + 1024; omega
      · show 0 ≤ (x 1).val ∧ (x 1).val < 0 + 1024; exact ⟨Nat.zero_le _, by have : (x 1).val < 1024 := (x 1).isLt; omega⟩
    · exact h
  · have hy : (y 0).val < 1024 := (y 0).isLt
    have e0 : ((wR j).emb y 0).val = 1024 * j.val + (y 0).val := by show 1024 * j.val + 1 * (y 0).val = _; omega
    have e1 : (wR j).emb y 1 = y 1 := Fin.ext (by show 0 + 1 * (y 1).val = _; omega)
    have h1 : ((wR j).emb y 0).val / 1024 = j.val := by omega
    have h2 : (⟨((wR j).emb y 0).val % 1024, by omega⟩ : Fin 1024) = y 0 := Fin.ext (by show ((wR j).emb y 0).val % 1024 = (y 0).val; omega)
    unfold gathF
    rw [h1, h2, e1, hv]
    exact congrArg (ww (og true ((4 - j.val) % 4) c) true) (eq_ix2 y)

end Gather

/-! ## The queries -/

theorem wp_putQK (v : FVec F S1024x1024 .bf16) {α : Type} {Q : α → sProp 𝕄} {k : Unit → Pg F α} :
    iprop(∃ f, (mQ.view.loc (c : Thread nD τ) ↦[Finset.univ]{fullShare} f))
      ⊢ iprop(((mQ.view.loc (c : Thread nD τ) ↦[Finset.univ]{fullShare} v)
          -∗ wp frame (wpE (defs₀ (F := F)) 𝒱₀ (c : Thread nD τ) none) Set.univ (k ⟨⟩) Q)
        -∗ wp frame (wpE (defs₀ (F := F)) 𝒱₀ (c : Thread nD τ) none) Set.univ (putQK v k) Q) := by
  unfold putQK
  iintro ⟨%f, Hq⟩ Hk
  iapply (wp_load 𝒱₀ (c : Thread nD τ) none Set.univ (m := mQ) (Finset.subset_univ _)) $$ Hq; iintro Hq
  iapply (wp_store 𝒱₀ (c : Thread nD τ) none Set.univ (m := mQ) (r := sqR) (Mk := Finset.univ) (f := f) (Finset.subset_univ _)) $$ Hq; iintro Hq
  iapply Hk
  rw [show (mQ.access sqR).write (Elt F) f v Finset.univ = v from Memref.write_access_unit_zero_univ (Elt F) cc0_scratch3 (funext fun a => by fin_cases a <;> rfl) _ f v]
  iexact Hq

end Moves

end Cert.RingAttn
-- ==== Proof.Parts.lean ====
/-
# Parts and wholes

A landing buffer as its three slots, a weight as two halves, the K and V buffers as the tiles the copies work on.
-/
module

public import proofs.«01_k».proof.Proof.Moves

@[expose] public section

set_option maxRecDepth 65536

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx

variable {F : FTy → Type} [FloatOps F]

local notation "𝕄" => MT nD τ sig Unit (Elt F) ℕ UU ℕ

/-! ## Landing buffers -/

/-- The places of slot `s`; -/
def lset (s : Fin 3) : Finset S3x1024x1024.Idx := (slotR s).set
/-- the same, of a landing buffer. -/
def wbS (c : Dev nD) (b : Bool) (S : Finset S3x1024x1024.Idx) : Finset (Idx ((wBuf b).view.loc (c : Thread nD τ))) :=
  match b with
  | false => S
  | true => S

theorem mem_lset (s : Fin 3) (x : S3x1024x1024.Idx) : Iff (x ∈ lset s) ((x 0).val = s.val) := by
  unfold lset
  rw [Rect.mem_set_unit]
  have h0 := (x 0).isLt; have h1 := (x 1).isLt; have h2 := (x 2).isLt
  constructor
  · intro h
    have b0 : s.val ≤ (x 0).val ∧ (x 0).val < s.val + 1 := h 0
    omega
  · intro e a
    fin_cases a
    · show s.val ≤ (x 0).val ∧ (x 0).val < s.val + 1; omega
    · show 0 ≤ (x 1).val ∧ (x 1).val < 0 + 1024; exact ⟨Nat.zero_le _, by have : (x 1).val < 1024 := h1; omega⟩
    · show 0 ≤ (x 2).val ∧ (x 2).val < 0 + 1024; exact ⟨Nat.zero_le _, by have : (x 2).val < 1024 := h2; omega⟩

theorem slot_set (c : Dev nD) (b : Bool) (s : Fin 3) :
    ((slotOf (wBuf b) s).view.set : Finset (Idx ((wBuf b).view.loc (c : Thread nD τ)))) = wbS c b (lset s) := by
  cases b
  · exact (Memref.set_view_squeeze _ squeezes_S1x1024x1024_S1024x1024).trans (View.set_slice_whole cc0_scratch0 (slotR s))
  · exact (Memref.set_view_squeeze _ squeezes_S1x1024x1024_S1024x1024).trans (View.set_slice_whole cc0_scratch1 (slotR s))

theorem lset_disj : ∀ s ∈ (Finset.univ : Finset (Fin 3)), ∀ t ∈ (Finset.univ : Finset (Fin 3)), s ≠ t → Disjoint (lset s) (lset t) := by
  intro s _ t _ hst
  rw [Finset.disjoint_left]
  intro x hx hy
  exact hst (Fin.ext (((mem_lset s x).1 hx).symm.trans ((mem_lset t x).1 hy)))
theorem lset_cover : (Finset.univ : Finset (Fin 3)).biUnion lset = Finset.univ := by
  ext x
  simp only [Finset.mem_biUnion, Finset.mem_univ, true_and, iff_true]
  exact ⟨x 0, (mem_lset _ x).2 rfl⟩

section Land
variable (c : Dev nD)

theorem bigSep3 (Φ : Fin 3 → sProp 𝕄) : bigSep Finset.univ Φ = iprop(Φ 0 ∗ Φ 1 ∗ Φ 2) := by
  rw [bigSep_univ_eq_bigSepL [0, 1, 2] (by decide) (by decide)]; rfl

/-- A whole landing buffer is its three slots. -/
theorem land_open (b : Bool) : bufAny (F := F) c b ⊢ iprop(slotAny c b 0 ∗ slotAny c b 1 ∗ slotAny c b 2) := by
  unfold bufAny
  iintro ⟨%f, H⟩
  have e : ((wBuf b).view.loc (c : Thread nD τ) ↦[Finset.univ]{fullShare} f : sProp 𝕄)
      ⊢ bigSep Finset.univ (fun s : Fin 3 => slotAny c b s) := by
    have h1 : ((wBuf b).view.loc (c : Thread nD τ) ↦[Finset.univ]{fullShare} f : sProp 𝕄)
        = bigSep Finset.univ (fun s : Fin 3 => ((wBuf b).view.loc (c : Thread nD τ) ↦[wbS c b (lset s)]{fullShare} f)) := by
      cases b
      · exact (congrArg (fun S => ((wBuf false).view.loc (c : Thread nD τ) ↦[S]{fullShare} f : sProp 𝕄)) lset_cover.symm).trans
          (pointsTo_biUnion (ℓ := (wBuf false).view.loc (c : Thread nD τ)) Finset.univ lset lset_disj)
      · exact (congrArg (fun S => ((wBuf true).view.loc (c : Thread nD τ) ↦[S]{fullShare} f : sProp 𝕄)) lset_cover.symm).trans
          (pointsTo_biUnion (ℓ := (wBuf true).view.loc (c : Thread nD τ)) Finset.univ lset lset_disj)
    rw [h1]
    refine bigSep_mono fun s _ => ?_
    rw [← slot_set]
    unfold slotAny
    exact BI.BIClass.exists_intro (Φ := fun f => ((wBuf b).view.loc (c : Thread nD τ) ↦[(slotOf (wBuf b) s).view.set]{fullShare} f : sProp 𝕄)) f
  rw [bigSep3] at e
  iapply e; iexact H

variable (ww : Dev nD → Bool → S1024x1024.Idx → Elt F .bf16)

/-- The three slots with what has landed are the whole buffer. -/
theorem land_close (b : Bool) : iprop(landPay ww c b 0 ∗ landPay ww c b 1 ∗ landPay ww c b 2) ⊢ bufAny (F := F) c b := by
  rw [← bigSep3 (fun s => landPay ww c b s)]
  have h1 : ((wBuf b).view.loc (c : Thread nD τ) ↦[Finset.univ]{fullShare} wbC c b (landF ww c b) : sProp 𝕄)
      = bigSep Finset.univ (fun s : Fin 3 => ((wBuf b).view.loc (c : Thread nD τ) ↦[wbS c b (lset s)]{fullShare} wbC c b (landF ww c b))) := by
    cases b
    · exact (congrArg (fun S => ((wBuf false).view.loc (c : Thread nD τ) ↦[S]{fullShare} wbC c false (landF ww c false) : sProp 𝕄)) lset_cover.symm).trans
        (pointsTo_biUnion (ℓ := (wBuf false).view.loc (c : Thread nD τ)) Finset.univ lset lset_disj)
    · exact (congrArg (fun S => ((wBuf true).view.loc (c : Thread nD τ) ↦[S]{fullShare} wbC c true (landF ww c true) : sProp 𝕄)) lset_cover.symm).trans
        (pointsTo_biUnion (ℓ := (wBuf true).view.loc (c : Thread nD τ)) Finset.univ lset lset_disj)
  have h2 : (bigSep Finset.univ (fun s : Fin 3 => landPay ww c b s) : sProp 𝕄)
      = bigSep Finset.univ (fun s : Fin 3 => ((wBuf b).view.loc (c : Thread nD τ) ↦[wbS c b (lset s)]{fullShare} wbC c b (landF ww c b))) :=
    bigSep_congr fun s _ => by
      unfold landPay slotC
      exact congrArg (fun S => ((wBuf b).view.loc (c : Thread nD τ) ↦[S]{fullShare} wbC c b (landF ww c b) : sProp 𝕄)) (slot_set c b s)
  rw [h2, ← h1]
  unfold bufAny
  iintro H; iexists _; iexact H

/-- The other half of what send `s` reads. -/
def srcKeep (b : Bool) (s : Fin 3) : sProp 𝕄 :=
  (srcM b s).view.loc (c : Thread nD τ) ↦[(srcM b s).view.set]{fullShare.right} srcC ww c b s

theorem halves {ℓ : Loc nD τ sig} {I : Finset (Idx ℓ)} {f : Buf (Elt F) ℓ} :
    (ℓ ↦[I]{fullShare} f : sProp 𝕄) ⊣⊢ iprop((ℓ ↦[I]{fullShare.left} f) ∗ ℓ ↦[I]{fullShare.right} f) :=
  pointsTo_share (PosShare.mem_left_op_right _)

theorem land1 (b : Bool) : landPay (F := F) ww c b 0 ⊣⊢ iprop(srcPay ww c b 1 ∗ srcKeep c ww b 1) := by
  unfold landPay srcPay srcKeep; exact halves
theorem land2 (b : Bool) : landPay (F := F) ww c b 1 ⊣⊢ iprop(srcPay ww c b 2 ∗ srcKeep c ww b 2) := by
  unfold landPay srcPay srcKeep; exact halves

theorem own_q : (mWq.view.loc (c : Thread nD τ) ↦[Finset.univ]{fullShare} (ww c false) : sProp 𝕄) ⊣⊢ iprop(srcPay ww c false 0 ∗ srcKeep c ww false 0) := by
  have h : ((wOwn false).view.set : Finset (Idx ((wOwn false).view.loc (c : Thread nD τ)))) = Finset.univ := View.set_whole _
  unfold srcPay srcKeep
  show _ ⊣⊢ iprop(((wOwn false).view.loc (c : Thread nD τ) ↦[(wOwn false).view.set]{_} _) ∗ (wOwn false).view.loc (c : Thread nD τ) ↦[(wOwn false).view.set]{_} _)
  rw [h]
  exact halves
theorem own_o : (mWo.view.loc (c : Thread nD τ) ↦[Finset.univ]{fullShare} (ww c true) : sProp 𝕄) ⊣⊢ iprop(srcPay ww c true 0 ∗ srcKeep c ww true 0) := by
  have h : ((wOwn true).view.set : Finset (Idx ((wOwn true).view.loc (c : Thread nD τ)))) = Finset.univ := View.set_whole _
  unfold srcPay srcKeep
  show _ ⊣⊢ iprop(((wOwn true).view.loc (c : Thread nD τ) ↦[(wOwn true).view.set]{_} _) ∗ (wOwn true).view.loc (c : Thread nD τ) ↦[(wOwn true).view.set]{_} _)
  rw [h]
  exact halves

end Land

/-! ## The K and V buffers -/

section KV
variable (c : Dev nD) (fa : Bool → S4x1024x32x128.Idx → Elt F .f32)

theorem slotSet_disj : Disjoint (slotSet 0) (slotSet 1) := by
  rw [Finset.disjoint_left]
  intro x hx hy
  obtain ⟨i, -, hi⟩ := Finset.mem_biUnion.mp hx
  obtain ⟨j, -, hj⟩ := Finset.mem_biUnion.mp hy
  have a := ((mem_tileSet 0 i x).1 hi).1; have b := ((mem_tileSet 1 j x).1 hj).1
  rw [a] at b; exact absurd b (by decide)
theorem slotSet_cover : slotSet 0 ∪ slotSet 1 = Finset.univ := by
  ext x
  simp only [Finset.mem_union, Finset.mem_univ, iff_true]
  have h1 : (x 1).val < 1024 := (x 1).isLt
  have h0 : (x 0).val < 2 := (x 0).isLt
  rcases Nat.lt_or_ge (x 0).val 1 with h | h
  · exact .inl (Finset.mem_biUnion.mpr ⟨⟨(x 1).val / 64, by omega⟩, Finset.mem_univ _, (mem_tileSet _ _ x).2 ⟨by show (x 0).val = 0; omega, rfl⟩⟩)
  · exact .inr (Finset.mem_biUnion.mpr ⟨⟨(x 1).val / 64, by omega⟩, Finset.mem_univ _, (mem_tileSet _ _ x).2 ⟨by show (x 0).val = 1; omega, rfl⟩⟩)

/-- What the copies into slot `s` leave of their share of an array. -/
def kvRem (b : Bool) (s : Fin 2) : sProp 𝕄 := (kvArr b).view.loc (c : Thread nD τ) ↦[Finset.univ]{shareDrop (slotS s) 16} kvC c b (fa b)
/-- The counters of slot `s`, at zero. -/
def kvSems (b : Bool) (s : Fin 2) : sProp 𝕄 := bigSep Finset.univ fun i : Fin 16 => semVal ((c : Thread nD τ), .dma (kvSemAt (b, s, i))) 0

theorem tiles (b : Bool) (s : Fin 2) (f : Buf (Elt F) ((kvBuf b).view.loc (c : Thread nD τ))) :
    ((kvBuf b).view.loc (c : Thread nD τ) ↦[kvS c b (slotSet s)]{fullShare} f : sProp 𝕄)
      = bigSep Finset.univ fun i : Fin 16 => ((kvBuf b).view.loc (c : Thread nD τ) ↦[dset b s i]{fullShare} f) := by
  cases b
  · exact ((bigSep_congr fun i _ => congrArg (fun S => iprop((kvBuf false).view.loc (c : Thread nD τ) ↦[S]{fullShare} f)) (dset_eq c false s i)).trans
      (pointsTo_biUnion (ℓ := (kvBuf false).view.loc (c : Thread nD τ)) Finset.univ (tileSet s) (tileSet_disj s)).symm).symm
  · exact ((bigSep_congr fun i _ => congrArg (fun S => iprop((kvBuf true).view.loc (c : Thread nD τ) ↦[S]{fullShare} f)) (dset_eq c true s i)).trans
      (pointsTo_biUnion (ℓ := (kvBuf true).view.loc (c : Thread nD τ)) Finset.univ (tileSet s) (tileSet_disj s)).symm).symm

theorem tiles_join (b : Bool) (s : Fin 2) :
    (bigSep Finset.univ fun i : Fin 16 => (iprop(∃ f, (kvBuf b).view.loc (c : Thread nD τ) ↦[dset b s i]{fullShare} f) : sProp 𝕄))
      ⊢ iprop(∃ f, (kvBuf b).view.loc (c : Thread nD τ) ↦[kvS c b (slotSet s)]{fullShare} f) := by
  iintro H
  ihave H := BI.bigSep_exists_pi (Finset.univ : Finset (Fin 16)) (fun i (f : Buf (Elt F) ((kvBuf b).view.loc (c : Thread nD τ))) =>
    ((kvBuf b).view.loc (c : Thread nD τ) ↦[dset b s i]{fullShare} f : sProp 𝕄)) $$ H
  icases H with ⟨%fs, H⟩
  have e : (bigSep Finset.univ fun i : Fin 16 => ((kvBuf b).view.loc (c : Thread nD τ) ↦[dset b s i]{fullShare} fs i : sProp 𝕄))
      ⊢ iprop(∃ f, (kvBuf b).view.loc (c : Thread nD τ) ↦[kvS c b (slotSet s)]{fullShare} f) := by
    cases b
    · have h := pointsTo_biUnion_join (Ix := Unit) (Name := ℕ) (U := UU) (Lvl := ℕ) (ℓ := (kvBuf false).view.loc (c : Thread nD τ)) (q := fullShare) (Finset.univ : Finset (Fin 16)) (tileSet s) fs (fs 0) (tileSet_disj s)
      rw [bigSep_congr fun i _ => congrArg (fun S => iprop((kvBuf false).view.loc (c : Thread nD τ) ↦[S]{fullShare} fs i)) (dset_eq c false s i)]
      refine h.trans ?_
      iintro ⟨%g, -, H⟩; iexists g; iexact H
    · have h := pointsTo_biUnion_join (Ix := Unit) (Name := ℕ) (U := UU) (Lvl := ℕ) (ℓ := (kvBuf true).view.loc (c : Thread nD τ)) (q := fullShare) (Finset.univ : Finset (Fin 16)) (tileSet s) fs (fs 0) (tileSet_disj s)
      rw [bigSep_congr fun i _ => congrArg (fun S => iprop((kvBuf true).view.loc (c : Thread nD τ) ↦[S]{fullShare} fs i)) (dset_eq c true s i)]
      refine h.trans ?_
      iintro ⟨%g, -, H⟩; iexists g; iexact H
  iapply e; iexact H

theorem idles (b : Bool) (s : Fin 2) :
    (bigSep Finset.univ fun i : Fin 16 => idle1 c fa s (b, i))
      = iprop(kvSems c b s ∗ (bigSep Finset.univ fun i : Fin 16 => iprop(∃ f, (kvBuf b).view.loc (c : Thread nD τ) ↦[dset b s i]{fullShare} f))
        ∗ bigSep Finset.univ fun i : Fin 16 => ((kvArr b).view.loc (c : Thread nD τ) ↦[Finset.univ]{shareTok (slotS s) 16 i} kvC c b (fa b)) : sProp 𝕄) := by
  unfold idle1 arrTok
  rw [bigSep_sep', bigSep_sep']; rfl

theorem kv_open1 (b : Bool) (s : Fin 2) (f : Buf (Elt F) ((kvBuf b).view.loc (c : Thread nD τ))) :
    iprop(((kvBuf b).view.loc (c : Thread nD τ) ↦[kvS c b (slotSet s)]{fullShare} f)
        ∗ ((kvArr b).view.loc (c : Thread nD τ) ↦[Finset.univ]{slotS s} kvC c b (fa b)) ∗ kvSems c b s)
      ⊢ iprop(kvRem c fa b s ∗ bigSep Finset.univ fun i : Fin 16 => idle1 c fa s (b, i)) := by
  rw [idles, tiles]
  unfold kvRem
  iintro ⟨H1, H2, H3⟩
  ihave H2 := (pointsTo_toks_split (slotS s) 16) $$ H2
  icases H2 with ⟨H2, H4⟩
  isplitl [H2]; · iexact H2
  isplitl [H3]; · iexact H3
  isplitl [H1]
  · iapply (show (bigSep Finset.univ fun i : Fin 16 => ((kvBuf b).view.loc (c : Thread nD τ) ↦[dset b s i]{fullShare} f : sProp 𝕄))
      ⊢ bigSep Finset.univ fun i : Fin 16 => (iprop(∃ f, (kvBuf b).view.loc (c : Thread nD τ) ↦[dset b s i]{fullShare} f)) from
        bigSep_mono fun i _ => BI.BIClass.exists_intro (Φ := fun f => ((kvBuf b).view.loc (c : Thread nD τ) ↦[dset b s i]{fullShare} f : sProp 𝕄)) f)
    iexact H1
  iexact H4

theorem kv_close1 (b : Bool) (s : Fin 2) :
    iprop(kvRem c fa b s ∗ bigSep Finset.univ fun i : Fin 16 => idle1 c fa s (b, i))
      ⊢ iprop((∃ f, (kvBuf b).view.loc (c : Thread nD τ) ↦[kvS c b (slotSet s)]{fullShare} f)
        ∗ ((kvArr b).view.loc (c : Thread nD τ) ↦[Finset.univ]{slotS s} kvC c b (fa b)) ∗ kvSems c b s) := by
  rw [idles]
  unfold kvRem
  iintro ⟨H2, H3, H1, H4⟩
  isplitl [H1]; · iapply (tiles_join c b s); iexact H1
  isplitr [H3]
  swap; · iexact H3
  iapply (pointsTo_toks_join (slotS s) 16)
  isplitl [H2] <;> iassumption

/-- The K or V buffer at some contents, the array it is copied from and the counters. -/
def kvAll (b : Bool) : sProp 𝕄 :=
  iprop((∃ f, (kvBuf b).view.loc (c : Thread nD τ) ↦[Finset.univ]{fullShare} f)
    ∗ ((kvArr b).view.loc (c : Thread nD τ) ↦[Finset.univ]{fullShare} kvC c b (fa b)) ∗ kvSems c b 0 ∗ kvSems c b 1)
/-- The same as tiles. -/
def kvTiles (b : Bool) : sProp 𝕄 :=
  iprop((kvRem c fa b 0 ∗ bigSep Finset.univ fun i : Fin 16 => idle1 c fa 0 (b, i))
    ∗ (kvRem c fa b 1 ∗ bigSep Finset.univ fun i : Fin 16 => idle1 c fa 1 (b, i)))

theorem kvS_disj (b : Bool) : Disjoint (kvS c b (slotSet 0)) (kvS c b (slotSet 1)) := by cases b <;> exact slotSet_disj
theorem kvS_cover (b : Bool) : kvS c b (slotSet 0) ∪ kvS c b (slotSet 1) = Finset.univ := by cases b <;> exact slotSet_cover

theorem kv_parts (b : Bool) (f : Buf (Elt F) ((kvBuf b).view.loc (c : Thread nD τ))) :
    ((kvBuf b).view.loc (c : Thread nD τ) ↦[Finset.univ]{fullShare} f : sProp 𝕄)
      ⊢ iprop(((kvBuf b).view.loc (c : Thread nD τ) ↦[kvS c b (slotSet 0)]{fullShare} f)
        ∗ ((kvBuf b).view.loc (c : Thread nD τ) ↦[kvS c b (slotSet 1)]{fullShare} f)) := by
  have h : ((kvBuf b).view.loc (c : Thread nD τ) ↦[Finset.univ]{fullShare} f : sProp 𝕄)
      = ((kvBuf b).view.loc (c : Thread nD τ) ↦[kvS c b (slotSet 0) ∪ kvS c b (slotSet 1)]{fullShare} f) := by rw [kvS_cover]
  rw [h]
  exact (pointsTo_union (kvS_disj c b)).1
theorem kv_whole (b : Bool) :
    iprop((∃ f, (kvBuf b).view.loc (c : Thread nD τ) ↦[kvS c b (slotSet 0)]{fullShare} f)
        ∗ (∃ f, (kvBuf b).view.loc (c : Thread nD τ) ↦[kvS c b (slotSet 1)]{fullShare} f))
      ⊢ (iprop(∃ f, (kvBuf b).view.loc (c : Thread nD τ) ↦[Finset.univ]{fullShare} f) : sProp 𝕄) := by
  iintro ⟨⟨%f, Hf⟩, ⟨%g, Hg⟩⟩
  have h := pointsTo_join (Ix := Unit) (Name := ℕ) (U := UU) (Lvl := ℕ) (ℓ := (kvBuf b).view.loc (c : Thread nD τ)) (q := fullShare) (f := f) (g := g) (kvS_disj c b)
  rw [kvS_cover] at h
  iexists _
  iapply h
  isplitl [Hf] <;> iassumption

theorem kv_open (b : Bool) : kvAll c fa b ⊢ kvTiles c fa b := by
  unfold kvAll kvTiles
  iintro ⟨⟨%f, Hb⟩, Ha, S0, S1⟩
  ihave Hb := (kv_parts c b f) $$ Hb
  icases Hb with ⟨B0, B1⟩
  ihave Ha := (halves (F := F) (ℓ := (kvArr b).view.loc (c : Thread nD τ))).1 $$ Ha
  icases Ha with ⟨A0, A1⟩
  isplitl [B0 A0 S0]
  · iapply (kv_open1 c fa b 0 f)
    isplitl [B0]; · iexact B0
    isplitl [A0]; · iexact A0
    iexact S0
  · iapply (kv_open1 c fa b 1 f)
    isplitl [B1]; · iexact B1
    isplitl [A1]; · iexact A1
    iexact S1

theorem kv_close (b : Bool) : kvTiles c fa b ⊢ kvAll c fa b := by
  unfold kvAll kvTiles
  iintro ⟨H0, H1⟩
  ihave H0 := (kv_close1 c fa b 0) $$ H0
  icases H0 with ⟨B0, A0, S0⟩
  ihave H1 := (kv_close1 c fa b 1) $$ H1
  icases H1 with ⟨B1, A1, S1⟩
  isplitl [B0 B1]
  · iapply (kv_whole c b); isplitl [B0] <;> iassumption
  isplitl [A0 A1]
  · iapply (halves (F := F) (ℓ := (kvArr b).view.loc (c : Thread nD τ))).2
    isplitl [A0]; · iexact A0
    iexact A1
  isplitl [S0] <;> iassumption

/-- Both buffers as tiles, slot by slot. -/
theorem kv_slots : iprop(kvTiles c fa false ∗ kvTiles c fa true)
    ⊣⊢ iprop((kvRem c fa false 0 ∗ kvRem c fa false 1 ∗ kvRem c fa true 0 ∗ kvRem c fa true 1)
      ∗ sepL (idle1 c fa 0) order ∗ sepL (idle1 c fa 1) order) := by
  unfold kvTiles
  rw [sepL_order, sepL_order]
  constructor
  · iintro ⟨⟨⟨R1, I1⟩, ⟨R2, I2⟩⟩, ⟨⟨R3, I3⟩, ⟨R4, I4⟩⟩⟩
    isplitl [R1 R2 R3 R4]
    · isplitl [R1]; · iexact R1
      isplitl [R2]; · iexact R2
      isplitl [R3] <;> iassumption
    isplitl [I1 I3]
    · isplitl [I1] <;> iassumption
    · isplitl [I2] <;> iassumption
  · iintro ⟨⟨R1, R2, R3, R4⟩, ⟨I1, I3⟩, ⟨I2, I4⟩⟩
    isplitl [R1 R2 I1 I2]
    · isplitl [R1 I1]
      · isplitl [R1] <;> iassumption
      · isplitl [R2] <;> iassumption
    · isplitl [R3 I3]
      · isplitl [R3] <;> iassumption
      · isplitl [R4] <;> iassumption

end KV

end Cert.RingAttn
-- ==== Proof.Body.lean ====
/-
# The body

What a device does between its loops (`wp_stage0` to `wp_stage4`) and, from these, the whole body (`wp_prog`).
-/
module

public import proofs.«01_k».proof.Proof.Parts

@[expose] public section

set_option maxRecDepth 65536

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx

variable {F : FTy → Type} [FloatOps F]

local notation "𝕄" => MT nD τ sig Unit (Elt F) ℕ UU ℕ

section Values
variable (c : Dev nD) (x0 : S1x1024x1024.Idx → Elt F .bf16) (ww : Dev nD → Bool → S1024x1024.Idx → Elt F .bf16)
  (fa : Bool → S4x1024x32x128.Idx → Elt F .f32)

/-- The queries of loop `j`. -/
def qjF (j : Fin 4) : S1024x1024.Idx → Elt F .bf16 := k0_pay100 (permF x0) (ww (og false j.val c) false)
/-- The product the result's rows are. -/
def accF : S1024x1024.Idx → Elt F .f32 := k0_pay108 (ctxAll c fa (qjF c x0 ww)) (gathF c ww)
/-- What the device's part of the result ends at. -/
def outAt : S1x1024x1024.Idx → Elt F .f32 := outF (accF c x0 ww fa)

theorem pay97_eq (x y : Vec F S1024x1024 .bf16) : k0_pay97 x y = k0_pay100 x y := by
  unfold k0_pay97 k0_pay100
  simp only [shapeCast_self]
theorem pay96_eq (w : Vec F S1024x1024 .bf16) : k0_pay96 w = w := by
  unfold k0_pay96
  simp only [shapeCast_self]

theorem sqR_emb (y : S1024x1024.Idx) : sqR.emb y = y := by
  funext a
  apply Fin.ext
  fin_cases a
  · show 0 + 1 * (y 0).val = (y 0).val; omega
  · show 0 + 1 * (y 1).val = (y 1).val; omega
theorem read_xp (f : S1024x1024.Idx → Elt F .bf16) : mXp.view.readAt (Elt F) sqR.toLoadRect f = f :=
  funext fun y => congrArg f (sqR_emb y)
theorem read_wq (f : S1024x1024.Idx → Elt F .bf16) : mWq.view.readAt (Elt F) sqR.toLoadRect f = f :=
  funext fun y => congrArg f (sqR_emb y)
theorem read_wo (f : S1024x1024.Idx → Elt F .bf16) : mWo.view.readAt (Elt F) sqR.toLoadRect f = f :=
  funext fun y => congrArg f (sqR_emb y)
theorem read_slotQ (s : Fin 3) : (slotOf mQB s).view.readAt (Elt F) sqR.toLoadRect (landF ww c false) = ww (og false (s.val + 1) c) false := by
  refine Eq.trans (funext fun y => ?_) (read_landF ww c false s)
  exact congrArg ((slotOf (wBuf false) s).view.read (Elt F) (wbC c false (landF ww c false))) (sqR_emb y)
theorem read_slotO (s : Fin 3) : k0_pay99 (mOB.view.readAt (Elt F) (slotR s).toLoadRect (landF ww c true)) = ww (og true (s.val + 1) c) true := by
  unfold k0_pay99
  simp only [shapeCast_self]
  exact read_landF ww c true s

end Values

section Stages
variable (c : Dev nD) (x0 : S1x1024x1024.Idx → Elt F .bf16) (ww : Dev nD → Bool → S1024x1024.Idx → Elt F .bf16)
  (fa : Bool → S4x1024x32x128.Idx → Elt F .f32) (K : Dev nD × CI → ℕ)

/-- The four counters of step `s`, at zero. -/
def semDone (s : Fin 3) : sProp 𝕄 :=
  iprop((semVal (sendCell c false s) 0 ∗ semVal (recvCell c false s) 0) ∗ (semVal (sendCell c true s) 0 ∗ semVal (recvCell c true s) 0))
def gath (l : List ℕ) : sProp 𝕄 := iprop(∃ f, ⌜GathOn c ww l f⌝ ∗ (mW.view.loc (c : Thread nD τ) ↦[Finset.univ]{fullShare} f))
def xpAt : sProp 𝕄 := mXp.view.loc (c : Thread nD τ) ↦[Finset.univ]{fullShare} permF x0
def qAny : sProp 𝕄 := iprop(∃ f, mQ.view.loc (c : Thread nD τ) ↦[Finset.univ]{fullShare} f)
def qAt (j : Fin 4) : sProp 𝕄 := mQ.view.loc (c : Thread nD τ) ↦[Finset.univ]{fullShare} qjF c x0 ww j
/-- Slot `s` with what has landed in it, at share `q`. -/
def slotAt (b : Bool) (s : Fin 3) (q : PosShare TreeShare) : sProp 𝕄 :=
  (slotOf (wBuf b) s).view.loc (c : Thread nD τ) ↦[(slotOf (wBuf b) s).view.set]{q} slotC c b s (landF ww c b)

theorem wp_ldQ (s : Fin 3) (q : PosShare TreeShare) (h : (slotOf mQB s).view.LoadsAt sqR.toLoadRect) {α : Type} {Q : α → sProp 𝕄} {k : Vec F S1024x1024 .bf16 → Pg F α} :
    slotAt c ww false s q ⊢ iprop((slotAt c ww false s q -∗ wp frame (wpE (defs₀ (F := F)) 𝒱₀ (c : Thread nD τ) none) Set.univ (k (ww (og false (s.val + 1) c) false)) Q)
      -∗ wp frame (wpE (defs₀ (F := F)) 𝒱₀ (c : Thread nD τ) none) Set.univ (.op (.load (slotOf mQB s) sqR.toLoadRect h) k) Q) := by
  unfold slotAt
  iintro H Hk
  iapply (wp_load 𝒱₀ (c : Thread nD τ) none Set.univ (m := slotOf mQB s) (View.setOn_subset_set _ _)) $$ H; iintro H
  rw [show (slotOf mQB s).view.readAt (Elt F) sqR.toLoadRect (slotC c false s (landF ww c false)) = ww (og false (s.val + 1) c) false from read_slotQ c ww s]
  iapply Hk; iexact H

theorem wp_ldO (s : Fin 3) (q : PosShare TreeShare) (h : mOB.view.LoadsAt (slotR s).toLoadRect) {α : Type} {Q : α → sProp 𝕄} {k : Vec F S1x1024x1024 .bf16 → Pg F α} :
    slotAt c ww true s q ⊢ iprop((slotAt c ww true s q -∗ wp frame (wpE (defs₀ (F := F)) 𝒱₀ (c : Thread nD τ) none) Set.univ (k (mOB.view.readAt (Elt F) (slotR s).toLoadRect (landF ww c true))) Q)
      -∗ wp frame (wpE (defs₀ (F := F)) 𝒱₀ (c : Thread nD τ) none) Set.univ (.op (.load mOB (slotR s).toLoadRect h) k) Q) := by
  unfold slotAt
  iintro H Hk
  iapply (wp_load 𝒱₀ (c : Thread nD τ) none Set.univ (m := mOB) (S := (slotOf mOB s).view.set) (by
    rw [show (slotOf mOB s).view.set = (slotR s).set from slot_set c true s]
    intro x hx
    obtain ⟨y, hy, rfl⟩ := Finset.mem_map.mp hx
    exact hy) (q := q) (f := landF ww c true)) $$ [H]
  · iexact H
  iintro H
  iapply Hk; iexact H

theorem wp_stage0 (fp : S1024x1024.Idx → Elt F .bf16) (fw : S4096x1024.Idx → Elt F .bf16) {α : Type} {Q : α → sProp 𝕄} {k : Unit → Pg F α} :
    iprop((chanPre ww K c false 0 ∗ chanPre ww K c true 0) ∗ (srcPay ww c false 0 ∗ srcPay ww c true 0)
        ∗ (slotAny (tgt false c) false 0 ∗ slotAny (tgt true c) true 0) ∗ (∃ W, owes (c : Thread nD τ) (dues ((owing c).drop 2)) W)
        ∗ (srcKeep c ww false 0 ∗ srcKeep c ww true 0)
        ∗ (mX.view.loc (c : Thread nD τ) ↦[Finset.univ]{fullShare} x0) ∗ (mXp.view.loc (c : Thread nD τ) ↦[Finset.univ]{fullShare} fp)
        ∗ (mW.view.loc (c : Thread nD τ) ↦[Finset.univ]{fullShare} fw) ∗ qAny c ∗ sepL (idle1 c fa 0) order)
      ⊢ iprop((((chanMid ww K c false 0 ∗ chanMid ww K c true 0) ∗ (∃ W, owes (c : Thread nD τ) (dues ((owing c).drop 4)) W)
          ∗ (srcKeep c ww false 0 ∗ srcKeep c ww true 0)
          ∗ (mX.view.loc (c : Thread nD τ) ↦[Finset.univ]{fullShare} x0) ∗ xpAt c x0
          ∗ gath c ww [0] ∗ qAt c x0 ww 0 ∗ sepL (busy1 c fa 0 (hd 0 c 0 (by decide))) order)
          -∗ wp frame (wpE (defs₀ (F := F)) 𝒱₀ (c : Thread nD τ) none) Set.univ (k ⟨⟩) Q)
        -∗ wp frame (wpE (defs₀ (F := F)) 𝒱₀ (c : Thread nD τ) none) Set.univ (stage0 c k) Q) := by
  unfold stage0 gath xpAt qAny qAt
  iintro ⟨⟨C1, C2⟩, ⟨P1, P2⟩, ⟨S1, S2⟩, HO, ⟨K1, K2⟩, Hx, Hp, Hw, Hq, Hi⟩ Hk
  iapply (wp_sendK ww K c false 0 _ (dev3_eq c) ((owing c).drop 3) (Memref.isWhole_whole _) (hstage0_1 0).wordExact) $$ [C1 P1 S1 HO]
  · isplitl [C1]; · iexact C1
    isplitl [P1]; · iexact P1
    isplitl [S1]; · iexact S1
    iexact HO
  iintro ⟨C1, HO⟩
  iapply (wp_sendK ww K c true 0 _ (dev4_eq c) ((owing c).drop 4) (Memref.isWhole_whole _) (hstage0_2 0).wordExact) $$ [C2 P2 S2 HO]
  · isplitl [C2]; · iexact C2
    isplitl [P2]; · iexact P2
    isplitl [S2]; · iexact S2
    iexact HO
  iintro ⟨C2, HO⟩
  iapply (wp_permK c x0 places fp (fun x hx => by obtain ⟨i, hi, h⟩ := xp_cover x; exact absurd h (hx i hi))) $$ [Hx Hp]
  · isplitl [Hx] <;> iassumption
  iintro ⟨Hx, Hp⟩
  unfold srcKeep
  iapply (wp_load 𝒱₀ (c : Thread nD τ) none Set.univ (m := mWo) (View.setOn_subset_set _ _)) $$ K2; iintro K2
  rw [show mWo.view.readAt (Elt F) sqR.toLoadRect (srcC ww c true 0) = ww c true from read_wo (ww c true)]
  iapply (wp_putWK c ww 0 [] _ (pay96_eq _)) $$ [Hw]
  · iexists fw
    isplitr; · ipureintro; intro x hx; exact absurd hx List.not_mem_nil
    iexact Hw
  iintro Hw
  rw [fst0_eq c, famT_eq]
  iapply (wp_starts c fa (sl 0) (hd 0 c 0 (Nat.zero_lt_succ 7)) order) $$ [Hi]
  · iexact Hi
  iintro Hi
  iapply (wp_load 𝒱₀ (c : Thread nD τ) none Set.univ (m := mXp) (Finset.subset_univ _)) $$ Hp; iintro Hp
  iapply (wp_load 𝒱₀ (c : Thread nD τ) none Set.univ (m := mWq) (View.setOn_subset_set _ _)) $$ K1; iintro K1
  rw [show mWq.view.readAt (Elt F) sqR.toLoadRect (srcC ww c false 0) = ww c false from read_wq (ww c false), read_xp, pay97_eq]
  iapply (wp_putQK c _) $$ [Hq]
  · iexact Hq
  iintro Hq
  iapply Hk
  isplitl [C1 C2]; · isplitl [C1] <;> iassumption
  isplitl [HO]; · iexact HO
  isplitl [K1 K2]
  · isplitl [K1]; · iexact K1
    iexact K2
  isplitl [Hx]; · iexact Hx
  isplitl [Hp]; · iexact Hp
  isplitl [Hw]; · iexact Hw
  isplitl [Hq]; · iexact Hq
  iexact Hi

theorem wp_stage1 {α : Type} {Q : α → sProp 𝕄} {k : Unit → Pg F α} :
    iprop((chanMid ww K c false 0 ∗ chanMid ww K c true 0) ∗ (chanPre ww K c false 1 ∗ chanPre ww K c true 1)
        ∗ (slotAny (tgt false c) false 1 ∗ slotAny (tgt true c) true 1) ∗ (∃ W, owes (c : Thread nD τ) (dues ((owing c).drop 4)) W) ∗ levAts L lv
        ∗ xpAt c x0 ∗ gath c ww [0] ∗ qAny c ∗ sepL (idle1 c fa 0) order)
      ⊢ iprop(((semDone c 0 ∗ (srcPay ww c false 0 ∗ srcPay ww c true 0) ∗ (chanMid ww K c false 1 ∗ chanMid ww K c true 1)
          ∗ (∃ W, owes (c : Thread nD τ) (dues ((owing c).drop 6)) W) ∗ (srcKeep c ww false 1 ∗ srcKeep c ww true 1)
          ∗ xpAt c x0 ∗ gath c ww [3, 0] ∗ qAt c x0 ww 1 ∗ sepL (busy1 c fa 0 (hd 1 c 0 (by decide))) order)
          -∗ wp frame (wpE (defs₀ (F := F)) 𝒱₀ (c : Thread nD τ) none) Set.univ (k ⟨⟩) Q)
        -∗ wp frame (wpE (defs₀ (F := F)) 𝒱₀ (c : Thread nD τ) none) Set.univ (stage1 c k) Q) := by
  unfold stage1 gath xpAt qAny qAt
  iintro ⟨⟨M1, M2⟩, ⟨C1, C2⟩, ⟨S1, S2⟩, HO, #Hlev, Hp, Hw, Hq, Hi⟩ Hk
  rw [fst1_eq c, famT_eq]
  iapply (wp_starts c fa (sl 0) (hd 1 c 0 (Nat.zero_lt_succ 7)) order) $$ [Hi]
  · iexact Hi
  iintro Hi
  iapply (wp_arriveK ww K c false 0 ((owing c).drop 4) (above_owing c _ 4 (by decide)) (Memref.isWhole_whole _) (hstage0_1 0)) $$ [M1 HO]
  · isplitl [M1]; · iexact M1
    isplitl [HO] <;> iassumption
  iintro ⟨M1, HO⟩
  iapply (wp_arriveK ww K c true 0 ((owing c).drop 4) (above_owing c _ 4 (by decide)) (Memref.isWhole_whole _) (hstage0_2 0)) $$ [M2 HO]
  · isplitl [M2]; · iexact M2
    isplitl [HO] <;> iassumption
  iintro ⟨M2, HO⟩
  unfold chanPost
  icases M1 with ⟨Z1, Z2, P1, L1⟩
  icases M2 with ⟨Z3, Z4, P2, L2⟩
  ihave L1 := (land1 c ww false).1 $$ L1
  icases L1 with ⟨L1, K1⟩
  ihave L2 := (land1 c ww true).1 $$ L2
  icases L2 with ⟨L2, K2⟩
  iapply (wp_sendK ww K c false 1 _ (dev5_eq c) ((owing c).drop 5) (Memref.isWhole_whole _) (slotOf_exact mQB (Memref.isWhole_whole _) 0)) $$ [C1 L1 S1 HO]
  · isplitl [C1]; · iexact C1
    isplitl [L1]; · iexact L1
    isplitl [S1]; · iexact S1
    iexact HO
  iintro ⟨C1, HO⟩
  iapply (wp_sendK ww K c true 1 _ (dev6_eq c) ((owing c).drop 6) (Memref.isWhole_whole _) (slotOf_exact mOB (Memref.isWhole_whole _) 0)) $$ [C2 L2 S2 HO]
  · isplitl [C2]; · iexact C2
    isplitl [L2]; · iexact L2
    isplitl [S2]; · iexact S2
    iexact HO
  iintro ⟨C2, HO⟩
  ihave K2 := (show srcKeep c ww true 1 ⊢ slotAt c ww true 0 fullShare.right from BIBase.Entails.rfl) $$ K2
  ihave K1 := (show srcKeep c ww false 1 ⊢ slotAt c ww false 0 fullShare.right from BIBase.Entails.rfl) $$ K1
  iapply (wp_ldO c ww 0 fullShare.right) $$ K2; iintro K2
  iapply (wp_putWK c ww 3 [0] _ (read_slotO c ww 0)) $$ Hw; iintro Hw
  iapply (wp_load 𝒱₀ (c : Thread nD τ) none Set.univ (m := mXp) (Finset.subset_univ _)) $$ Hp; iintro Hp
  iapply (wp_ldQ c ww 0 fullShare.right) $$ K1; iintro K1
  rw [read_xp]
  iapply (wp_putQK c _) $$ [Hq]
  · iexact Hq
  iintro Hq
  iapply Hk
  isplitl [Z1 Z2 Z3 Z4]
  · unfold semDone
    isplitl [Z1 Z2]
    · isplitl [Z1] <;> iassumption
    · isplitl [Z3] <;> iassumption
  isplitl [P1 P2]; · isplitl [P1] <;> iassumption
  isplitl [C1 C2]; · isplitl [C1] <;> iassumption
  isplitl [HO]; · iexact HO
  isplitl [K1 K2]
  · isplitl [K1]
    · iapply (show slotAt c ww false 0 fullShare.right ⊢ srcKeep c ww false 1 from BIBase.Entails.rfl); iexact K1
    · iapply (show slotAt c ww true 0 fullShare.right ⊢ srcKeep c ww true 1 from BIBase.Entails.rfl); iexact K2
  isplitl [Hp]; · iexact Hp
  isplitl [Hw]; · iexact Hw
  isplitl [Hq]; · iexact Hq
  iexact Hi

theorem wp_stage2 {α : Type} {Q : α → sProp 𝕄} {k : Unit → Pg F α} :
    iprop((chanMid ww K c false 1 ∗ chanMid ww K c true 1) ∗ (chanPre ww K c false 2 ∗ chanPre ww K c true 2)
        ∗ (slotAny (tgt false c) false 2 ∗ slotAny (tgt true c) true 2) ∗ (∃ W, owes (c : Thread nD τ) (dues ((owing c).drop 6)) W) ∗ levAts L lv
        ∗ xpAt c x0 ∗ gath c ww [3, 0] ∗ qAny c ∗ sepL (idle1 c fa 0) order)
      ⊢ iprop(((semDone c 1 ∗ (srcPay ww c false 1 ∗ srcPay ww c true 1) ∗ (chanMid ww K c false 2 ∗ chanMid ww K c true 2)
          ∗ (∃ W, owes (c : Thread nD τ) (dues ((owing c).drop 8)) W) ∗ (srcKeep c ww false 2 ∗ srcKeep c ww true 2)
          ∗ xpAt c x0 ∗ gath c ww [2, 3, 0] ∗ qAt c x0 ww 2 ∗ sepL (busy1 c fa 0 (hd 2 c 0 (by decide))) order)
          -∗ wp frame (wpE (defs₀ (F := F)) 𝒱₀ (c : Thread nD τ) none) Set.univ (k ⟨⟩) Q)
        -∗ wp frame (wpE (defs₀ (F := F)) 𝒱₀ (c : Thread nD τ) none) Set.univ (stage2 c k) Q) := by
  unfold stage2 gath xpAt qAny qAt
  iintro ⟨⟨M1, M2⟩, ⟨C1, C2⟩, ⟨S1, S2⟩, HO, #Hlev, Hp, Hw, Hq, Hi⟩ Hk
  rw [fst2_eq c, famT_eq]
  iapply (wp_starts c fa (sl 0) (hd 2 c 0 (Nat.zero_lt_succ 7)) order) $$ [Hi]
  · iexact Hi
  iintro Hi
  iapply (wp_arriveK ww K c false 1 ((owing c).drop 6) (above_owing c _ 6 (by decide)) (Memref.isWhole_whole _) (hstage0_1 0)) $$ [M1 HO]
  · isplitl [M1]; · iexact M1
    isplitl [HO] <;> iassumption
  iintro ⟨M1, HO⟩
  iapply (wp_arriveK ww K c true 1 ((owing c).drop 6) (above_owing c _ 6 (by decide)) (Memref.isWhole_whole _) (hstage0_2 0)) $$ [M2 HO]
  · isplitl [M2]; · iexact M2
    isplitl [HO] <;> iassumption
  iintro ⟨M2, HO⟩
  unfold chanPost
  icases M1 with ⟨Z1, Z2, P1, L1⟩
  icases M2 with ⟨Z3, Z4, P2, L2⟩
  ihave L1 := (land2 c ww false).1 $$ L1
  icases L1 with ⟨L1, K1⟩
  ihave L2 := (land2 c ww true).1 $$ L2
  icases L2 with ⟨L2, K2⟩
  iapply (wp_sendK ww K c false 2 _ (dev7_eq c) ((owing c).drop 7) (Memref.isWhole_whole _) (slotOf_exact mQB (Memref.isWhole_whole _) 1)) $$ [C1 L1 S1 HO]
  · isplitl [C1]; · iexact C1
    isplitl [L1]; · iexact L1
    isplitl [S1]; · iexact S1
    iexact HO
  iintro ⟨C1, HO⟩
  iapply (wp_sendK ww K c true 2 _ (dev8_eq c) ((owing c).drop 8) (Memref.isWhole_whole _) (slotOf_exact mOB (Memref.isWhole_whole _) 1)) $$ [C2 L2 S2 HO]
  · isplitl [C2]; · iexact C2
    isplitl [L2]; · iexact L2
    isplitl [S2]; · iexact S2
    iexact HO
  iintro ⟨C2, HO⟩
  ihave K2 := (show srcKeep c ww true 2 ⊢ slotAt c ww true 1 fullShare.right from BIBase.Entails.rfl) $$ K2
  ihave K1 := (show srcKeep c ww false 2 ⊢ slotAt c ww false 1 fullShare.right from BIBase.Entails.rfl) $$ K1
  iapply (wp_ldO c ww 1 fullShare.right) $$ K2; iintro K2
  iapply (wp_putWK c ww 2 [3, 0] _ (read_slotO c ww 1)) $$ Hw; iintro Hw
  iapply (wp_load 𝒱₀ (c : Thread nD τ) none Set.univ (m := mXp) (Finset.subset_univ _)) $$ Hp; iintro Hp
  iapply (wp_ldQ c ww 1 fullShare.right) $$ K1; iintro K1
  rw [read_xp]
  iapply (wp_putQK c _) $$ [Hq]
  · iexact Hq
  iintro Hq
  iapply Hk
  isplitl [Z1 Z2 Z3 Z4]
  · unfold semDone
    isplitl [Z1 Z2]
    · isplitl [Z1] <;> iassumption
    · isplitl [Z3] <;> iassumption
  isplitl [P1 P2]; · isplitl [P1] <;> iassumption
  isplitl [C1 C2]; · isplitl [C1] <;> iassumption
  isplitl [HO]; · iexact HO
  isplitl [K1 K2]
  · isplitl [K1]
    · iapply (show slotAt c ww false 1 fullShare.right ⊢ srcKeep c ww false 2 from BIBase.Entails.rfl); iexact K1
    · iapply (show slotAt c ww true 1 fullShare.right ⊢ srcKeep c ww true 2 from BIBase.Entails.rfl); iexact K2
  isplitl [Hp]; · iexact Hp
  isplitl [Hw]; · iexact Hw
  isplitl [Hq]; · iexact Hq
  iexact Hi

theorem wp_stage3 {α : Type} {Q : α → sProp 𝕄} {k : Unit → Pg F α} :
    iprop((chanMid ww K c false 2 ∗ chanMid ww K c true 2) ∗ (∃ W, owes (c : Thread nD τ) (dues ((owing c).drop 8)) W) ∗ levAts L lv
        ∗ xpAt c x0 ∗ gath c ww [2, 3, 0] ∗ qAny c ∗ sepL (idle1 c fa 0) order)
      ⊢ iprop(((semDone c 2 ∗ (srcPay ww c false 2 ∗ srcPay ww c true 2) ∗ (∃ W, owes (c : Thread nD τ) (dues ((owing c).drop 8)) W) ∗ (landPay ww c false 2 ∗ landPay ww c true 2)
          ∗ xpAt c x0 ∗ gath c ww [1, 2, 3, 0] ∗ qAt c x0 ww 3 ∗ sepL (busy1 c fa 0 (hd 3 c 0 (by decide))) order)
          -∗ wp frame (wpE (defs₀ (F := F)) 𝒱₀ (c : Thread nD τ) none) Set.univ (k ⟨⟩) Q)
        -∗ wp frame (wpE (defs₀ (F := F)) 𝒱₀ (c : Thread nD τ) none) Set.univ (stage3 c k) Q) := by
  unfold stage3 gath xpAt qAny qAt
  iintro ⟨⟨M1, M2⟩, HO, #Hlev, Hp, Hw, Hq, Hi⟩ Hk
  rw [fst3_eq c, famT_eq]
  iapply (wp_starts c fa (sl 0) (hd 3 c 0 (Nat.zero_lt_succ 7)) order) $$ [Hi]
  · iexact Hi
  iintro Hi
  iapply (wp_arriveK ww K c false 2 ((owing c).drop 8) (above_owing c _ 8 (by decide)) (Memref.isWhole_whole _) (hstage0_1 0)) $$ [M1 HO]
  · isplitl [M1]; · iexact M1
    isplitl [HO] <;> iassumption
  iintro ⟨M1, HO⟩
  iapply (wp_arriveK ww K c true 2 ((owing c).drop 8) (above_owing c _ 8 (by decide)) (Memref.isWhole_whole _) (hstage0_2 0)) $$ [M2 HO]
  · isplitl [M2]; · iexact M2
    isplitl [HO] <;> iassumption
  iintro ⟨M2, HO⟩
  unfold chanPost
  icases M1 with ⟨Z1, Z2, P1, K1⟩
  icases M2 with ⟨Z3, Z4, P2, K2⟩
  ihave K2 := (show landPay ww c true 2 ⊢ slotAt c ww true 2 fullShare from BIBase.Entails.rfl) $$ K2
  ihave K1 := (show landPay ww c false 2 ⊢ slotAt c ww false 2 fullShare from BIBase.Entails.rfl) $$ K1
  iapply (wp_ldO c ww 2 fullShare) $$ K2; iintro K2
  iapply (wp_putWK c ww 1 [2, 3, 0] _ (read_slotO c ww 2)) $$ Hw; iintro Hw
  iapply (wp_load 𝒱₀ (c : Thread nD τ) none Set.univ (m := mXp) (Finset.subset_univ _)) $$ Hp; iintro Hp
  iapply (wp_ldQ c ww 2 fullShare) $$ K1; iintro K1
  rw [read_xp]
  iapply (wp_putQK c _) $$ [Hq]
  · iexact Hq
  iintro Hq
  iapply Hk
  isplitl [Z1 Z2 Z3 Z4]
  · unfold semDone
    isplitl [Z1 Z2]
    · isplitl [Z1] <;> iassumption
    · isplitl [Z3] <;> iassumption
  isplitl [P1 P2]; · isplitl [P1] <;> iassumption
  isplitl [HO]; · iexact HO
  isplitl [K1 K2]
  · isplitl [K1]
    · iapply (show slotAt c ww false 2 fullShare ⊢ landPay ww c false 2 from BIBase.Entails.rfl); iexact K1
    · iapply (show slotAt c ww true 2 fullShare ⊢ landPay ww c true 2 from BIBase.Entails.rfl); iexact K2
  isplitl [Hp]; · iexact Hp
  isplitl [Hw]; · iexact Hw
  isplitl [Hq]; · iexact Hq
  iexact Hi

theorem wp_stage4 {Q : Unit → sProp 𝕄} (fc : S1024x4096.Idx → Elt F .bf16) (hc : fc = ctxAll c fa (qjF c x0 ww)) (fo : S1x1024x1024.Idx → Elt F .f32) :
    iprop((mC.view.loc (c : Thread nD τ) ↦[Finset.univ]{fullShare} fc) ∗ gath c ww [1, 2, 3, 0]
        ∗ (mOut.view.loc (c : Thread nD τ) ↦[Finset.univ]{fullShare} fo))
      ⊢ iprop((((mC.view.loc (c : Thread nD τ) ↦[Finset.univ]{fullShare} fc) ∗ gath c ww [1, 2, 3, 0]
            ∗ (mOut.view.loc (c : Thread nD τ) ↦[Finset.univ]{fullShare} outAt c x0 ww fa)) -∗ Q ⟨⟩)
        -∗ wp frame (wpE (defs₀ (F := F)) 𝒱₀ (c : Thread nD τ) none) Set.univ stage4 Q) := by
  unfold stage4 gath
  iintro ⟨Hc, ⟨%fw, %hw, Hw⟩, Ho⟩ Hk
  have ew : fw = gathF c ww := funext fun x => hw x (by
    have h : (x 0).val < 4096 := (x 0).isLt
    have h' : (x 0).val / 1024 < 4 := by omega
    interval_cases h'' : (x 0).val / 1024 <;> decide)
  iapply (wp_load 𝒱₀ (c : Thread nD τ) none Set.univ (m := mC) (Finset.subset_univ _)) $$ Hc; iintro Hc
  iapply (wp_load 𝒱₀ (c : Thread nD τ) none Set.univ (m := mW) (Finset.subset_univ _)) $$ Hw; iintro Hw
  rw [show mC.view.readAt (Elt F) (Rect.unit (s := S1024x4096) ![0, 0] S1024x4096.size inb_S1024x4096_S1024x4096_0_0).toLoadRect fc = fc from
      Memref.readAt_unit_zero (Elt F) cc0_scratch4 (funext fun a => by fin_cases a <;> rfl) _ fc,
    show mW.view.readAt (Elt F) (Rect.unit (s := S4096x1024) ![0, 0] S4096x1024.size inb_S4096x1024_S4096x1024_0_0).toLoadRect fw = fw from
      Memref.readAt_unit_zero (Elt F) cc0_scratch5 (funext fun a => by fin_cases a <;> rfl) _ fw]
  have e : k0_pay108 fc fw = accF c x0 ww fa := by unfold accF; rw [hc, ew]
  iapply (wp_outK c (k0_pay108 fc fw) places fo (fun x hx => by obtain ⟨i, hi, h⟩ := x_cover x; exact absurd h (hx i hi))) $$ Ho
  iintro Ho
  rw [wp_ret]
  imodintro
  iapply Hk
  isplitl [Hc]; · iexact Hc
  isplitl [Hw]
  · iexists fw
    isplitr; · ipureintro; exact hw
    iexact Hw
  unfold outAt
  rw [← e]
  iexact Ho

end Stages

end Cert.RingAttn
-- ==== Proof.Whole.lean ====
/-
# The whole body

The stages and the loops put together (`wp_prog`).
-/
module

public import proofs.«01_k».proof.Proof.Body

@[expose] public section

set_option maxRecDepth 65536

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.ValueIdx

variable {F : FTy → Type} [FloatOps F]

local notation "𝕄" => MT nD τ sig Unit (Elt F) ℕ UU ℕ

section Whole
variable (c : Dev nD) (x0 : S1x1024x1024.Idx → Elt F .bf16) (ww : Dev nD → Bool → S1024x1024.Idx → Elt F .bf16)
  (fa : Bool → S4x1024x32x128.Idx → Elt F .f32) (K : Dev nD × CI → ℕ)

/-- The first `n` heads' columns are in place. -/
def ctxN (n : ℕ) : sProp 𝕄 :=
  iprop(∃ f, ⌜CtxUpTo c fa (qjF c x0 ww) n f⌝ ∗ (mC.view.loc (c : Thread nD τ) ↦[Finset.univ]{fullShare} f))

theorem wp_loop (D : List (GSem nD τ sig × ℕ)) (hD : Above 0 D) (j : Fin 4) (n n' : ℕ) (hn : n = 8 * j.val) (hn' : n' = 8 * j.val + 8)
    {α : Type} {Q : α → sProp 𝕄} {k : Unit → Pg F α} :
    iprop(sepL (busy1 c fa 0 (hd j c 0 (by decide))) order ∗ sepL (idle1 c fa 1) order ∗ qAt c x0 ww j ∗ ctxN c x0 ww fa n
        ∗ (∃ W, owes (c : Thread nD τ) (dues D) W) ∗ levAts L lv)
      ⊢ iprop(((sepL (idle1 c fa 0) order ∗ sepL (idle1 c fa 1) order ∗ qAny c ∗ ctxN c x0 ww fa n'
            ∗ (∃ W, owes (c : Thread nD τ) (dues D) W))
          -∗ wp frame (wpE (defs₀ (F := F)) 𝒱₀ (c : Thread nD τ) none) Set.univ (k ⟨⟩) Q)
        -∗ wp frame (wpE (defs₀ (F := F)) 𝒱₀ (c : Thread nD τ) none) Set.univ (loopP j c >>= k) Q) := by
  subst hn hn'
  unfold qAt qAny ctxN
  iintro ⟨Hb, Hi, Hq, Hc, HO, #Hlev⟩ Hk
  iapply (wp_loopP c fa (qjF c x0 ww) D hD j) $$ [Hb Hi Hq Hc HO]
  · unfold loopSt kvState qc
    rw [dif_pos (Nat.zero_lt_succ 7)]
    isplitl [Hb Hi]
    · isplitl [Hb]; · iexact Hb
      iexact Hi
    isplitl [Hq Hc]
    · isplitl [Hq]; · iexact Hq
      iexact Hc
    isplitl [HO] <;> iassumption
  unfold loopSt kvState qc
  rw [dif_neg (Nat.lt_irrefl 8)]
  iintro ⟨⟨Hi0, Hi1⟩, ⟨Hq, Hc⟩, HO, -⟩
  iapply Hk
  isplitl [Hi0]; · iexact Hi0
  isplitl [Hi1]; · iexact Hi1
  isplitl [Hq]; · iexists _; iexact Hq
  isplitl [Hc]; · iexact Hc
  iexact HO

/-- The four counters of step `s` and what stands behind them. -/
def chans (s : Fin 3) : sProp 𝕄 := iprop(chanPre ww K c false s ∗ chanPre ww K c true s)

/-- What the body starts from. -/
def bodyIn (fo : S1x1024x1024.Idx → Elt F .f32) : sProp 𝕄 :=
  iprop(((mX.view.loc (c : Thread nD τ) ↦[Finset.univ]{fullShare} x0) ∗ (mWq.view.loc (c : Thread nD τ) ↦[Finset.univ]{fullShare} (ww c false))
      ∗ (mWo.view.loc (c : Thread nD τ) ↦[Finset.univ]{fullShare} (ww c true)) ∗ (mOut.view.loc (c : Thread nD τ) ↦[Finset.univ]{fullShare} fo))
    ∗ (bufAny c false ∗ bufAny c true ∗ (∃ f, mXp.view.loc (c : Thread nD τ) ↦[Finset.univ]{fullShare} f) ∗ qAny c
      ∗ (∃ f, mC.view.loc (c : Thread nD τ) ↦[Finset.univ]{fullShare} f) ∗ (∃ f, mW.view.loc (c : Thread nD τ) ↦[Finset.univ]{fullShare} f))
    ∗ (kvAll c fa false ∗ kvAll c fa true)
    ∗ (barPre ww K c ∗ chans c ww K 0 ∗ chans c ww K 1 ∗ chans c ww K 2)
    ∗ (∃ W, owes (c : Thread nD τ) (O c 0) W) ∗ levAts L lv)
/-- What it ends at. -/
def bodyOut : sProp 𝕄 :=
  iprop(((mX.view.loc (c : Thread nD τ) ↦[Finset.univ]{fullShare} x0) ∗ (mWq.view.loc (c : Thread nD τ) ↦[Finset.univ]{fullShare} (ww c false))
      ∗ (mWo.view.loc (c : Thread nD τ) ↦[Finset.univ]{fullShare} (ww c true)) ∗ (mOut.view.loc (c : Thread nD τ) ↦[Finset.univ]{fullShare} outAt c x0 ww fa))
    ∗ (bufAny c false ∗ bufAny c true ∗ (∃ f, mXp.view.loc (c : Thread nD τ) ↦[Finset.univ]{fullShare} f) ∗ qAny c
      ∗ (∃ f, mC.view.loc (c : Thread nD τ) ↦[Finset.univ]{fullShare} f) ∗ (∃ f, mW.view.loc (c : Thread nD τ) ↦[Finset.univ]{fullShare} f))
    ∗ (kvAll c fa false ∗ kvAll c fa true)
    ∗ (semVal (barCell c) 0 ∗ semDone c 0 ∗ semDone c 1 ∗ semDone c 2)
    ∗ (∃ W, owes (c : Thread nD τ) (dues []) W))

theorem wp_prog (fo : S1x1024x1024.Idx → Elt F .f32) {Q : Unit → sProp 𝕄} :
    bodyIn c x0 ww fa K fo ⊢ iprop((bodyOut c x0 ww fa -∗ Q ⟨⟩) -∗ wp frame (wpE (defs₀ (F := F)) 𝒱₀ (c : Thread nD τ) none) Set.univ prog Q) := by
  unfold prog progOf bodyIn chans
  iintro ⟨⟨Hx, Hq0, Ho0, Hout⟩, ⟨B0, B1, ⟨%fp, Hp⟩, Hq, ⟨%fc, Hc⟩, ⟨%fw, Hw⟩⟩, ⟨KV0, KV1⟩, ⟨HB, HC0, HC1, HC2⟩, HO, #Hlev⟩ Hk
  rw [wp_deviceId]
  iapply (wp_handshake ww K c) $$ [HB B0 B1 HO]
  · isplitl [HB]; · iexact HB
    isplitl [B0]; · iexact B0
    isplitl [B1]; · iexact B1
    isplitl [HO] <;> iassumption
  iintro ⟨Zb, N0, N1, HO⟩
  ihave N0 := (land_open (tgt false c) false) $$ N0
  icases N0 with ⟨Sf0, Sf1, Sf2⟩
  ihave N1 := (land_open (tgt true c) true) $$ N1
  icases N1 with ⟨St0, St1, St2⟩
  ihave Hq0 := (own_q c ww).1 $$ Hq0
  icases Hq0 with ⟨Pf0, Kf0⟩
  ihave Ho0 := (own_o c ww).1 $$ Ho0
  icases Ho0 with ⟨Pt0, Kt0⟩
  ihave KV0 := (kv_open c fa false) $$ KV0
  ihave KV1 := (kv_open c fa true) $$ KV1
  ihave KV := (kv_slots c fa).1 $$ [KV0 KV1]
  · isplitl [KV0] <;> iassumption
  icases KV with ⟨KR, I0, I1⟩
  -- before the first loop
  iapply (wp_stage0 c x0 ww fa K fp fw) $$ [HC0 Pf0 Pt0 Sf0 St0 HO Kf0 Kt0 Hx Hp Hw Hq I0]
  · isplitl [HC0]; · iexact HC0
    isplitl [Pf0 Pt0]; · isplitl [Pf0] <;> iassumption
    isplitl [Sf0 St0]; · isplitl [Sf0] <;> iassumption
    isplitl [HO]; · iexact HO
    isplitl [Kf0 Kt0]; · isplitl [Kf0] <;> iassumption
    isplitl [Hx]; · iexact Hx
    isplitl [Hp]; · iexact Hp
    isplitl [Hw]; · iexact Hw
    isplitl [Hq]; · iexact Hq
    iexact I0
  iintro ⟨HC0, HO, ⟨Kf0, Kt0⟩, Hx, Hp, Hw, Hq, I0⟩
  iapply (wp_loop c x0 ww fa ((owing c).drop 4) (above_owing c _ 4 (by decide)) 0 0 8 rfl rfl) $$ [I0 I1 Hq Hc HO]
  · isplitl [I0]; · iexact I0
    isplitl [I1]; · iexact I1
    isplitl [Hq]; · iexact Hq
    isplitl [Hc]
    · unfold ctxN; iexists fc
      isplitr; · ipureintro; intro x hx; exact absurd hx (Nat.not_lt_zero _)
      iexact Hc
    isplitl [HO] <;> iassumption
  iintro ⟨I0, I1, Hq, Hc, HO⟩
  -- between loops 1 and 2
  iapply (wp_stage1 c x0 ww fa K) $$ [HC0 HC1 Sf1 St1 HO Hp Hw Hq I0]
  · isplitl [HC0]; · iexact HC0
    isplitl [HC1]; · iexact HC1
    isplitl [Sf1 St1]; · isplitl [Sf1] <;> iassumption
    isplitl [HO]; · iexact HO
    isplitr; · iexact Hlev
    isplitl [Hp]; · iexact Hp
    isplitl [Hw]; · iexact Hw
    isplitl [Hq]; · iexact Hq
    iexact I0
  iintro ⟨Z0, ⟨Pf0, Pt0⟩, HC1, HO, ⟨Kf1, Kt1⟩, Hp, Hw, Hq, I0⟩
  iapply (wp_loop c x0 ww fa ((owing c).drop 6) (above_owing c _ 6 (by decide)) 1 8 16 rfl rfl) $$ [I0 I1 Hq Hc HO]
  · isplitl [I0]; · iexact I0
    isplitl [I1]; · iexact I1
    isplitl [Hq]; · iexact Hq
    isplitl [Hc]; · iexact Hc
    isplitl [HO] <;> iassumption
  iintro ⟨I0, I1, Hq, Hc, HO⟩
  -- between loops 2 and 3
  iapply (wp_stage2 c x0 ww fa K) $$ [HC1 HC2 Sf2 St2 HO Hp Hw Hq I0]
  · isplitl [HC1]; · iexact HC1
    isplitl [HC2]; · iexact HC2
    isplitl [Sf2 St2]; · isplitl [Sf2] <;> iassumption
    isplitl [HO]; · iexact HO
    isplitr; · iexact Hlev
    isplitl [Hp]; · iexact Hp
    isplitl [Hw]; · iexact Hw
    isplitl [Hq]; · iexact Hq
    iexact I0
  iintro ⟨Z1, ⟨Pf1, Pt1⟩, HC2, HO, ⟨Kf2, Kt2⟩, Hp, Hw, Hq, I0⟩
  iapply (wp_loop c x0 ww fa ((owing c).drop 8) (above_owing c _ 8 (by decide)) 2 16 24 rfl rfl) $$ [I0 I1 Hq Hc HO]
  · isplitl [I0]; · iexact I0
    isplitl [I1]; · iexact I1
    isplitl [Hq]; · iexact Hq
    isplitl [Hc]; · iexact Hc
    isplitl [HO] <;> iassumption
  iintro ⟨I0, I1, Hq, Hc, HO⟩
  -- between loops 3 and 4
  iapply (wp_stage3 c x0 ww fa K) $$ [HC2 HO Hp Hw Hq I0]
  · isplitl [HC2]; · iexact HC2
    isplitl [HO]; · iexact HO
    isplitr; · iexact Hlev
    isplitl [Hp]; · iexact Hp
    isplitl [Hw]; · iexact Hw
    isplitl [Hq]; · iexact Hq
    iexact I0
  iintro ⟨Z2, ⟨Pf2, Pt2⟩, HO, ⟨Lf2, Lt2⟩, Hp, Hw, Hq, I0⟩
  iapply (wp_loop c x0 ww fa ((owing c).drop 8) (above_owing c _ 8 (by decide)) 3 24 32 rfl rfl) $$ [I0 I1 Hq Hc HO]
  · isplitl [I0]; · iexact I0
    isplitl [I1]; · iexact I1
    isplitl [Hq]; · iexact Hq
    isplitl [Hc]; · iexact Hc
    isplitl [HO] <;> iassumption
  iintro ⟨I0, I1, Hq, Hc, HO⟩
  unfold ctxN
  icases Hc with ⟨%fc', %hc, Hc⟩
  iapply (wp_stage4 c x0 ww fa fc' (funext fun x => hc x (by have h : (x 1).val < 4096 := (x 1).isLt; omega)) fo) $$ [Hc Hw Hout]
  · isplitl [Hc]; · iexact Hc
    isplitl [Hw]; · iexact Hw
    iexact Hout
  iintro ⟨Hc, Hw, Hout⟩
  iapply Hk
  unfold bodyOut
  isplitl [Hx Pf0 Kf0 Pt0 Kt0 Hout]
  · isplitl [Hx]; · iexact Hx
    isplitl [Pf0 Kf0]
    · iapply (own_q c ww).2; isplitl [Pf0] <;> iassumption
    isplitl [Pt0 Kt0]
    · iapply (own_o c ww).2; isplitl [Pt0] <;> iassumption
    iexact Hout
  isplitl [Pf1 Kf1 Pf2 Kf2 Lf2 Pt1 Kt1 Pt2 Kt2 Lt2 Hp Hq Hc Hw]
  · isplitl [Pf1 Kf1 Pf2 Kf2 Lf2]
    · iapply (land_close c ww false)
      isplitl [Pf1 Kf1]
      · iapply (land1 c ww false).2; isplitl [Pf1] <;> iassumption
      isplitl [Pf2 Kf2]
      · iapply (land2 c ww false).2; isplitl [Pf2] <;> iassumption
      iexact Lf2
    isplitl [Pt1 Kt1 Pt2 Kt2 Lt2]
    · iapply (land_close c ww true)
      isplitl [Pt1 Kt1]
      · iapply (land1 c ww true).2; isplitl [Pt1] <;> iassumption
      isplitl [Pt2 Kt2]
      · iapply (land2 c ww true).2; isplitl [Pt2] <;> iassumption
      iexact Lt2
    isplitl [Hp]; · unfold xpAt; iexists _; iexact Hp
    isplitl [Hq]; · iexact Hq
    isplitl [Hc]; · iexists _; iexact Hc
    unfold gath
    icases Hw with ⟨%g, -, Hw⟩
    iexists g; iexact Hw
  isplitl [KR I0 I1]
  · ihave KV := (kv_slots c fa).2 $$ [KR I0 I1]
    · isplitl [KR]; · iexact KR
      isplitl [I0] <;> iassumption
    icases KV with ⟨KV0, KV1⟩
    isplitl [KV0]
    · iapply (kv_close c fa false); iexact KV0
    · iapply (kv_close c fa true); iexact KV1
  isplitl [Zb Z0 Z1 Z2]
  · isplitl [Zb]; · iexact Zb
    isplitl [Z0]; · iexact Z0
    isplitl [Z1] <;> iassumption
  iexact HO

end Whole

end Cert.RingAttn
-- ==== Proof.Grant.lean ====
/-
# What the launch grants

The ring's cells funded for all devices at once, their invariants recorded, the duties dealt to the devices that pay
them (`glob`), and the credit every device starts with (`creds`).
-/
module

public import proofs.«01_k».proof.Proof.Whole

@[expose] public section

set_option maxRecDepth 65536

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

/-! ## Conjunctions over the cells -/

/-- The four members of step `s`. -/
def four {M : Type} [URA M] (Φ : Bool × Bool × Fin 3 → sProp M) (s : Fin 3) : sProp M :=
  iprop((Φ (false, false, s) ∗ Φ (false, true, s)) ∗ (Φ (true, false, s) ∗ Φ (true, true, s)))

theorem group12 {M : Type} [URA M] (a1 a2 a3 a4 a5 a6 a7 a8 a9 a10 a11 a12 : sProp M) :
    iprop(a1 ∗ a2 ∗ a3 ∗ a4 ∗ a5 ∗ a6 ∗ a7 ∗ a8 ∗ a9 ∗ a10 ∗ a11 ∗ a12)
      ⊢ iprop(((a1 ∗ a2) ∗ (a3 ∗ a4)) ∗ ((a5 ∗ a6) ∗ (a7 ∗ a8)) ∗ ((a9 ∗ a10) ∗ (a11 ∗ a12))) := by
  iintro ⟨H1, H2, H3, H4, H5, H6, H7, H8, H9, H10, H11, H12⟩
  isplitl [H1 H2 H3 H4]
  · isplitl [H1 H2]
    · isplitl [H1] <;> iassumption
    · isplitl [H3] <;> iassumption
  isplitl [H5 H6 H7 H8]
  · isplitl [H5 H6]
    · isplitl [H5] <;> iassumption
    · isplitl [H7] <;> iassumption
  isplitl [H9 H10]
  · isplitl [H9] <;> iassumption
  · isplitl [H11] <;> iassumption
theorem flat12 {M : Type} [URA M] (a1 a2 a3 a4 a5 a6 a7 a8 a9 a10 a11 a12 : sProp M) :
    iprop(((a1 ∗ a2) ∗ (a3 ∗ a4)) ∗ ((a5 ∗ a6) ∗ (a7 ∗ a8)) ∗ ((a9 ∗ a10) ∗ (a11 ∗ a12)))
      ⊢ iprop(a1 ∗ a2 ∗ a3 ∗ a4 ∗ a5 ∗ a6 ∗ a7 ∗ a8 ∗ a9 ∗ a10 ∗ a11 ∗ a12) := by
  iintro ⟨⟨⟨H1, H2⟩, H3, H4⟩, ⟨⟨H5, H6⟩, H7, H8⟩, ⟨H9, H10⟩, H11, H12⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem bigSep_xfer {M : Type} [URA M] (Φ : Bool × Bool × Fin 3 → sProp M) :
    bigSep Finset.univ Φ = iprop(four Φ 0 ∗ four Φ 1 ∗ four Φ 2) :=
  (bigSep_univ_eq_bigSepL [(false, false, (0 : Fin 3)), (false, true, 0), (true, false, 0), (true, true, 0),
    (false, false, 1), (false, true, 1), (true, false, 1), (true, true, 1),
    (false, false, 2), (false, true, 2), (true, false, 2), (true, true, 2)] (by decide) (by decide) Φ).trans
  (BI.equiv_iff.mp ⟨group12 _ _ _ _ _ _ _ _ _ _ _ _, flat12 _ _ _ _ _ _ _ _ _ _ _ _⟩)

theorem bigSep_two {M : Type} [URA M] (Φ : Bool → sProp M) : bigSep Finset.univ Φ = iprop(Φ false ∗ Φ true) :=
  bigSep_univ_eq_bigSepL [false, true] (by decide) (by decide) Φ

theorem swap2 {M : Type} [URA M] (A B : sProp M) : iprop(A ∗ B) ⊢ iprop(B ∗ A) := by
  iintro ⟨H1, H2⟩; isplitl [H2] <;> iassumption
theorem bigSep_ci {M : Type} [URA M] (Φ : CI → sProp M) :
    bigSep Finset.univ Φ = iprop(Φ none ∗ bigSep Finset.univ fun x => Φ (some x)) := by
  rw [bigSep_univ_equiv (Equiv.optionEquivSumPUnit.{0} (Bool × Bool × Fin 3)).symm Φ, bigSep_univ_sum,
    bigSep_univ_eq_bigSepL (I := PUnit.{1}) [PUnit.unit] (by decide) (by decide), bigSepL_singleton]
  exact BI.equiv_iff.mp ⟨swap2 _ _, swap2 _ _⟩

theorem bigSep_cells {M : Type} [URA M] (Φ : CI → sProp M) :
    bigSep Finset.univ Φ = iprop(Φ none ∗ four (fun x => Φ (some x)) 0 ∗ four (fun x => Φ (some x)) 1 ∗ four (fun x => Φ (some x)) 2) := by
  rw [bigSep_ci, bigSep_xfer]

/-! ## The cells and their tokens -/

abbrev kc (ck : Dev nD × CI) : GSem nD τ sig := kcell ck.1 ck.2
theorem kc_injective : Function.Injective kc := fun a b h => Prod.ext (kcell_inj.mp h).1 (kcell_inj.mp h).2
def ringCells : Finset (GSem nD τ sig) := Finset.univ.map ⟨kc, kc_injective⟩

/-- A device's own duties: its barrier's two, one of each other cell. -/
abbrev TI : Type := Bool ⊕ (Bool × Bool × Fin 3)
def tokOf (cj : Dev nD × TI) : GSem nD τ sig × ℕ × Bool :=
  match cj.2 with
  | .inl b => (barCell cj.1, 0, b)
  | .inr x => (kcell cj.1 (some x), 0, false)
theorem tokOf_injective : Function.Injective tokOf := by
  rintro ⟨c, j⟩ ⟨c', j'⟩ h
  match j, j' with
  | .inl b, .inl b' =>
    have h1 := congrArg (fun x : GSem nD τ sig × ℕ × Bool => x.1) h
    have h2 := congrArg (fun x : GSem nD τ sig × ℕ × Bool => x.2.2) h
    have e1 : c = c' := (kcell_inj.mp h1).1
    have e2 : b = b' := h2
    subst e1; subst e2; rfl
  | .inl b, .inr x =>
    have h1 := congrArg (fun x : GSem nD τ sig × ℕ × Bool => x.1) h
    exact absurd (kcell_inj.mp h1).2 (by simp)
  | .inr x, .inl b =>
    have h1 := congrArg (fun x : GSem nD τ sig × ℕ × Bool => x.1) h
    exact absurd (kcell_inj.mp h1).2 (by simp)
  | .inr x, .inr y =>
    have h1 := congrArg (fun x : GSem nD τ sig × ℕ × Bool => x.1) h
    have e1 : c = c' := (kcell_inj.mp h1).1
    have e2 : x = y := Option.some.inj (kcell_inj.mp h1).2
    subst e1; subst e2; rfl
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

theorem own_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The semaphores of the kernel's own: those of the K and V tiles and those of the ring. -/
def osem : (Bool × Fin 2 × Fin 16) ⊕ (Bool × Bool × Fin 3) → SemLoc sig
  | .inl x => .dma (kvSemAt x)
  | .inr x => .dma (ringSem x)

theorem ownSemFacts : Pipeline.OwnSemFacts cfg0.spec osem := by
  refine ⟨?_, ?_, ?_⟩
  · decide +kernel
  · rintro (x | x) (y | y) h
    · exact congrArg _ (kvSemAt_injective (SemLoc.dma.inj h))
    · exact absurd (SemLoc.dma.inj h) (kvSemAt_ne_ringSem x y)
    · exact absurd (SemLoc.dma.inj h).symm (kvSemAt_ne_ringSem y x)
    · exact congrArg _ (ringSem_injective (SemLoc.dma.inj h))
  · decide +kernel

section Ghost
variable (ww : Dev nD → Bool → S1024x1024.Idx → Elt F .bf16)

/-- The counters of the K and V tiles. -/
def kvZero (c : Dev nD) : sProp 𝕄 := iprop((kvSems c false 0 ∗ kvSems c false 1) ∗ (kvSems c true 0 ∗ kvSems c true 1))

omit [FloatOps F] in
theorem ownSems0_eq (c : Dev nD) : (Pipeline.ownSems0 (Ix := Unit) (Name := ℕ) (U := UU) (Lvl := ℕ) (Val := Elt F) (τ := τ) osem c : sProp 𝕄)
    = iprop(kvZero c ∗ bigSep Finset.univ fun x => semVal (kcell c (some x)) 0) := by
  unfold Pipeline.ownSems0
  rw [bigSep_univ_sum, bigSep_univ_prod, bigSep_two, bigSep_univ_prod, bigSep_univ_prod,
    bigSep_univ_eq_bigSepL [(0 : Fin 2), 1] (by decide) (by decide), bigSep_univ_eq_bigSepL [(0 : Fin 2), 1] (by decide) (by decide)]
  rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The duty tokens of device `c`'s own cells. -/
def toks (c : Dev nD) : sProp 𝕄 :=
  iprop((dutyTok ER (barCell c) 0 false ∗ dutyTok ER (barCell c) 0 true)
    ∗ four (fun x => dutyTok ER (kcell c (some x)) 0 false) 0 ∗ four (fun x => dutyTok ER (kcell c (some x)) 0 false) 1
    ∗ four (fun x => dutyTok ER (kcell c (some x)) 0 false) 2)
/-- The duty tokens device `c` pays with, of step `s`, -/
def payFour (c : Dev nD) (s : Fin 3) : sProp 𝕄 :=
  iprop((dutyTok ER (sendCell c false s) 0 false ∗ dutyTok ER (recvCell (tgt false c) false s) 0 false)
    ∗ (dutyTok ER (sendCell c true s) 0 false ∗ dutyTok ER (recvCell (tgt true c) true s) 0 false))
/-- and all of them. -/
def payToks (c : Dev nD) : sProp 𝕄 :=
  iprop((dutyTok ER (barCell (fr false c)) 0 false ∗ dutyTok ER (barCell (fr true c)) 0 true)
    ∗ payFour c 0 ∗ payFour c 1 ∗ payFour c 2)

/-- What the launch element deals device `c`. -/
def G (c : Dev nD) : sProp 𝕄 :=
  iprop((bigSep Finset.univ fun k : CI => roundState ER (ringRd ww) (kcell c k) 0)
    ∗ (bigSep Finset.univ fun k : CI => iprop(atPos ER (kcell c k) 0 ∅ 0 ∗ reached ER (kcell c k) 0)) ∗ toks c)

/-- The handshake's share of the ring's state, without its credit; -/
def barG (K : Dev nD × CI → ℕ) (c : Dev nD) : sProp 𝕄 :=
  iprop((inv1 ww K c none ∗ inv1 ww K (fr false c) none ∗ inv1 ww K (fr true c) none
      ∗ reached ER (barCell (fr false c)) 0 ∗ reached ER (barCell (fr true c)) 0)
    ∗ atPos ER (barCell c) 0 ∅ 0 ∗ dutyTok ER (barCell (fr false c)) 0 false ∗ dutyTok ER (barCell (fr true c)) 0 true)
/-- a channel's. -/
def chanG (K : Dev nD × CI → ℕ) (c : Dev nD) (b : Bool) (s : Fin 3) : sProp 𝕄 :=
  iprop((inv1 ww K c (some (b, false, s)) ∗ inv1 ww K c (some (b, true, s)) ∗ inv1 ww K (tgt b c) (some (b, true, s))
      ∗ reached ER (sendCell c b s) 0 ∗ reached ER (recvCell (tgt b c) b s) 0)
    ∗ atPos ER (sendCell c b s) 0 ∅ 0 ∗ atPos ER (recvCell c b s) 0 ∅ 0
    ∗ dutyTok ER (sendCell c b s) 0 false ∗ dutyTok ER (recvCell (tgt b c) b s) 0 false)
def chanGs (K : Dev nD × CI → ℕ) (c : Dev nD) (s : Fin 3) : sProp 𝕄 := iprop(chanG ww K c false s ∗ chanG ww K c true s)

/-- What the global step makes of it. -/
def ghost (c : Dev nD) : sProp 𝕄 :=
  iprop(∃ K, barG ww K c ∗ chanGs ww K c 0 ∗ chanGs ww K c 1 ∗ chanGs ww K c 2)
def G' (c : Dev nD) : sProp 𝕄 := iprop(ghost ww c ∗ kvZero c)

omit [FloatOps F] in
theorem fund_ring : BI.own (ER (initOf ringCells ringToks)) ⊢ (|==> bigSep Finset.univ (G ww) : sProp 𝕄) := by
  have hX (Φ : GSem nD τ sig → sProp 𝕄) : bigSep ringCells Φ = bigSep Finset.univ fun c : Dev nD => bigSep Finset.univ fun k : CI => Φ (kcell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_two, bigSep_xfer]; rfl
  iintro HX
  imod (Rounds.fund ER (ringRd ww) ringCells ringToks) $$ HX with ⟨Hst, Hr, Hat, Htok⟩
  imodintro
  ihave Hst' := (Entails.of_eq (hX fun g => roundState ER (ringRd ww) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem core_alloc (c : Dev nD) :
    iprop(Pipeline.ownSems0 (Ix := Unit) (Name := ℕ) (U := UU) (Lvl := ℕ) (Val := Elt F) (τ := τ) osem c ∗ unscopedSems0 c ∗ G ww c)
      ⊢ |={Set.univ}=> iprop(((bigSep Finset.univ fun k => iprop(∃ κ : ℕ, cellInv ER (ringRd ww) κ (kcell c k)))
          ∗ (bigSep Finset.univ fun k => iprop(atPos ER (kcell c k) 0 ∅ 0 ∗ reached ER (kcell c k) 0)) ∗ toks c) ∗ kvZero c) := by
  unfold G
  rw [ownSems0_eq, unscopedSems0_eq]
  iintro ⟨⟨Hkv, Hos⟩, Hus, Hst, Hat, Htok⟩
  ihave Hv := (Entails.of_eq (bigSep_ci fun k : CI => (semVal (kcell c k) 0 : sProp 𝕄)).symm) $$ [Hos Hus]
  · isplitl [Hus] <;> iassumption
  imod (show iprop((bigSep Finset.univ fun k : CI => semVal (kcell c k) 0) ∗ bigSep Finset.univ fun k : CI => roundState ER (ringRd ww) (kcell c k) 0)
      ⊢ (|={Set.univ}=> bigSep Finset.univ fun k => iprop(∃ κ : ℕ, cellInv ER (ringRd ww) κ (kcell c k)) : sProp 𝕄) from by
        rw [← bigSep_sep']
        exact (bigSep_mono fun k _ => (Rounds.body_intro ER (ringRd ww) (kcell c k)).trans inv_alloc).trans (bigSep_fupd _ _)) $$ [Hv Hst] with Hinv
  · isplitl [Hv] <;> iassumption
  imodintro
  isplitr [Hkv]
  · isplitl [Hinv]; · iexact Hinv
    isplitl [Hat]; · iexact Hat
    iexact Htok
  iexact Hkv

def records (K : Dev nD × CI → ℕ) : sProp 𝕄 :=
  iprop((bigSep Finset.univ fun ck : Dev nD × CI => cellInv ER (ringRd ww) (K ck) (kc ck))
    ∗ bigSep Finset.univ fun ck : Dev nD × CI => reached ER (kc ck) 0)

instance records_persistent (K : Dev nD × CI → ℕ) : BI.Persistent (records ww K) := by unfold records; infer_instance

omit [FloatOps F] in
theorem inv_at (K : Dev nD × CI → ℕ) (c : Dev nD) (k : CI) : records ww K ⊢ inv1 ww K c k := by
  unfold records inv1
  iintro ⟨H, -⟩
  iapply (show (bigSep Finset.univ fun ck : Dev nD × CI => (cellInv ER (ringRd ww) (K ck) (kc ck) : sProp 𝕄)) ⊢ cellInv ER (ringRd ww) (K (c, k)) (kcell c k)
    from bigSep_elim (Finset.mem_univ (c, k)))
  iexact H
omit [FloatOps F] in
theorem reached_at (K : Dev nD × CI → ℕ) (c : Dev nD) (k : CI) : records ww K ⊢ reached ER (kcell c k) 0 := by
  unfold records
  iintro ⟨-, H⟩
  iapply (show (bigSep Finset.univ fun ck : Dev nD × CI => (reached ER (kc ck) 0 : sProp 𝕄)) ⊢ reached ER (kcell c k) 0
    from bigSep_elim (Finset.mem_univ (c, k)))
  iexact H

/-- What stays with device `c`: its positions, and the tokens of the duties it pays. -/
def linear (c : Dev nD) : sProp 𝕄 :=
  iprop((bigSep Finset.univ fun k : CI => atPos ER (kcell c k) 0 ∅ 0) ∗ payToks c)

omit [FloatOps F] in
theorem chan_intro (K : Dev nD × CI → ℕ) (c : Dev nD) (b : Bool) (s : Fin 3) :
    iprop(records ww K ∗ (atPos ER (sendCell c b s) 0 ∅ 0 ∗ atPos ER (recvCell c b s) 0 ∅ 0)
      ∗ (dutyTok ER (sendCell c b s) 0 false ∗ dutyTok ER (recvCell (tgt b c) b s) 0 false)) ⊢ chanG ww K c b s := by
  unfold chanG
  iintro ⟨#HR, ⟨A1, A2⟩, T1, T2⟩
  isplitr
  · isplitr; · iapply (inv_at ww K c (some (b, false, s))); iexact HR
    isplitr; · iapply (inv_at ww K c (some (b, true, s))); iexact HR
    isplitr; · iapply (inv_at ww K (tgt b c) (some (b, true, s))); iexact HR
    isplitr; · iapply (reached_at ww K c (some (b, false, s))); iexact HR
    iapply (reached_at ww K (tgt b c) (some (b, true, s))); iexact HR
  isplitl [A1]; · iexact A1
  isplitl [A2]; · iexact A2
  isplitl [T1] <;> iassumption

omit [FloatOps F] in
theorem chans_intro (K : Dev nD × CI → ℕ) (c : Dev nD) (s : Fin 3) :
    iprop(records ww K ∗ four (fun x => atPos ER (kcell c (some x)) 0 ∅ 0) s ∗ payFour c s) ⊢ chanGs ww K c s := by
  unfold chanGs four payFour
  iintro ⟨#HR, ⟨A1, A2⟩, T1, T2⟩
  isplitl [A1 T1]
  · iapply (chan_intro ww K c false s)
    isplitr; · iexact HR
    isplitl [A1] <;> iassumption
  · iapply (chan_intro ww K c true s)
    isplitr; · iexact HR
    isplitl [A2] <;> iassumption

omit [FloatOps F] in
theorem ghost_intro (K : Dev nD × CI → ℕ) (c : Dev nD) : iprop(records ww K ∗ linear c) ⊢ ghost ww c := by
  unfold linear payToks ghost
  rw [bigSep_cells]
  iintro ⟨#HR, ⟨A0, A1, A2, A3⟩, ⟨T1, T2⟩, P0, P1, P2⟩
  iexists K
  isplitl [A0 T1 T2]
  · unfold barG
    isplitr
    · isplitr; · iapply (inv_at ww K c none); iexact HR
      isplitr; · iapply (inv_at ww K (fr false c) none); iexact HR
      isplitr; · iapply (inv_at ww K (fr true c) none); iexact HR
      isplitr; · iapply (reached_at ww K (fr false c) none); iexact HR
      iapply (reached_at ww K (fr true c) none); iexact HR
    isplitl [A0]; · iexact A0
    isplitl [T1] <;> iassumption
  isplitl [A1 P0]
  · iapply (chans_intro ww K c 0)
    isplitr; · iexact HR
    isplitl [A1] <;> iassumption
  isplitl [A2 P1]
  · iapply (chans_intro ww K c 1)
    isplitr; · iexact HR
    isplitl [A2] <;> iassumption
  iapply (chans_intro ww K c 2)
  isplitr; · iexact HR
  isplitl [A3] <;> iassumption

omit [FloatOps F] in
theorem around {M : Type} [URA M] (e : Dev nD ≃ Dev nD) (Φ : Dev nD → sProp M) :
    bigSep Finset.univ Φ ⊢ bigSep Finset.univ fun c => Φ (e c) := Entails.of_eq (bigSep_univ_equiv e Φ)

omit [FloatOps F] in
theorem four_around (s : Fin 3) :
    (bigSep Finset.univ fun c : Dev nD => (four (fun x => dutyTok ER (kcell c (some x)) 0 false) s : sProp 𝕄))
      ⊢ bigSep Finset.univ fun c : Dev nD => payFour c s := by
  unfold four payFour
  rw [bigSep_sep', bigSep_sep', bigSep_sep', bigSep_sep', bigSep_sep', bigSep_sep']
  exact BI.sep_mono (BI.sep_mono (BI.Entails.refl _) (around (ringEquiv false) fun c => dutyTok ER (recvCell c false s) 0 false))
    (BI.sep_mono (BI.Entails.refl _) (around (ringEquiv true) fun c => dutyTok ER (recvCell c true s) 0 false))

omit [FloatOps F] in
/-- The tokens dealt around the ring. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep']
  exact BI.sep_mono (BI.sep_mono (around (ringEquiv false).symm fun c => dutyTok ER (barCell c) 0 false)
      (around (ringEquiv true).symm fun c => dutyTok ER (barCell c) 0 true))
    (BI.sep_mono (four_around 0) (BI.sep_mono (four_around 1) (four_around 2)))

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup0 :
    (bigSep Finset.univ fun c : Dev nD => iprop((bigSep Finset.univ fun k => iprop(∃ κ : ℕ, cellInv ER (ringRd ww) κ (kcell c k)))
          ∗ (bigSep Finset.univ fun k => iprop(atPos ER (kcell c k) 0 ∅ 0 ∗ reached ER (kcell c k) 0)) ∗ toks c) : sProp 𝕄)
      ⊢ bigSep Finset.univ (ghost ww) := by
  rw [bigSep_sep', bigSep_sep', ← bigSep_univ_prod (fun ck : Dev nD × CI => iprop(∃ κ : ℕ, cellInv ER (ringRd ww) κ (kc ck))),
    bigSep_congr (s := Finset.univ) (fun (c : Dev nD) _ => bigSep_sep' Finset.univ (fun k : CI => (atPos ER (kcell c k) 0 ∅ 0 : sProp 𝕄)) (fun k => reached ER (kcell c k) 0)),
    bigSep_sep', ← bigSep_univ_prod (fun ck : Dev nD × CI => (reached ER (kc ck) 0 : sProp 𝕄))]
  iintro ⟨HI, ⟨Hat, #HR⟩, Htok⟩
  ihave HK := (BI.bigSep_exists_pi Finset.univ (fun (ck : Dev nD × CI) (κ : ℕ) => (cellInv ER (ringRd ww) κ (kc ck) : sProp 𝕄))) $$ HI
  icases HK with ⟨%K, #HI⟩
  ihave Htk := (toks_around (F := F)) $$ Htok
  iapply (bigSep_with (R := records ww K) fun c _ => ghost_intro ww K c)
  isplitr
  · unfold records; isplitl; · iexact HI
    iexact HR
  · iapply (Entails.of_eq (bigSep_sep' Finset.univ (fun c : Dev nD => bigSep Finset.univ fun k : CI => (atPos ER (kcell c k) 0 ∅ 0 : sProp 𝕄)) payToks).symm)
    isplitl [Hat]; · iexact Hat
    iexact Htk

omit [FloatOps F] in
theorem regroup :
    (bigSep Finset.univ fun c : Dev nD => iprop(((bigSep Finset.univ fun k => iprop(∃ κ : ℕ, cellInv ER (ringRd ww) κ (kcell c k)))
          ∗ (bigSep Finset.univ fun k => iprop(atPos ER (kcell c k) 0 ∅ 0 ∗ reached ER (kcell c k) 0)) ∗ toks c) ∗ kvZero c) : sProp 𝕄)
      ⊢ bigSep Finset.univ (G' ww) := by
  unfold G'
  iintro H
  ihave H := (Entails.of_eq (bigSep_sep' _ _ _)) $$ H
  icases H with ⟨H1, H2⟩
  ihave H1 := (regroup0 ww) $$ H1
  iapply (Entails.of_eq (bigSep_sep' Finset.univ (ghost ww) kvZero).symm)
  isplitl [H1] <;> iassumption

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G ww c) : sProp 𝕄)
    ⊢ |={Set.univ}=> bigSep Finset.univ (G' ww) :=
  ((bigSep_mono fun c _ => core_alloc ww c).trans (bigSep_fupd _ _)).trans (BI.fupd_mono (regroup ww))

end Ghost

/-! ## The launch credit -/

/-- What each device owes at the launch. -/
abbrev O₀ (c : Dev nD) : CellTallies nD τ sig Unit := O c 0

omit [FloatOps F] in
/-- What device `d` owes device `c`'s cell `k`. -/
theorem owed_at (d c : Dev nD) (k : CI) : O₀ d (kcell c k) ()
    = (((owing d).map fun x => if kcell c k = x.1 then x.2 else 0)).sum := by
  have key : ∀ l : List (GSem nD τ sig × ℕ), dues l (kcell c k) () = ((l.map fun x => if kcell c k = x.1 then x.2 else 0)).sum := by
    intro l
    induction l with
    | nil => rfl
    | cons x l ih =>
      unfold dues
      rw [Pi.add_apply, Finsupp.add_apply, ih, tallyAt_apply, List.map_cons, List.sum_cons, Nat.add_comm]
      congr 1
      by_cases h : kcell c k = x.1
      · rw [if_pos ⟨h, rfl⟩, if_pos h]
      · rw [if_neg (fun h' => h h'.1), if_neg h]
  exact key _

omit [FloatOps F] in
theorem owed_bar (d c : Dev nD) : O₀ d (barCell c) () = (if d = tgt false c then 1 else 0) + (if d = tgt true c then 1 else 0) := by
  rw [owed_at]
  simp only [owing, List.map, List.sum_cons, List.sum_nil, kcell_inj, reduceCtorEq, and_false, and_true, if_false, Nat.add_zero]
  revert c d; decide

omit [FloatOps F] in
theorem owed_recv (d c : Dev nD) (b : Bool) (s : Fin 3) : O₀ d (recvCell c b s) () = if d = fr b c then N else 0 := by
  rw [owed_at]
  have e : ∀ (b : Bool) (c d : Dev nD), (c = tgt b d) = (d = fr b c) := by decide
  fin_cases s <;> cases b <;>
    simp [owing, kcell_inj, csem_injective.eq_iff, e]

omit [FloatOps F] in
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (tgt false c) fun _ => 1, Finset.sum_ite_eq' Finset.univ (tgt true c) fun _ => 1, if_pos (Finset.mem_univ _), if_pos (Finset.mem_univ _)]

omit [FloatOps F] in
theorem launch_recv (c : Dev nD) (b : Bool) (s : Fin 3) :
    tallyOn (recvCell c b s) (launchCredit (Pipeline.owing O₀) 0 (recvCell c b s)) = (tallyAt (recvCell c b s) () N : CellTallies nD τ sig Unit) := by
  unfold tallyAt; refine congrArg _ (Finsupp.ext fun u => ?_); cases u
  rw [Pipeline.launchCredit_owing, Finsupp.single_eq_same, Finset.sum_congr rfl fun d _ => owed_recv d c b s, Finset.sum_ite_eq' Finset.univ (fr b c) fun _ => N,
    if_pos (Finset.mem_univ _)]

theorem keep {M : Type} [URA M] (A : sProp M) (Φ : Bool × Bool × Fin 3 → sProp M) :
    iprop(A ∗ four Φ 0 ∗ four Φ 1 ∗ four Φ 2) ⊢ iprop(A ∗ (Φ (false, true, 0) ∗ Φ (true, true, 0))
      ∗ (Φ (false, true, 1) ∗ Φ (true, true, 1)) ∗ (Φ (false, true, 2) ∗ Φ (true, true, 2))) := by
  unfold four
  iintro ⟨H0, ⟨⟨-, H1⟩, -, H2⟩, ⟨⟨-, H3⟩, -, H4⟩, ⟨-, H5⟩, -, H6⟩
  isplitl [H0]; · iexact H0
  isplitl [H1 H2]; · isplitl [H1] <;> iassumption
  isplitl [H3 H4]; · isplitl [H3] <;> iassumption
  isplitl [H5] <;> iassumption

/-- The credit of device `c`'s landings of step `s`, -/
def credS (c : Dev nD) (s : Fin 3) : sProp 𝕄 :=
  iprop(cred (tallyAt (recvCell c false s) () N) ∗ cred (tallyAt (recvCell c true s) () N))

omit [FloatOps F] in
/-- and all a device starts with. -/
theorem creds (c : Dev nD) :
    (Pipeline.launchCred O₀ c : sProp 𝕄) ⊢ iprop(cred (tallyAt (barCell c) () 2) ∗ credS c 0 ∗ credS c 1 ∗ credS c 2) := by
  unfold Pipeline.launchCred
  refine (bigSep_subset (Finset.subset_univ (Finset.univ.image csem))).trans ?_
  rw [bigSep_image_of_injOn csem_injective.injOn, bigSep_cells]
  unfold credS
  rw [launch_bar]
  rw [← launch_recv c false 0, ← launch_recv c true 0, ← launch_recv c false 1, ← launch_recv c true 1, ← launch_recv c false 2, ← launch_recv c true 2]
  exact keep _ _

end Cert.RingAttn
-- ==== Proof.Run.lean ====
/-
# The run

The launch put together: what the body starts from and ends at on every device, and what the whole run leaves
(`run_main`): the result array at `outAt` of the argument arrays, every argument array as it was, every counter at zero.
-/
module

public import proofs.«01_k».proof.Proof.Grant
public import Idealize.ShloMosaic.Lib.Pipeline.CollectiveSegs

@[expose] public section

set_option maxRecDepth 65536

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

section Run
variable (m : (ℓ : Loc nD τ sig) → Buf (Elt F) ℓ) (ρ : Dev nD → PrngReg)

/-! ## The argument arrays -/

/-- A device's rows of the input, -/
def x0 (c : Dev nD) : S1x1024x1024.Idx → Elt F .bf16 := (win0_0.blk (0 : Fin 1)).view.read (Elt F) (m ((c : Thread nD τ).loc main_arg0))
/-- every device's query (`false`) and output (`true`) weights, -/
def ww (c : Dev nD) (b : Bool) : S1024x1024.Idx → Elt F .bf16 :=
  match b with
  | false => (win0_1.blk (0 : Fin 1)).view.read (Elt F) (m ((c : Thread nD τ).loc main_arg1))
  | true => (win0_2.blk (0 : Fin 1)).view.read (Elt F) (m ((c : Thread nD τ).loc main_arg4))
/-- and a device's K (`false`) and V (`true`). -/
def fa (c : Dev nD) (b : Bool) : S4x1024x32x128.Idx → Elt F .f32 :=
  match b with
  | false => m ((c : Thread nD τ).loc main_arg2)
  | true => m ((c : Thread nD τ).loc main_arg3)

/-- The result on device `c`. -/
def res (c : Dev nD) : S1x1024x1024.Idx → Elt F .f32 := outAt c (x0 m c) (ww m) (fa m c)

/-! ## The proof data -/

/-- K and V as they came. -/
def kvHeld (c : Dev nD) : sProp 𝕄 :=
  iprop((((c : Thread nD τ).loc main_arg2) ↦{fullShare} m ((c : Thread nD τ).loc main_arg2))
    ∗ (((c : Thread nD τ).loc main_arg3) ↦{fullShare} m ((c : Thread nD τ).loc main_arg3)))
/-- The kernel's own buffers at some contents. -/
def scr (c : Dev nD) : sProp 𝕄 := Pipeline.scopedRest (Ix := Unit) (Name := ℕ) (U := UU) (Lvl := ℕ) (Val := Elt F) spec0 c
/-- What device `c` starts from besides its buffers. -/
def start (c : Dev nD) : sProp 𝕄 :=
  iprop(G' (ww m) c ∗ (cred (tallyAt (barCell c) () 2) ∗ credS c 0 ∗ credS c 1 ∗ credS c 2) ∗ levAts L lv ∗ kvHeld m c)
def Φ₀ (c : Dev nD) : sProp 𝕄 := iprop(start m c ∗ scr c)
def Φ₁ (c : Dev nD) : sProp 𝕄 :=
  iprop(scr c ∗ (semVal (barCell c) 0 ∗ semDone c 0 ∗ semDone c 1 ∗ semDone c 2) ∗ kvZero c ∗ kvHeld m c)

def dats (_ : Fin 1) (c : Dev nD) : Dat τ (Elt F) Unit ℕ UU ℕ cfg0 c where
  A w := m ((cfg0.win w).arr.view.loc (c : Thread nD τ))
  after w _ := match w with
    | ⟨0, _⟩ => x0 m c
    | ⟨1, _⟩ => ww m c false
    | ⟨2, _⟩ => ww m c true
    | ⟨3, _⟩ => res m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 4)).fetch t = true := by rw [show t = t0_0 from fin_N0 t]; rfl
theorem fetch_1 (t : Fin cfg0.N) : (cfg0.win (1 : Fin 4)).fetch t = true := by rw [show t = t0_0 from fin_N0 t]; rfl
theorem fetch_2 (t : Fin cfg0.N) : (cfg0.win (2 : Fin 4)).fetch t = true := by rw [show t = t0_0 from fin_N0 t]; rfl

/-! ## The body -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def bodyPost (c : Dev nD) : sProp 𝕄 :=
  iprop(Φ₁ m c ∗ (dats m 0 c).owesAt () t0_0.succ
    ∗ stg c cc0_stg0_0 (x0 m c) ∗ stg c cc0_stg1_0 (ww m c false) ∗ stg c cc0_stg2_0 (ww m c true) ∗ stg c cc0_stg3_0 (res m c))

omit [FloatOps F] in
theorem chan_cred (w : Dev nD → Bool → S1024x1024.Idx → Elt F .bf16) (K : Dev nD × CI → ℕ) (c : Dev nD) (b : Bool) (s : Fin 3) :
    iprop(chanG w K c b s ∗ cred (tallyAt (recvCell c b s) () N)) ⊢ chanPre w K c b s := by
  unfold chanG chanPre
  iintro ⟨⟨#HI, A1, A2, T1, T2⟩, C⟩
  isplitr; · iexact HI
  isplitl [A1]; · iexact A1
  isplitl [A2]; · iexact A2
  isplitl [T1]; · iexact T1
  isplitl [T2] <;> iassumption
omit [FloatOps F] in
theorem chans_cred (w : Dev nD → Bool → S1024x1024.Idx → Elt F .bf16) (K : Dev nD × CI → ℕ) (c : Dev nD) (s : Fin 3) :
    iprop(chanGs w K c s ∗ credS c s) ⊢ chans c w K s := by
  unfold chanGs credS chans
  iintro ⟨⟨G1, G2⟩, C1, C2⟩
  isplitl [G1 C1]
  · iapply (chan_cred w K c false s); isplitl [G1] <;> iassumption
  · iapply (chan_cred w K c true s); isplitl [G2] <;> iassumption
omit [FloatOps F] in
theorem bar_cred (w : Dev nD → Bool → S1024x1024.Idx → Elt F .bf16) (K : Dev nD × CI → ℕ) (c : Dev nD) :
    iprop(barG w K c ∗ cred (tallyAt (barCell c) () 2)) ⊢ barPre w K c := by
  unfold barG barPre
  iintro ⟨⟨#HI, A1, T1, T2⟩, C⟩
  isplitr; · iexact HI
  isplitl [A1]; · iexact A1
  isplitl [T1]; · iexact T1
  isplitl [T2] <;> iassumption

/-- The kernel's own buffers one by one. -/
def scrs (c : Dev nD) : sProp 𝕄 :=
  iprop(bufAny c false ∗ bufAny c true ∗ (∃ f, mXp.view.loc (c : Thread nD τ) ↦[Finset.univ]{fullShare} f) ∗ qAny c
    ∗ (∃ f, mC.view.loc (c : Thread nD τ) ↦[Finset.univ]{fullShare} f) ∗ (∃ f, mW.view.loc (c : Thread nD τ) ↦[Finset.univ]{fullShare} f)
    ∗ (∃ f, (kvBuf false).view.loc (c : Thread nD τ) ↦[Finset.univ]{fullShare} f) ∗ (∃ f, (kvBuf true).view.loc (c : Thread nD τ) ↦[Finset.univ]{fullShare} f))
omit [FloatOps F] in
theorem scr_eq (c : Dev nD) : (scr c : sProp 𝕄) = scrs c := (scopedRest0_eq c).trans rfl

/-- From what the launch gives to what the body starts from, -/
theorem body_in (c : Dev nD) (fo : S1x1024x1024.Idx → Elt F .f32) :
    iprop(Φ₀ m c ∗ (∃ W, owes (c : Thread nD τ) (O c 0) W)
      ∗ (mX.view.loc (c : Thread nD τ) ↦[Finset.univ]{fullShare} x0 m c) ∗ (mWq.view.loc (c : Thread nD τ) ↦[Finset.univ]{fullShare} (ww m c false))
      ∗ (mWo.view.loc (c : Thread nD τ) ↦[Finset.univ]{fullShare} (ww m c true)) ∗ (mOut.view.loc (c : Thread nD τ) ↦[Finset.univ]{fullShare} fo))
    ⊢ iprop(∃ K, bodyIn c (x0 m c) (ww m) (fa m c) K fo) := by
  unfold Φ₀ start G' ghost kvZero
  rw [scr_eq]; unfold scrs kvHeld
  iintro ⟨⟨⟨⟨⟨%K, GB, G0, G1, G2⟩, ⟨Z1, Z2⟩, Z3, Z4⟩, ⟨CB, C0, C1, C2⟩, #Hlev, HK, HV⟩, B0, B1, Hp, Hq, Hc, Hw, BK, BV⟩, HO, Hx, Hwq, Hwo, Hout⟩
  iexists K
  unfold bodyIn
  isplitl [Hx Hwq Hwo Hout]
  · isplitl [Hx]; · iexact Hx
    isplitl [Hwq]; · iexact Hwq
    isplitl [Hwo]; · iexact Hwo
    iexact Hout
  isplitl [B0 B1 Hp Hq Hc Hw]
  · isplitl [B0]; · iexact B0
    isplitl [B1]; · iexact B1
    isplitl [Hp]; · iexact Hp
    isplitl [Hq]; · iexact Hq
    isplitl [Hc] <;> iassumption
  isplitl [BK BV HK HV Z1 Z2 Z3 Z4]
  · unfold kvAll
    isplitl [BK HK Z1 Z2]
    · isplitl [BK]; · iexact BK
      isplitl [HK]; · iexact HK
      isplitl [Z1] <;> iassumption
    · isplitl [BV]; · iexact BV
      isplitl [HV]; · iexact HV
      isplitl [Z3] <;> iassumption
  isplitl [GB G0 G1 G2 CB C0 C1 C2]
  · isplitl [GB CB]; · iapply (bar_cred (ww m) K c); isplitl [GB] <;> iassumption
    isplitl [G0 C0]; · iapply (chans_cred (ww m) K c 0); isplitl [G0] <;> iassumption
    isplitl [G1 C1]; · iapply (chans_cred (ww m) K c 1); isplitl [G1] <;> iassumption
    iapply (chans_cred (ww m) K c 2); isplitl [G2] <;> iassumption
  isplitl [HO] <;> iassumption

/-- and back. -/
theorem body_out (c : Dev nD) :
    bodyOut c (x0 m c) (ww m) (fa m c) ⊢ iprop(Φ₁ m c ∗ (∃ W, owes (c : Thread nD τ) 0 W)
      ∗ (mX.view.loc (c : Thread nD τ) ↦[Finset.univ]{fullShare} x0 m c) ∗ (mWq.view.loc (c : Thread nD τ) ↦[Finset.univ]{fullShare} (ww m c false))
      ∗ (mWo.view.loc (c : Thread nD τ) ↦[Finset.univ]{fullShare} (ww m c true)) ∗ (mOut.view.loc (c : Thread nD τ) ↦[Finset.univ]{fullShare} res m c)) := by
  unfold bodyOut Φ₁ kvAll kvZero kvHeld
  rw [scr_eq]; unfold scrs
  iintro ⟨⟨Hx, Hwq, Hwo, Hout⟩, ⟨B0, B1, Hp, Hq, Hc, Hw⟩, ⟨⟨BK, HK, Z1, Z2⟩, BV, HV, Z3, Z4⟩, HS, HO⟩
  isplitl [B0 B1 Hp Hq Hc Hw BK BV HS Z1 Z2 Z3 Z4 HK HV]
  · isplitl [B0 B1 Hp Hq Hc Hw BK BV]
    · isplitl [B0]; · iexact B0
      isplitl [B1]; · iexact B1
      isplitl [Hp]; · iexact Hp
      isplitl [Hq]; · iexact Hq
      isplitl [Hc]; · iexact Hc
      isplitl [Hw]; · iexact Hw
      isplitl [BK] <;> iassumption
    isplitl [HS]; · iexact HS
    isplitl [Z1 Z2 Z3 Z4]
    · isplitl [Z1 Z2]
      · isplitl [Z1] <;> iassumption
      · isplitl [Z3] <;> iassumption
    isplitl [HK]; · iexact HK
    iexact HV
  isplitl [HO]; · iexact HO
  isplitl [Hx]; · iexact Hx
  isplitl [Hwq]; · iexact Hwq
  isplitl [Hwo]; · iexact Hwo
  iexact Hout

set_option maxHeartbeats 800000 in
theorem sound_body (c : Dev nD) (Kt : PUnit → sProp 𝕄) :
    iprop(bodyPre m c ∗ (bodyPost m c -∗ Kt ⟨⟩))
      ⊢ wp frame (wpE (defs₀ (F := F)) 𝒱₀ c none) Set.univ prog Kt := by
  unfold bodyPre
  iintro ⟨⟨HΦ, Ho, ⟨%d0, %g0, %hg0, Hx⟩, ⟨%d1, %g1, %hg1, Hwq⟩, ⟨%d2, %g2, %hg2, Hwo⟩, ⟨%d3, %g3, %hg3, Hout⟩⟩, Hk⟩
  have h0 : g0 = x0 m c := by rw [hg0]; unfold Dat.before; rw [if_pos (fetch_0 t0_0)]; rfl
  have h1 : g1 = ww m c false := by rw [hg1]; unfold Dat.before; rw [if_pos (fetch_1 t0_0)]; rfl
  have h2 : g2 = ww m c true := by rw [hg2]; unfold Dat.before; rw [if_pos (fetch_2 t0_0)]; rfl
  subst h0 h1 h2
  unfold Dat.owesAt Pipeline.owesWithin
  icases Ho with ⟨%W, %hW, HO⟩
  ihave H := (body_in m c g3) $$ [HΦ HO Hx Hwq Hwo Hout]
  · isplitl [HΦ]; · iexact HΦ
    isplitl [HO]; · iexists W; iexact HO
    isplitl [Hx]; · iexact Hx
    isplitl [Hwq]; · iexact Hwq
    isplitl [Hwo]; · iexact Hwo
    iexact Hout
  icases H with ⟨%K, H⟩
  iapply (wp_prog c (x0 m c) (ww m) (fa m c) K g3 (Q := Kt)) $$ H
  iintro H
  ihave H := (body_out m c) $$ H
  icases H with ⟨HΦ, ⟨%W', HO⟩, Hx, Hwq, Hwo, Hout⟩
  iapply Hk
  unfold bodyPost Dat.owesAt Pipeline.owesWithin
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

/-- The library's body obligation on core `c`. -/
theorem body_obligation (c : Dev nD) : BodyObligation (dats (F := F) m 0 c) (defs₀ (F := F)) 𝒱₀ () Set.univ := fun t => by
  have hW (Φ : Fin cfg0.W → sProp 𝕄) : bigSep Finset.univ Φ = iprop(Φ (0 : Fin 4) ∗ Φ (1 : Fin 4) ∗ Φ (2 : Fin 4) ∗ Φ (3 : Fin 4)) := bigSep_W0 Φ
  rw [show t = t0_0 from fin_N0 t]
  rw [hW, hW]
  simp only [owns_whole_eq]
  show bodyPre m c ⊢ wp frame (wpE (defs₀ (F := F)) 𝒱₀ c none) Set.univ
    (cc0_body mX (hstage0_0 0) mWq (hstage0_1 0) (Memref.whole main_arg2) (Memref.isWhole_whole _) (Memref.whole main_arg3) (Memref.isWhole_whole _) mWo (hstage0_2 0) mOut (hstage0_3 0) mQB (Memref.isWhole_whole _) mOB (Memref.isWhole_whole _) mXp (Memref.isWhole_whole _) mQ (Memref.isWhole_whole _) mC (Memref.isWhole_whole _) mW (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13) (fun _ => bodyPost m c)
  rw [body_eq]
  iintro H
  iapply (sound_body m c fun _ => bodyPost m c)
  isplitl
  · iexact H
  · iintro H; iexact H

/-! ## The side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ww m) c)
      ⊢ |={Set.univ}=> iprop(start m c ∗ emp) := by
  rw [Pipeline.unscopedRestP_none, show cfg0.spec = spec0 from rfl, unscopedRest0_eq]
  iintro ⟨Hkv, Hlev, Hcr, -, HG⟩
  ihave Hc := (creds (F := F) c) $$ Hcr
  imodintro
  unfold start kvHeld
  isplitl
  · isplitl [HG]; · iexact HG
    isplitl [Hc]; · iexact Hc
    isplitl [Hlev]; · iexact Hlev
    iexact Hkv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ scr
  iintro ⟨Hs, -, Hr⟩
  isplitl [Hs]; · iexact Hs
  iexact Hr

omit [FloatOps F] in
theorem done_sems (c : Dev nD) :
    iprop(semDone c 0 ∗ semDone c 1 ∗ semDone c 2) ⊢ (bigSep Finset.univ fun x => semVal (kcell c (some x)) 0 : sProp 𝕄) := by
  rw [bigSep_xfer]; exact BIBase.Entails.rfl

theorem phi1_exit (c : Dev nD) :
    (dats m 0 c).Φ (Fin.last cfg0.N) ⊢ iprop((unscopedSems0 c ∗ kvHeld m c) ∗ Pipeline.ownSems0 osem c ∗ Pipeline.scopedRest cfg0.spec c) := by
  rw [show (dats m 0 c).Φ (Fin.last cfg0.N) = Φ₁ m c from rfl, ownSems0_eq, unscopedSems0_eq]
  unfold Φ₁ scr
  iintro ⟨Hr, ⟨HB, HS⟩, Hkv, HA⟩
  isplitl [HB HA]
  · isplitl [HB] <;> iassumption
  isplitl [Hkv HS]
  · isplitl [Hkv]; · iexact Hkv
    iapply (done_sems c); iexact HS
  iexact Hr

theorem waits (c : Dev nD) : (levAts L lv : sProp 𝕄) ⊢ Pipeline.cellsWaits cfgs (dats m) () 0 c :=
  Pipeline.cellsWaits_intro cfgs (dats m) () 0 c fun w s t => by
    have hs : lvS (.dma ((cfg0.win w).sem s)) ≤ 0 := le_of_eq (lvS_other _ (by revert w s; decide +kernel))
    rcases t with ⟨_ | _, ht⟩
    · exact mayWait c _ 0 ((owing c).drop 0) hs (above_owing c 0 0 (by decide))
    · exact mayWait c _ 0 [] hs (fun x hx => absurd hx (List.not_mem_nil))

/-! ## The run -/

/-- What is read of device `c` at the end besides the windows' arrays. -/
def QY (c : Dev nD) (s : MemSt nD τ sig (Elt F)) : Prop :=
  (∀ sm : SemLoc sig, sm.isScoped .tc = false → s.sem ((c.tc : Thread nD τ), sm) = 0)
    ∧ s.mem ((c.tc : Thread nD τ).loc main_arg2) = m ((c.tc : Thread nD τ).loc main_arg2)
    ∧ s.mem ((c.tc : Thread nD τ).loc main_arg3) = m ((c.tc : Thread nD τ).loc main_arg3)

omit [FloatOps F] in
theorem read_end (c : Dev nD) (s' : Phys nD τ sig (Elt F)) :
    iprop((unscopedSems0 c ∗ kvHeld m c) ∗ emp ∗ SI s') ⊢ (|={Set.univ}=> iprop(⌜QY m c s'.mem⌝ ∗ SI s') : sProp 𝕄) := by
  unfold kvHeld
  iintro ⟨⟨Hu, HK, HV⟩, -, HSI⟩
  icombine HK HSI gives %hK
  icombine HV HSI gives %hV
  imod (Pipeline.unscopedSems0_read (X := unscopedSems0 c) (c := c) fupd_intro s') $$ [Hu HSI] with ⟨%hu, HSI⟩
  · isplitl [Hu] <;> iassumption
  imodintro
  isplitr
  · ipureintro
    exact ⟨hu, funext fun i => hK i (Finset.mem_univ i), funext fun i => hV i (Finset.mem_univ i)⟩
  iexact HSI

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w) ∧ QY m c r.2

/-- For any float values, from any memory with zero counters, every weakly fair execution of the launch ends with the
    windows' arrays at `finalA`, K and V unchanged and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (ww m)) (G' := G' (ww m)) (u₀ := u₀)
    (hu₀ := by
      unfold u₀
      iintro Hu
      ihave H := (own_split _ _) $$ Hu
      icases H with ⟨HP, HX⟩
      imod (fund_ring (ww m)) $$ HX with HG
      imodintro
      isplitl [HP] <;> iassumption)
    (hglob := glob (ww m))
    (hA := fun _ _ => rfl) (hpf := fun _ k => k.elim0)
    (X := start m) (Y := fun c => iprop(unscopedSems0 c ∗ kvHeld m c)) (Z := fun _ => iprop(emp))
    (hX := start_intro m ρ) (hin := phi0_intro m) (hout := phi1_exit m)
    (QY := QY m) (hY := read_end m)
    (hQ := fun _ h hs => ⟨fun c => ⟨fun w => (h c).1 w, (h c).2.2⟩, sem_eq_zero hs fun c => (h c).2.2.1⟩)

/-- The input and weight arrays after the run hold what they held. -/
theorem finalA_0 (c : Dev nD) : finalA m c (0 : Fin 4) = m ((c : Thread nD τ).loc main_arg0) := (dats (F := F) m 0 c).arrAt_in (0 : Fin 4) rfl _
theorem finalA_1 (c : Dev nD) : finalA m c (1 : Fin 4) = m ((c : Thread nD τ).loc main_arg1) := (dats (F := F) m 0 c).arrAt_in (1 : Fin 4) rfl _
theorem finalA_2 (c : Dev nD) : finalA m c (2 : Fin 4) = m ((c : Thread nD τ).loc main_arg4) := (dats (F := F) m 0 c).arrAt_in (2 : Fin 4) rfl _

end Run

end Cert.RingAttn
-- ==== Proof.Frames.lean ====
/-
# The frames and the result array

What a run leaves is restated in the words of the claims: the argument arrays unchanged and every counter at zero
(`run_frame`), and besides the result array at `res` (`run_value`). The kernel as printed and the kernel as idealized are
the same program text, so one run serves both.
-/
module

public import proofs.«01_k».proof.Defs
public import proofs.«01_k».proof.Proof.Run
public import proofs.«01_k».proof.Proof.Gen.Kernel
public import proofs.«01_k».proof.Proof.Gen.ReferenceIdeal
public import Idealize.ShloMosaic.Lib.Claim
public import Idealize.ShloMosaic.Lib.Pipeline.ValueKit

@[expose] public section

set_option maxRecDepth 65536

noncomputable section

namespace Cert.RingAttn

open Cert.KernelIdeal Cert.KernelIdeal.Gen
open Idealize.ShloMosaic Idealize.ShloMosaic.TcCoe
open Idealize.SL Idealize.SL.Sem

variable {F : FTy → Type} [FloatOps F]

section
variable (m : (ℓ : Loc nD τ sig) → Buf (Elt F) ℓ) (ρ : Dev nD → PrngReg)

/-- The result array after the launch: the body's one output block, which is the whole array. -/
theorem finalA_3 (c : Dev nD) : finalA m c (3 : Fin 4) = res m c := by
  refine (dats m 0 c).arrAt_eq_of_after_last (3 : Fin 4) t0_0 (by decide +kernel) _ fun j => ?_
  blk_simp
  rfl

/-- Every run ends with the result array at `res` and the argument arrays unchanged. -/
theorem run_value : θ_run defs (onTc (τ := τ) (main (F := F))) ⟨m, fun _ => 0, ρ⟩ (fun r => (∀ c : Dev nD,
      r.2.mem ((c.tc : Thread nD τ).loc main_v1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run _ _ _).mono (fun r h => ⟨fun c => ?_, h.2⟩) (run_main m ρ)
  obtain ⟨hw, _, h2, h3⟩ := h.1 c
  exact ⟨(hw (3 : Fin 4)).trans (finalA_3 m c), (hw (0 : Fin 4)).trans (finalA_0 m c), (hw (1 : Fin 4)).trans (finalA_1 m c), h2, h3,
    (hw (2 : Fin 4)).trans (finalA_2 m c)⟩

/-- Every run ends with the argument arrays unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h.1 c).2, h.2⟩) (run_value m ρ)

end

/-- The kernel as idealized: its frame. -/
theorem frame_kernelIdeal : Cert.quiescent_KernelIdeal (hKernelIdeal := Cert.KernelIdeal.Gen.facts) :=
  fun m g _ => run_frame (F := Ideal) m g

/-- The kernel as printed and the kernel as idealized have the same body table. -/
theorem defs₀_eq : Cert.Kernel.defs₀ (F := Bits) = Cert.KernelIdeal.defs₀ (F := Bits) := by
  unfold Cert.Kernel.defs₀ Cert.KernelIdeal.defs₀
  refine congrArg (Defs.onTc (Λ := Cert.KernelIdeal.Λ₀)) (funext fun ℓ => funext fun a => ?_)
  match ℓ, a with
  | ⟨0, _⟩, (t, s) => rfl
  | ⟨_ + 1, h⟩, _ => exact absurd h (Nat.not_lt.2 (Nat.le_add_left _ _))

/-- And the same table with the pipeline's entries. -/
theorem defs_eq : Cert.Kernel.defs (F := Bits) = Cert.KernelIdeal.defs (F := Bits) :=
  congrArg (Pipeline.defs (Cert.KernelIdeal.pcfgs (F := Bits))) defs₀_eq

/-- The kernel as printed: its frame. -/
theorem frame_kernel : Cert.quiescent_Kernel (hKernel := Cert.Kernel.Gen.facts) := by
  intro m g _
  rw [defs_eq]
  exact run_frame (F := Bits) m g

/-- The reference: its frame. -/
theorem frame_reference : Cert.quiescent_ReferenceIdeal (hReferenceIdeal := Cert.ReferenceIdeal.Gen.facts) := by
  intro m g _
  hlo_run
  · exact fun _ => ⟨trivial, trivial, trivial, trivial, trivial⟩
  · exact sem_eq_zero_of_no_sems (sig := Cert.ReferenceIdeal.sig) (by decide) _

end Cert.RingAttn
-- ==== Proof.ValueMath.lean ====
/-
# Attention over the extended reals

One query attends to the keys that the mask allows it: the weights are the exponentials of the scores and are divided by
their sum (`attend`). Where the scores are real, it makes no difference whether the greatest score is subtracted first and
each weight is divided by the sum (`attend_shifted`), or the weighted sum is divided at the end. The values attended over may be
infinite.
-/
module

public import Idealize.ShloMosaic.PureOps
public import Idealize.ShloMosaic.PureOps.Ideal
public import Idealize.ShloMosaic.Lib.Pointwise

@[expose] public section

noncomputable section

namespace Cert.RingAttn

open Idealize.ShloMosaic

/-! ## Reals among the extended reals -/

/-- A sum of reals is a real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real that is not negative may be multiplied into a sum of any extended reals. -/
theorem sum_mul_real {ι : Type} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih, EReal.right_distrib_of_nonneg_of_ne_top (by exact_mod_cast hc) (EReal.coe_ne_top c)]

/-- Division by a real other than 0. -/
theorem div_real (x : EReal) (d : ℝ) (hd : d ≠ 0) : Ideal.div x (d : EReal) = x * ((d⁻¹ : ℝ) : EReal) := by
  unfold Ideal.div
  rw [if_neg (by exact_mod_cast hd), EReal.coe_inv]

theorem exp_real (r : ℝ) : Ideal.exp (r : EReal) = (Real.exp r : EReal) := rfl
theorem exp_bot : Ideal.exp (⊥ : EReal) = 0 := rfl

/-- The word of −∞ denotes −∞. -/
theorem ofBits_neg_inf : Ideal.ofBits .f32 0xFF800000#32 = (⊥ : EReal) := by
  show Ideal.ieee 8 23 0xFF800000#32 = ⊥
  unfold Ideal.ieee
  rw [if_pos (by decide), if_pos (by decide), if_pos (by decide)]
/-- The word of +∞ denotes +∞. -/
theorem ofBits_inf : Ideal.ofBits .f32 0x7F800000#32 = (⊤ : EReal) := by
  show Ideal.ieee 8 23 0x7F800000#32 = ⊤
  unfold Ideal.ieee
  rw [if_pos (by decide), if_pos (by decide), if_neg (by decide)]
theorem ofBits_neg_inf_bf16 : Ideal.ofBits .bf16 0xFF80#16 = (⊥ : EReal) := by
  show Ideal.ieee 8 7 0xFF80#16 = ⊥
  unfold Ideal.ieee
  rw [if_pos (by decide), if_pos (by decide), if_pos (by decide)]
theorem ofBits_inf_bf16 : Ideal.ofBits .bf16 0x7F80#16 = (⊤ : EReal) := by
  show Ideal.ieee 8 7 0x7F80#16 = ⊤
  unfold Ideal.ieee
  rw [if_pos (by decide), if_pos (by decide), if_neg (by decide)]

/-- The factor that the scores are scaled by is a real. -/
theorem ofBits_scale : ∃ r : ℝ, Ideal.ofBits .f32 0x3DB504F3#32 = (r : EReal) := by
  show ∃ r : ℝ, Ideal.ieee 8 23 0x3DB504F3#32 = (r : EReal)
  unfold Ideal.ieee
  rw [if_neg (by decide), if_neg (by decide)]
  exact ⟨_, rfl⟩

/-! ## One query -/

/-- The values `v` averaged by the exponentials of the scores `s`, over the keys that `A` allows. -/
def attend (s v : Fin 1024 → EReal) (A : Fin 1024 → Prop) [DecidablePred A] : EReal :=
  Ideal.div (∑ k, if A k then Ideal.exp (s k) * v k else 0) (∑ k, if A k then Ideal.exp (s k) else 0)

section
variable (s : Fin 1024 → ℝ) (v : Fin 1024 → EReal) (A : Fin 1024 → Prop) [DecidablePred A]

/-- The greatest of the allowed scores is a real. -/
theorem top_real (hA : ∃ k, A k) : ∃ r : ℝ, Finset.univ.fold max (⊥ : EReal) (fun k => if A k then (s k : EReal) else ⊥) = (r : EReal) := by
  obtain ⟨k₀, h₀⟩ := hA
  set M := Finset.univ.fold max (⊥ : EReal) (fun k => if A k then (s k : EReal) else ⊥) with hM
  have hlt : M < ⊤ := by
    rw [hM, Finset.fold_max_lt]
    refine ⟨bot_lt_top, fun k _ => ?_⟩
    split_ifs
    · exact EReal.coe_lt_top _
    · exact bot_lt_top
  have hge : (s k₀ : EReal) ≤ M := by
    rw [hM, Finset.le_fold_max]
    exact .inr ⟨k₀, Finset.mem_univ _, by rw [if_pos h₀]⟩
  have hbot : M ≠ ⊥ := fun h => by
    rw [h] at hge
    exact absurd (le_bot_iff.mp hge) (EReal.coe_ne_bot _)
  exact ⟨M.toReal, (EReal.coe_toReal hlt.ne hbot).symm⟩

/-- The weights as the reference makes them, the greatest score subtracted and each divided by their sum, give `attend`. -/
theorem attend_shifted (hA : ∃ k, A k) (M : EReal)
    (hM : M = Finset.univ.fold max (⊥ : EReal) (fun k => if A k then (s k : EReal) else ⊥)) :
    ∑ k, v k * Ideal.div (Ideal.exp ((if A k then (s k : EReal) else ⊥) - M))
        (∑ k', Ideal.exp ((if A k' then (s k' : EReal) else ⊥) - M))
      = attend (fun k => (s k : EReal)) v A := by
  obtain ⟨r, hr⟩ := top_real s A hA
  rw [hr] at hM
  subst hM
  have hw : ∀ k, Ideal.exp ((if A k then (s k : EReal) else ⊥) - (r : EReal)) = ((if A k then Real.exp (s k - r) else 0 : ℝ) : EReal) := by
    intro k
    split_ifs
    · rw [← EReal.coe_sub, exp_real]
    · rw [EReal.bot_sub, exp_bot]; rfl
  have h0 : ∀ k, (if A k then Ideal.exp (s k : EReal) else 0) = ((if A k then Real.exp (s k) else 0 : ℝ) : EReal) := by
    intro k
    split_ifs
    · rfl
    · rfl
  obtain ⟨k₀, hk₀⟩ := hA
  set D : ℝ := ∑ k, if A k then Real.exp (s k - r) else 0 with hD
  have hDpos : 0 < D := by
    rw [hD]
    refine Finset.sum_pos' (fun k _ => ?_) ⟨k₀, Finset.mem_univ _, ?_⟩
    · split_ifs
      · exact (Real.exp_pos _).le
      · exact le_rfl
    · rw [if_pos hk₀]; exact Real.exp_pos _
  have hD0 : (∑ k, if A k then Real.exp (s k) else 0 : ℝ) = D * Real.exp r := by
    rw [hD, Finset.sum_mul]
    refine Finset.sum_congr rfl fun k _ => ?_
    split_ifs
    · rw [← Real.exp_add, sub_add_cancel]
    · rw [zero_mul]
  have hP : 0 < D * Real.exp r := mul_pos hDpos (Real.exp_pos r)
  unfold attend
  simp only [hw, h0]
  rw [← coe_sum, ← coe_sum, ← hD, hD0, div_real _ _ hP.ne', ← sum_mul_real _ _ _ (inv_nonneg.mpr hP.le)]
  refine Finset.sum_congr rfl fun k _ => ?_
  rw [div_real _ _ hDpos.ne', ← EReal.coe_mul]
  split_ifs
  · rw [exp_real, mul_right_comm, ← EReal.coe_mul, mul_comm (v k)]
    congr 2
    rw [Real.exp_sub]
    field_simp
  · simp

end

/-- A score scaled before or after its product is summed. -/
theorem score_scale (a k : Fin 128 → ℝ) (c : ℝ) :
    ∑ d, ((a d : EReal) * (c : EReal)) * (k d : EReal) = (∑ d, (a d : EReal) * (k d : EReal)) * (c : EReal) := by
  simp only [← EReal.coe_mul, ← coe_sum]
  congr 1
  rw [Finset.sum_mul]
  exact Finset.sum_congr rfl fun d _ => by ring

/-! ## The scores -/

section
variable (x : (⟨3, ![4, 1024, 1024]⟩ : Shape).Idx → EReal) (wq : (⟨2, ![1024, 4096]⟩ : Shape).Idx → EReal)
  (k : (⟨4, ![4, 1024, 32, 128]⟩ : Shape).Idx → EReal)

/-- Entry `d` of query `i` of head `h` of device `b`, not scaled. -/
def queryAt (b : Fin 4) (h : Fin 32) (i : Fin 1024) (d : Fin 128) : EReal :=
  ∑ m : Fin 1024, x (ix3 b i m) * wq (ix2 (n0 := 1024) (n1 := 4096) m ⟨h.val * 128 + d.val, by omega⟩)
/-- The score of query `i` against key `j`. -/
def scoreAt (b : Fin 4) (h : Fin 32) (i j : Fin 1024) : EReal :=
  (∑ d : Fin 128, queryAt x wq b h i d * k (ix4 b j h d)) * Ideal.ofBits .f32 0x3DB504F3#32

variable (hx : ∀ i, ∃ r : ℝ, x i = (r : EReal)) (hw : ∀ i, ∃ r : ℝ, wq i = (r : EReal)) (hk : ∀ i, ∃ r : ℝ, k i = (r : EReal))
include hx hw

theorem queryAt_real (b : Fin 4) (h : Fin 32) (i : Fin 1024) (d : Fin 128) : ∃ r : ℝ, queryAt x wq b h i d = (r : EReal) := by
  choose xr hxr using hx
  choose wr hwr using hw
  unfold queryAt
  simp only [hxr, hwr, ← EReal.coe_mul, ← coe_sum]
  exact ⟨_, rfl⟩

include hk

/-- Of finite inputs the scores are real. -/
theorem scoreAt_real (b : Fin 4) (h : Fin 32) (i j : Fin 1024) : ∃ r : ℝ, scoreAt x wq k b h i j = (r : EReal) := by
  choose qr hqr using queryAt_real x wq hx hw
  choose kr hkr using hk
  obtain ⟨c, hc⟩ := ofBits_scale
  unfold scoreAt
  simp only [hqr, hkr, hc, ← EReal.coe_mul, ← coe_sum]
  exact ⟨_, rfl⟩

/-- The queries may be scaled instead of the scores. -/
theorem scoreAt_scaled (b : Fin 4) (h : Fin 32) (i j : Fin 1024) :
    ∑ d : Fin 128, (queryAt x wq b h i d * Ideal.ofBits .f32 0x3DB504F3#32) * k (ix4 b j h d) = scoreAt x wq k b h i j := by
  choose qr hqr using queryAt_real x wq hx hw
  choose kr hkr using hk
  obtain ⟨c, hc⟩ := ofBits_scale
  unfold scoreAt
  simp only [hqr, hkr, hc]
  exact score_scale _ _ c

end

/-! ## The mask -/

/-- The mask between blocks: `i` attends to itself, to block 0 and to the blocks that make a multiple of 3 with it. -/
def allowedB (i k : ℕ) : Prop := i = k ∨ k = 0 ∨ (i + k) % 3 = 0
instance (i k : ℕ) : Decidable (allowedB i k) := by unfold allowedB; infer_instance

/-- The mask between rows, by their blocks of 64. -/
def allowed (i k : Fin 1024) : Prop := allowedB (i.val / 64) (k.val / 64)
instance (i k : Fin 1024) : Decidable (allowed i k) := by unfold allowed; infer_instance

/-- Every query attends to some key. -/
theorem allowed_self (i : Fin 1024) : allowed i i := .inl rfl

/-! ## The result -/

section
variable (x : (⟨3, ![4, 1024, 1024]⟩ : Shape).Idx → EReal) (wq : (⟨2, ![1024, 4096]⟩ : Shape).Idx → EReal)
  (k v : (⟨4, ![4, 1024, 32, 128]⟩ : Shape).Idx → EReal) (wo : (⟨2, ![4096, 1024]⟩ : Shape).Idx → EReal)

/-- Entry `e` of the context of query `i` of head `h` of device `b`. -/
def ctxAt (b : Fin 4) (h : Fin 32) (i : Fin 1024) (e : Fin 128) : EReal :=
  attend (fun j => scoreAt x wq k b h i j) (fun j => v (ix4 b j h e)) (allowed i)
/-- Entry `n` of row `i` of device `b`'s result: the contexts of all heads, side by side, times the output weights. -/
def resultAt (b : Fin 4) (i n : Fin 1024) : EReal :=
  ∑ a : Fin 4096, ctxAt x wq k v b ⟨a.val / 128, by omega⟩ i ⟨a.val % 128, by omega⟩ * wo (ix2 a n)

end

end Cert.RingAttn

end
-- ==== Proof.ValueHead.lean ====
/-
# What one head computes

The kernel keeps the rows in an order in which the keys that a query may attend to stand together: the first 384 places
attend to each other; places 384–703 and 704–1023 each attend to the first 64, to the whole other group and to their own
block of 64. So a head, computed from slices, is the attention of each query (`headVal_attend`).
-/
module

public import proofs.«01_k».proof.Proof.Heads
public import proofs.«01_k».proof.Proof.Moves
public import proofs.«01_k».proof.Proof.ValueMath
public import Idealize.ShloMosaic.Lib.Pointwise

@[expose] public section

set_option maxRecDepth 65536

noncomputable section

namespace Cert.RingAttn

open Cert.KernelIdeal Cert.KernelIdeal.Gen
open Idealize.ShloMosaic

/-! ## The order of the places -/

theorem permRow_val (r : Fin 1024) : (permRow r).val = 64 * blk ⟨r.val / 64, by omega⟩ + r.val % 64 := rfl
theorem unRow_val (r : Fin 1024) : (unRow r).val = 64 * (unblk ⟨r.val / 64, by omega⟩).val + r.val % 64 := rfl

theorem permRow_blk (r : Fin 1024) : (permRow r).val / 64 = blk ⟨r.val / 64, by omega⟩ := by
  rw [permRow_val]; omega
theorem unRow_blk (r : Fin 1024) : (unRow r).val / 64 = (unblk ⟨r.val / 64, by omega⟩).val := by
  rw [unRow_val]; omega

/-- The row at the place of row `i` is row `i`. -/
theorem permRow_unRow (i : Fin 1024) : permRow (unRow i) = i := by
  apply Fin.ext
  have e : (⟨(unRow i).val / 64, by omega⟩ : Fin 16) = unblk ⟨i.val / 64, by omega⟩ := Fin.ext (unRow_blk i)
  rw [permRow_val, e, blk_unblk, unRow_val]
  show 64 * (i.val / 64) + _ = _
  omega
/-- The place of the row at place `p` is `p`. -/
theorem unRow_permRow (p : Fin 1024) : unRow (permRow p) = p := by
  apply Fin.ext
  have e : (⟨(permRow p).val / 64, by omega⟩ : Fin 16) = ⟨blk ⟨p.val / 64, by omega⟩, blk_lt _⟩ := Fin.ext (permRow_blk p)
  rw [unRow_val, e, unblk_blk, permRow_val]
  show 64 * (p.val / 64) + _ = _
  omega

/-- The places and the rows correspond one to one. -/
def permEquiv : Fin 1024 ≃ Fin 1024 := ⟨permRow, unRow, unRow_permRow, permRow_unRow⟩

/-- A sum over the rows is a sum over the places. -/
theorem sum_places (f : Fin 1024 → EReal) : ∑ k, f k = ∑ p, f (permRow p) := (Equiv.sum_comp permEquiv f).symm

/-! ## The mask over the places -/

theorem allowedB_A : ∀ a b : Fin 16, a.val < 6 → (allowedB (blk a) (blk b) ↔ b.val < 6) := by decide
theorem allowedB_B : ∀ a b : Fin 16, 6 ≤ a.val → a.val < 11 →
    (allowedB (blk a) (blk b) ↔ b.val = 0 ∨ 11 ≤ b.val ∨ b.val = a.val) := by decide
theorem allowedB_C : ∀ a b : Fin 16, 11 ≤ a.val →
    (allowedB (blk a) (blk b) ↔ b.val = 0 ∨ (6 ≤ b.val ∧ b.val < 11) ∨ b.val = a.val) := by decide

theorem allowed_places (r p : Fin 1024) :
    allowed (permRow r) (permRow p) ↔ allowedB (blk ⟨r.val / 64, by omega⟩) (blk ⟨p.val / 64, by omega⟩) := by
  unfold allowed
  rw [permRow_blk, permRow_blk]

theorem allowed_A (r p : Fin 1024) (h : r.val < 384) : allowed (permRow r) (permRow p) ↔ p.val < 384 := by
  rw [allowed_places, allowedB_A _ _ (show r.val / 64 < 6 by omega)]
  show p.val / 64 < 6 ↔ _
  omega
theorem allowed_B (r p : Fin 1024) (h : 384 ≤ r.val) (h' : r.val < 704) :
    allowed (permRow r) (permRow p) ↔ p.val < 64 ∨ 704 ≤ p.val ∨ p.val / 64 = r.val / 64 := by
  rw [allowed_places, allowedB_B _ _ (show 6 ≤ r.val / 64 by omega) (show r.val / 64 < 11 by omega)]
  show p.val / 64 = 0 ∨ 11 ≤ p.val / 64 ∨ p.val / 64 = r.val / 64 ↔ _
  omega
theorem allowed_C (r p : Fin 1024) (h : 704 ≤ r.val) :
    allowed (permRow r) (permRow p) ↔ p.val < 64 ∨ (384 ≤ p.val ∧ p.val < 704) ∨ p.val / 64 = r.val / 64 := by
  rw [allowed_places, allowedB_C _ _ (show 11 ≤ r.val / 64 by omega)]
  show p.val / 64 = 0 ∨ (6 ≤ p.val / 64 ∧ p.val / 64 < 11) ∨ p.val / 64 = r.val / 64 ↔ _
  omega

/-! ## Sums over slices -/

/-- A sum over a slice is a sum over all places, 0 off the slice. -/
theorem sum_slice (f : Fin 1024 → EReal) (a n : ℕ) (h : a + n ≤ 1024) (g : Fin n → EReal)
    (hg : ∀ x : Fin n, g x = f ⟨a + x.val, by omega⟩) :
    ∑ x, g x = ∑ p : Fin 1024, if a ≤ p.val ∧ p.val < a + n then f p else 0 := by
  rw [← Finset.sum_filter]
  refine Finset.sum_bij (fun x _ => (⟨a + x.val, by omega⟩ : Fin 1024)) (fun x _ => ?_) (fun x _ y _ hxy => ?_) (fun p hp => ?_)
    (fun x _ => hg x)
  · exact Finset.mem_filter.mpr ⟨Finset.mem_univ _, by show a ≤ a + x.val; omega, by show a + x.val < a + n; omega⟩
  · have := congrArg Fin.val hxy
    exact Fin.ext (by simpa using this)
  · obtain ⟨-, h₁, h₂⟩ := Finset.mem_filter.mp hp
    exact ⟨⟨p.val - a, by omega⟩, Finset.mem_univ _, Fin.ext (by show a + (p.val - a) = p.val; omega)⟩

section
variable (f : Fin 1024 → EReal) (r : Fin 1024)

/-- The sum of `f` over the places that place `r` attends to. -/
def over : EReal := ∑ p, if allowed (permRow r) (permRow p) then f p else 0

theorem over_A (h : r.val < 384) (g : Fin 384 → EReal) (hg : ∀ x : Fin 384, g x = f ⟨x.val, by omega⟩) : ∑ x, g x = over f r := by
  rw [sum_slice f 0 384 (by omega) g (fun x => by rw [hg]; congr 2; omega)]
  refine Finset.sum_congr rfl fun p _ => ?_
  simp only [allowed_A r p h]
  exact if_congr (by omega) rfl rfl

theorem over_three (a b : ℕ) (n : ℕ) (ha : a + n ≤ 1024) (hb : b + 64 ≤ 1024)
    (hall : ∀ p : Fin 1024, allowed (permRow r) (permRow p) ↔ p.val < 64 ∨ (a ≤ p.val ∧ p.val < a + n) ∨ (b ≤ p.val ∧ p.val < b + 64))
    (h1 : 64 ≤ a) (h2 : 64 ≤ b) (h3 : b + 64 ≤ a ∨ a + n ≤ b)
    (g₀ : Fin 64 → EReal) (g₁ : Fin n → EReal) (g₂ : Fin 64 → EReal)
    (hg₀ : ∀ x : Fin 64, g₀ x = f ⟨x.val, by omega⟩) (hg₁ : ∀ x : Fin n, g₁ x = f ⟨a + x.val, by omega⟩)
    (hg₂ : ∀ x : Fin 64, g₂ x = f ⟨b + x.val, by omega⟩) : ∑ x, g₀ x + ∑ x, g₁ x + ∑ x, g₂ x = over f r := by
  rw [sum_slice f 0 64 (by omega) g₀ (fun x => by rw [hg₀]; congr 2; omega), sum_slice f a n ha g₁ hg₁, sum_slice f b 64 hb g₂ hg₂,
    ← Finset.sum_add_distrib, ← Finset.sum_add_distrib]
  refine Finset.sum_congr rfl fun p _ => ?_
  simp only [hall p]
  by_cases c0 : p.val < 64
  · rw [if_pos ⟨by omega, by omega⟩, if_neg (by omega), if_neg (by omega), if_pos (.inl c0), add_zero, add_zero]
  · rw [if_neg (by omega), zero_add]
    by_cases c1 : a ≤ p.val ∧ p.val < a + n
    · rw [if_pos c1, if_neg (by omega), if_pos (.inr (.inl c1)), add_zero]
    · rw [if_neg c1, zero_add]
      exact if_congr (by omega) rfl rfl

theorem over_B (h : 384 ≤ r.val) (h' : r.val < 704) (g₀ : Fin 64 → EReal) (g₁ : Fin 320 → EReal) (g₂ : Fin 64 → EReal)
    (hg₀ : ∀ x : Fin 64, g₀ x = f ⟨x.val, by omega⟩) (hg₁ : ∀ x : Fin 320, g₁ x = f ⟨704 + x.val, by omega⟩)
    (hg₂ : ∀ x : Fin 64, g₂ x = f ⟨64 * (r.val / 64) + x.val, by omega⟩) : ∑ x, g₀ x + ∑ x, g₁ x + ∑ x, g₂ x = over f r :=
  over_three f r 704 (64 * (r.val / 64)) 320 (by omega) (by omega)
    (fun p => (allowed_B r p h h').trans (by omega)) (by omega) (by omega) (by omega) g₀ g₁ g₂ hg₀ hg₁ hg₂

theorem over_C (h : 704 ≤ r.val) (g₀ : Fin 64 → EReal) (g₁ : Fin 320 → EReal) (g₂ : Fin 64 → EReal)
    (hg₀ : ∀ x : Fin 64, g₀ x = f ⟨x.val, by omega⟩) (hg₁ : ∀ x : Fin 320, g₁ x = f ⟨384 + x.val, by omega⟩)
    (hg₂ : ∀ x : Fin 64, g₂ x = f ⟨64 * (r.val / 64) + x.val, by omega⟩) : ∑ x, g₀ x + ∑ x, g₁ x + ∑ x, g₂ x = over f r :=
  over_three f r 384 (64 * (r.val / 64)) 320 (by omega) (by omega)
    (fun p => (allowed_C r p h).trans (by omega)) (by omega) (by omega) (by omega) g₀ g₁ g₂ hg₀ hg₁ hg₂

end

/-! ## One head -/

section
variable (q : Vec Ideal S1024x128 .bf16) (kk vv : Vec Ideal S1x1024x128 .f32)

/-- The score of the query at place `r` against the key at place `p`. -/
def placeScore (r p : Fin 1024) : EReal := ∑ d : Fin 128, q (ix2 r d) * kk (ix3 0 p d)
/-- The weight of the key at place `p` for the query at place `r`. -/
def placeW (r p : Fin 1024) : EReal := Ideal.exp (placeScore q kk r p)

/-- What a head holds at a place: the weighted values over the places attended to, divided by the weights. -/
theorem headVal_over (r : Fin 1024) (e : Fin 128) :
    headVal q kk vv (ix2 r e)
      = Ideal.div (over (fun p => placeW q kk r p * vv (ix3 0 p e)) r) (over (fun p => placeW q kk r p) r) := by
  unfold headVal
  pointwise [k0_pay98, k0_pay6, k0_pay5, k0_pay4, k0_pay12, k0_pay13, k0_pay17, k0_pay18, k0_pay10, k0_pay11, k0_pay15, k0_pay16, k0_pay7,
    k0_pay8, k0_pay9, k0_pay14, k0_pay19, k0_pay20, k0_pay2, k0_pay3]
  have hr := r.isLt
  by_cases hA : r.val < 384
  · rw [dif_pos hA]
    refine congrArg₂ Ideal.div (over_A _ r hA _ fun x => rfl) (over_A _ r hA _ fun x => rfl)
  · rw [dif_neg hA]
    by_cases hB : r.val - 384 < 320
    · rw [dif_pos hB]
      have e1 : 384 + (r.val - 384) = r.val := by omega
      have e2 : 384 + ((r.val - 384) / 64 * 64 + (r.val - 384) % 64) = r.val := by omega
      have e3 : ∀ x, 384 + ((r.val - 384) / 64 * 64 + x) = 64 * (r.val / 64) + x := by intro x; omega
      simp only [e1, e2, e3]
      refine congrArg₂ Ideal.div (over_B _ r (by omega) (by omega) _ _ _ (fun x => rfl) (fun x => rfl) fun x => rfl)
        (over_B _ r (by omega) (by omega) _ _ _ (fun x => rfl) (fun x => rfl) fun x => rfl)
    · rw [dif_neg hB]
      have e1 : 704 + (r.val - 384 - 320) = r.val := by omega
      have e2 : 384 + ((320 + (r.val - 384 - 320)) / 64 * 64 + (320 + (r.val - 384 - 320)) % 64) = r.val := by omega
      have e3 : ∀ x, 384 + ((320 + (r.val - 384 - 320)) / 64 * 64 + x) = 64 * (r.val / 64) + x := by intro x; omega
      simp only [e1, e2, e3]
      refine congrArg₂ Ideal.div (over_C _ r (by omega) _ _ _ (fun x => rfl) (fun x => rfl) fun x => rfl)
        (over_C _ r (by omega) _ _ _ (fun x => rfl) (fun x => rfl) fun x => rfl)

/-- A head is the attention of each query, where the scores and the values at the places are those of the rows. -/
theorem headVal_attend (s v : Fin 1024 → EReal) (i : Fin 1024) (e : Fin 128)
    (hs : ∀ p, placeScore q kk (unRow i) p = s (permRow p)) (hv : ∀ p, vv (ix3 0 p e) = v (permRow p)) :
    headVal q kk vv (ix2 (unRow i) e) = attend s v (allowed i) := by
  rw [headVal_over]
  unfold attend over placeW
  simp only [hs, hv, permRow_unRow]
  rw [sum_places (fun k => if allowed i k then Ideal.exp (s k) * v k else 0), sum_places (fun k => if allowed i k then Ideal.exp (s k) else 0)]

end

end Cert.RingAttn

end
-- ==== Proof.ValueKernel.lean ====
/-
# What the kernel computes

A device's part of the result, in the words of the whole arrays (`outAt_result`). The weights come round the ring, so stage
`j` of device `c` computes the heads of device `c − j`; the columns of the context and the rows of the gathered output weights
stand in the order in which they came, and their product is a sum over the same 4096 columns in another order.
-/
module

public import proofs.«01_k».proof.Proof.Body
public import proofs.«01_k».proof.Proof.ValueHead
public import Idealize.ShloMosaic.Lib.Pointwise

@[expose] public section

set_option maxRecDepth 65536

noncomputable section

namespace Cert.RingAttn

open Cert.KernelIdeal Cert.KernelIdeal.Gen
open Idealize.ShloMosaic

/-! ## The ring -/

/-- Stage `j` has the query weights of device `c − j`. -/
theorem og_false : ∀ (j : Fin 4) (c : Dev nD), og false j.val c = (⟨srcOf j.val c, srcOf_lt _ _⟩ : Dev nD) := by decide
/-- The output weights of stage `j` are those of the same device, come the other way. -/
theorem og_true : ∀ (j : Fin 4) (c : Dev nD), og true ((4 - j.val) % 4) c = (⟨srcOf j.val c, srcOf_lt _ _⟩ : Dev nD) := by decide

/-- The column of the whole context that stands at column `a` of device `c`'s. -/
def rot (c : Dev nD) (a : Fin 4096) : Fin 4096 :=
  ⟨srcOf (a.val / 1024) c * 1024 + a.val % 1024, by have := srcOf_lt (a.val / 1024) c; omega⟩

theorem rot_rot (c : Dev nD) : Function.Involutive (rot c) := by
  intro a
  have hc : c.val < 4 := c.isLt
  have ha := a.isLt
  apply Fin.ext
  show (c.val + 4 - ((c.val + 4 - a.val / 1024) % 4 * 1024 + a.val % 1024) / 1024) % 4 * 1024
    + ((c.val + 4 - a.val / 1024) % 4 * 1024 + a.val % 1024) % 1024 = a.val
  omega

/-- A sum over the columns is a sum over them in the device's order. -/
theorem sum_rot (c : Dev nD) (f : Fin 4096 → EReal) : ∑ a, f a = ∑ a, f (rot c a) :=
  (Equiv.sum_comp (rot_rot c).toPerm f).symm

/-- An index of a device's quarter is an index of the whole. -/
theorem quarter_lt (d : Dev nD) (k : Fin 1024) : d.val * 1024 + k.val < 4096 := by
  have : d.val < 4 := d.isLt
  omega

section
variable (X : (⟨3, ![4, 1024, 1024]⟩ : Shape).Idx → EReal) (Wq : S1024x4096.Idx → EReal) (K V : S4x1024x32x128.Idx → EReal) (Wo : S4096x1024.Idx → EReal)
  (c : Dev nD) (x0 : S1x1024x1024.Idx → Elt Ideal .bf16) (ww : Dev nD → Bool → S1024x1024.Idx → Elt Ideal .bf16)
  (fa : Bool → S4x1024x32x128.Idx → Elt Ideal .f32)
  (h0 : ∀ i k : Fin 1024, (x0 (ix3 (n0 := 1) 0 i k) : EReal) = X (ix3 (n0 := 4) c i k))
  (hq : ∀ (d : Dev nD) (i k : Fin 1024), (ww d false (ix2 i k) : EReal) = Wq (ix2 (n0 := 1024) (n1 := 4096) i ⟨d.val * 1024 + k.val, quarter_lt d k⟩))
  (ho : ∀ (d : Dev nD) (i k : Fin 1024), (ww d true (ix2 i k) : EReal) = Wo (ix2 (n0 := 4096) (n1 := 1024) ⟨d.val * 1024 + i.val, quarter_lt d i⟩ k))
  (hK : fa false = K) (hV : fa true = V)

/-! ## The queries -/

include h0 hq

/-- The queries of stage `j`, at the places. -/
theorem qjF_apply (j t : ℕ) (hj : j < 4) (ht : t < 8) (r : Fin 1024) (d : Fin 128) :
    (qjF c x0 ww ⟨j, hj⟩ (ix2 (n0 := 1024) (n1 := 1024) r ⟨128 * t + d.val, by omega⟩) : EReal)
      = queryAt X Wq c (hd j c t ht) (permRow r) d * Ideal.ofBits .f32 0x3DB504F3#32 := by
  have e : (qjF c x0 ww ⟨j, hj⟩ (ix2 (n0 := 1024) (n1 := 1024) r ⟨128 * t + d.val, by omega⟩) : EReal)
      = (∑ a : Fin 1024, x0 (ix3 (n0 := 1) 0 (permRow r) a) * ww (og false j c) false (ix2 (n0 := 1024) (n1 := 1024) a ⟨128 * t + d.val, by omega⟩))
        * Ideal.ofBits .f32 0x3DB504F3#32 := by
    unfold qjF permF
    pointwise [k0_pay100]
    rfl
  rw [e]
  have ho := og_false ⟨j, hj⟩ c
  dsimp only at ho
  rw [ho]
  unfold queryAt
  refine congrArg (· * _) (Finset.sum_congr rfl fun a _ => ?_)
  rw [h0, hq]
  refine congrArg (fun z => X _ * Wq (ix2 a z)) (Fin.ext ?_)
  show srcOf j c * 1024 + (128 * t + d.val) = (8 * srcOf j c + t) * 128 + d.val
  omega

/-! ## The context -/

variable (hXr : ∀ i, ∃ r : ℝ, X i = (r : EReal)) (hWr : ∀ i, ∃ r : ℝ, Wq i = (r : EReal)) (hKr : ∀ i, ∃ r : ℝ, K i = (r : EReal))
include hK hV hXr hWr hKr

/-- A head of stage `j`, at the place of row `i`. -/
theorem headOf_apply (j t : ℕ) (hj : j < 4) (ht : t < 8) (i : Fin 1024) (e : Fin 128) :
    (headOf c fa (qjF c x0 ww) ⟨j, hj⟩ ⟨t, ht⟩ (ix2 (unRow i) e) : EReal) = ctxAt X Wq K V c (hd j c t ht) i e := by
  unfold headOf ctxAt
  refine headVal_attend _ _ _ _ _ i e (fun p => ?_) (fun p => ?_)
  · rw [← scoreAt_scaled X Wq K hXr hWr hKr]
    unfold placeScore
    refine Finset.sum_congr rfl fun d _ => ?_
    refine congrArg₂ (fun a b : EReal => a * b) ?_ ?_
    · have h := qjF_apply X Wq c x0 ww h0 hq j t hj ht (unRow i) d
      rw [permRow_unRow] at h
      exact h
    · rw [hK]; rfl
  · rw [hV]; rfl

include ho

/-- The device's part of the result is its rows of the attention times the output weights. -/
theorem outAt_result (i n : Fin 1024) : (outAt c x0 ww fa (ix3 (n0 := 1) 0 i n) : EReal) = resultAt X Wq K V Wo c i n := by
  have e : (outAt c x0 ww fa (ix3 (n0 := 1) 0 i n) : EReal)
      = ∑ a : Fin 4096, ctxAll c fa (qjF c x0 ww) (ix2 (unRow i) a) * gathF c ww (ix2 (n0 := 4096) (n1 := 1024) a n) := by
    unfold outAt outF accF
    pointwise [k0_pay108]
  rw [e]
  unfold resultAt
  rw [sum_rot c (fun a => ctxAt X Wq K V c ⟨a.val / 128, by omega⟩ i ⟨a.val % 128, by omega⟩ * Wo (ix2 a n))]
  refine Finset.sum_congr rfl fun a _ => ?_
  have hs := srcOf_lt (a.val / 1024) c
  refine congrArg₂ (fun a b : EReal => a * b) ?_ ?_
  · refine (headOf_apply X Wq K V c x0 ww fa h0 hq hK hV hXr hWr hKr (a.val / 1024) (a.val % 1024 / 128) (by omega) (by omega) i ⟨a.val % 128, by omega⟩).trans ?_
    refine congrArg₂ (fun h e => ctxAt X Wq K V c h i e) (Fin.ext ?_) (Fin.ext ?_)
    · show 8 * srcOf (a.val / 1024) c + a.val % 1024 / 128 = (srcOf (a.val / 1024) c * 1024 + a.val % 1024) / 128
      omega
    · show a.val % 128 = (srcOf (a.val / 1024) c * 1024 + a.val % 1024) % 128
      omega
  · show (ww (og true ((4 - a.val / 1024) % 4) c) true (ix2 (n0 := 1024) (n1 := 1024) ⟨a.val % 1024, by omega⟩ n) : EReal) = _
    have hg := og_true ⟨a.val / 1024, by omega⟩ c
    dsimp only at hg
    rw [hg, ho]
    rfl

end

end Cert.RingAttn

end
-- ==== Proof.ValueRef.lean ====
/-
# What the reference computes

The reference's operations, composed (`refOut`): the queries, the mask, the scores, the weights, the context and the
product with the output weights.
-/
module

public import proofs.«01_k».proof.Defs
public import proofs.«01_k».proof.Proof.Gen.ReferenceIdeal
public import proofs.«01_k».proof.Proof.ValueMath
public import Idealize.ShloMosaic.Lib.Pointwise

@[expose] public section

set_option maxRecDepth 65536

noncomputable section

namespace Cert.RingAttn.Ref

open Cert.ReferenceIdeal Cert.ReferenceIdeal.Gen
open Idealize.ShloMosaic

/-! ## The operations, composed -/

/-- Each word of `a` divided by `b`, rounded down. -/
def floorDiv (a : IVec S1024 32) (b : IVec S_ 32) : IVec S1024 32 :=
  select (andi (cmpi .ne (signi a) (broadcastInDim S1024 ![] bcast_S_S1024 (signi b)))
      (cmpi .ne (Host.remsi a (broadcastInDim S1024 ![] bcast_S_S1024 b)) (broadcastInDim S1024 ![] bcast_S_S1024 (constantI S_ 32 0#32))))
    (subi (Host.divsi a (broadcastInDim S1024 ![] bcast_S_S1024 b)) (broadcastInDim S1024 ![] bcast_S_S1024 (constantI S_ 32 1#32)))
    (Host.divsi a (broadcastInDim S1024 ![] bcast_S_S1024 b))

/-- The divisor of a remainder: 1 in place of 0. -/
def remBy (b : IVec S_ 32) : IVec S_ 32 := select (cmpi .eq b (constantI S_ 32 0#32)) (constantI S_ 32 1#32) b
/-- The remainder with the sign of the dividend. -/
def rem0 (a : IVec S1024x1024 32) (b : IVec S_ 32) : IVec S1024x1024 32 :=
  Host.remsi a (broadcastInDim S1024x1024 ![] bcast_S_S1024x1024 (remBy b))
/-- The remainder of each word of `a` by `b`, of the sign of `b`. -/
def remainder (a : IVec S1024x1024 32) (b : IVec S_ 32) : IVec S1024x1024 32 :=
  select
    (andi (cmpi .ne (cmpi .slt (rem0 a b) (broadcastInDim S1024x1024 ![] bcast_S_S1024x1024 (constantI S_ 32 0#32)))
        (broadcastInDim S1024x1024 ![] bcast_S_S1024x1024 (cmpi .slt (remBy b) (constantI S_ 32 0#32))))
      (cmpi .ne (rem0 a b) (broadcastInDim S1024x1024 ![] bcast_S_S1024x1024 (constantI S_ 32 0#32))))
    (addi (rem0 a b) (broadcastInDim S1024x1024 ![] bcast_S_S1024x1024 (remBy b))) (rem0 a b)

/-- The number of the block of 64 rows that a row stands in. -/
def blockNo : IVec S1024 32 := floorDiv (iotaInDim S1024 32 0) (constantI S_ 32 64#32)
/-- The blocks of the queries, along the rows. -/
def qBlk : IVec S1024x1024 32 :=
  broadcastInDim S1024x1024 ![0, 1] bcast_S1024x1_S1024x1024_0_1 (broadcastInDim S1024x1 ![0] bcast_S1024_S1024x1_0 blockNo)
/-- The blocks of the keys, as one row. -/
def kRow : IVec S1x1024 32 := broadcastInDim S1x1024 ![1] bcast_S1024_S1x1024_1 blockNo
/-- The blocks of the keys, along the columns. -/
def kBlk : IVec S1024x1024 32 := broadcastInDim S1024x1024 ![0, 1] bcast_S1x1024_S1024x1024_0_1 kRow

/-- The mask: which key each query attends to. -/
def mask : IVec S1024x1024 1 :=
  ori (ori (cmpi .eq qBlk kBlk)
      (broadcastInDim S1024x1024 ![0, 1] bcast_S1x1024_S1024x1024_0_1
        (cmpi .eq kRow (broadcastInDim S1x1024 ![] bcast_S_S1x1024 (constantI S_ 32 0#32)))))
    (cmpi .eq (remainder (addi qBlk kBlk) (constantI S_ 32 3#32))
      (broadcastInDim S1024x1024 ![] bcast_S_S1024x1024 (constantI S_ 32 0#32)))

/-- Whether a query attends to any key. -/
def keep : IVec S1x1x1024x1 1 :=
  broadcastInDim S1x1x1024x1 ![2] bcast_S1024_S1x1x1024x1_2
    (Host.reduce IntOp.ori mask (constantI S_ 1 0#1) reducesTo_S1024x1024_S1024_d1 h_S_)

/-- The queries by head. -/
def queries (x : FVec Ideal S4x1024x1024 .bf16) (wq : FVec Ideal S1024x4096 .bf16) : FVec Ideal S4x1024x32x128 .f32 :=
  fun i => shapeCast S4x1024x32x128 (Host.dotGeneral dot_S4x1024x1024_S1024x4096_S4x1024x4096_2_0_01_1_n_n none
    (extf .f32 x bitsLt_bf16_f32) (extf .f32 wq bitsLt_bf16_f32)) shapeCasts_S4x1024x4096_S4x1024x32x128 i

section
variable (q k : FVec Ideal S4x1024x32x128 .f32)

/-- The scores, at −∞ where masked. -/
def scores : FVec Ideal S4x32x1024x1024 .f32 :=
  select (broadcastInDim S4x32x1024x1024 ![0, 1, 2, 3] bcast_S1x1x1024x1024_S4x32x1024x1024_0_1_2_3
      (broadcastInDim S1x1x1024x1024 ![2, 3] bcast_S1024x1024_S1x1x1024x1024_2_3 mask))
    (mulf (Host.dotGeneral dot_S4x1024x32x128_S4x1024x32x128_S4x32x1024x1024_3_3_1_1_02_02 none q k)
      (broadcastInDim S4x32x1024x1024 ![] bcast_S_S4x32x1024x1024 (constant S_ .f32 0x3DB504F3#32)))
    (broadcastInDim S4x32x1024x1024 ![] bcast_S_S4x32x1024x1024 (constant S_ .f32 0xFF800000#32))
end

/-- The greatest score of each query. -/
def top (s : FVec Ideal S4x32x1024x1024 .f32) : FVec Ideal S4x32x1024 .f32 :=
  Host.reduce FloatOps.maximumf s (constant S_ .f32 0xFF800000#32) reducesTo_S4x32x1024x1024_S4x32x1024_d3 h_S_

/-- The exponentials of the scores less the greatest. -/
def expw (s : FVec Ideal S4x32x1024x1024 .f32) : FVec Ideal S4x32x1024x1024 .f32 :=
  Host.exp (subf s (broadcastInDim S4x32x1024x1024 ![0, 1, 2, 3] bcast_S4x32x1024x1_S4x32x1024x1024_0_1_2_3
    (broadcastInDim S4x32x1024x1 ![0, 1, 2] bcast_S4x32x1024_S4x32x1024x1_0_1_2 (top s))))

/-- The sum of each query's exponentials, or 1 where it attends to no key. -/
def total (w : FVec Ideal S4x32x1024x1024 .f32) : FVec Ideal S4x32x1024x1 .f32 :=
  select (broadcastInDim S4x32x1024x1 ![0, 1, 2, 3] bcast_S1x1x1024x1_S4x32x1024x1_0_1_2_3 keep)
    (broadcastInDim S4x32x1024x1 ![0, 1, 2] bcast_S4x32x1024_S4x32x1024x1_0_1_2
      (Host.reduceAdd w (constant S_ .f32 0x00000000#32) reducesTo_S4x32x1024x1024_S4x32x1024_d3 h_S_))
    (broadcastInDim S4x32x1024x1 ![] bcast_S_S4x32x1024x1 (constant S_ .f32 0x3F800000#32))

/-- The weights: the exponentials over their sum, or 0 where a query attends to no key. -/
def weights (w : FVec Ideal S4x32x1024x1024 .f32) : FVec Ideal S4x32x1024x1024 .f32 :=
  select (broadcastInDim S4x32x1024x1024 ![0, 1, 2, 3] bcast_S1x1x1024x1_S4x32x1024x1024_0_1_2_3 keep)
    (Host.divf w (broadcastInDim S4x32x1024x1024 ![0, 1, 2, 3] bcast_S4x32x1024x1_S4x32x1024x1024_0_1_2_3 (total w)))
    (broadcastInDim S4x32x1024x1024 ![] bcast_S_S4x32x1024x1024 (constant S_ .f32 0x00000000#32))

/-- The context of every head, side by side. -/
def context (p : FVec Ideal S4x32x1024x1024 .f32) (v : FVec Ideal S4x1024x32x128 .f32) : FVec Ideal S4x1024x4096 .f32 :=
  fun i => shapeCast S4x1024x4096 (transpose S4x1024x32x128 [0, 3, 1, 2]
    (Host.dotGeneral dot_S4x1024x32x128_S4x32x1024x1024_S4x32x128x1024_1_3_3_2_02_01 none v p)
    transposes_S4x32x128x1024_S4x1024x32x128_0_3_1_2) shapeCasts_S4x1024x32x128_S4x1024x4096 i

/-- The reference's result. -/
def refOut (x : FVec Ideal S4x1024x1024 .bf16) (wq : FVec Ideal S1024x4096 .bf16) (k v : FVec Ideal S4x1024x32x128 .f32)
    (wo : FVec Ideal S4096x1024 .bf16) : FVec Ideal S4x1024x1024 .f32 :=
  Host.dotGeneral dot_S4x1024x4096_S4096x1024_S4x1024x1024_2_0_01_1_n_n none
    (context (weights (expw (scores (queries x wq) k))) v) (extf .f32 wo bitsLt_bf16_f32)

/-! ## The operations, read at an index -/

theorem blockNo_apply (i : Fin 1024) : blockNo (ix1 i) = BitVec.ofNat 32 (i.val / 64) := by
  pointwise [blockNo, floorDiv]
  revert i
  decide +kernel

/-- The mask's word for blocks `a` and `b`. -/
def maskW (a b : BitVec 32) : BitVec 1 :=
  IntOp.ori (IntOp.ori (IntOp.cmpi .eq a b) (IntOp.cmpi .eq b 0#32))
    (IntOp.cmpi .eq
      (Scalar.select
        (IntOp.andi
          (IntOp.cmpi .ne
            (IntOp.cmpi .slt (IntOp.remsi .host (IntOp.addi a b) (Scalar.select (IntOp.cmpi .eq 3#32 0#32) 1#32 3#32)) 0#32)
            (IntOp.cmpi .slt (Scalar.select (IntOp.cmpi .eq 3#32 0#32) 1#32 3#32) 0#32))
          (IntOp.cmpi .ne (IntOp.remsi .host (IntOp.addi a b) (Scalar.select (IntOp.cmpi .eq 3#32 0#32) 1#32 3#32)) 0#32))
        (IntOp.addi (IntOp.remsi .host (IntOp.addi a b) (Scalar.select (IntOp.cmpi .eq 3#32 0#32) 1#32 3#32))
          (Scalar.select (IntOp.cmpi .eq 3#32 0#32) 1#32 3#32))
        (IntOp.remsi .host (IntOp.addi a b) (Scalar.select (IntOp.cmpi .eq 3#32 0#32) 1#32 3#32)))
      0#32)

theorem maskW_eq : ∀ a b : Fin 16, maskW (BitVec.ofNat 32 a.val) (BitVec.ofNat 32 b.val) = if allowedB a.val b.val then 1#1 else 0#1 := by
  decide +kernel

/-- The mask is 1 where the query may attend to the key. -/
theorem mask_apply (i k : Fin 1024) : mask (ix2 i k) = if allowed i k then 1#1 else 0#1 := by
  have h : mask (ix2 i k) = maskW (blockNo (ix1 i)) (blockNo (ix1 k)) := by
    unfold maskW
    pointwise [mask, kRow, qBlk, kBlk, remainder, rem0, remBy]
  rw [h, blockNo_apply, blockNo_apply]
  exact maskW_eq ⟨i.val / 64, by omega⟩ ⟨k.val / 64, by omega⟩

theorem fold_ori_one {n : ℕ} (f : Fin n → BitVec 1) (i : Fin n) (h : f i = 1#1) : Finset.univ.fold IntOp.ori (0#1) f = 1#1 := by
  rw [← Finset.insert_erase (Finset.mem_univ i), Finset.fold_insert (Finset.notMem_erase i _), h]
  generalize Finset.fold IntOp.ori (0#1) f _ = z
  revert z
  decide

/-- Every query attends to some key. -/
theorem keep_apply (i : Fin 1024) : keep (ix4 0 0 i 0) = 1#1 := by
  have h : keep (ix4 0 0 i 0) = Finset.univ.fold IntOp.ori (0#1) (fun x => mask (ix2 i x)) := by
    pointwise [keep]
  rw [h]
  exact fold_ori_one _ i (by rw [mask_apply, if_pos (allowed_self i)])

section
variable (x : FVec Ideal S4x1024x1024 .bf16) (wq : FVec Ideal S1024x4096 .bf16) (k v : FVec Ideal S4x1024x32x128 .f32)
  (wo : FVec Ideal S4096x1024 .bf16)

theorem queries_apply (b : Fin 4) (h : Fin 32) (i : Fin 1024) (d : Fin 128) : queries x wq (ix4 b i h d) = queryAt x wq b h i d := by
  unfold queryAt
  pointwise [queries]

theorem scores_apply (b : Fin 4) (h : Fin 32) (i j : Fin 1024) :
    scores (queries x wq) k (ix4 b h i j) = if allowed i j then scoreAt x wq k b h i j else ⊥ := by
  have e : scores (queries x wq) k (ix4 b h i j)
      = Scalar.select (mask (ix2 i j)) ((∑ d : Fin 128, queries x wq (ix4 b i h d) * k (ix4 b j h d)) * Ideal.ofBits .f32 0x3DB504F3#32)
          (Ideal.ofBits .f32 0xFF800000#32) := by
    pointwise [scores]
  rw [e, mask_apply, ofBits_neg_inf]
  simp only [queries_apply]
  split_ifs
  · rfl
  · rfl

theorem top_apply (s : FVec Ideal S4x32x1024x1024 .f32) (b : Fin 4) (h : Fin 32) (i : Fin 1024) :
    top s (ix3 b h i) = Finset.univ.fold max (⊥ : EReal) (fun j => s (ix4 b h i j)) := by
  rw [← ofBits_neg_inf]
  pointwise [top]

theorem weights_apply (s : FVec Ideal S4x32x1024x1024 .f32) (b : Fin 4) (h : Fin 32) (i j : Fin 1024) :
    weights (expw s) (ix4 b h i j)
      = Ideal.div (Ideal.exp (s (ix4 b h i j) - top s (ix3 b h i))) (∑ j' : Fin 1024, Ideal.exp (s (ix4 b h i j') - top s (ix3 b h i))) := by
  have e : ∀ j, expw s (ix4 b h i j) = Ideal.exp (s (ix4 b h i j) - top s (ix3 b h i)) := by
    intro j
    pointwise [expw]
  have e1 : total (expw s) (ix4 b h i 0) = Scalar.select (keep (ix4 0 0 i 0)) (∑ j' : Fin 1024, expw s (ix4 b h i j')) 1 := by
    pointwise [total]
  have e2 : weights (expw s) (ix4 b h i j)
      = Scalar.select (keep (ix4 0 0 i 0)) (Ideal.div (expw s (ix4 b h i j)) (total (expw s) (ix4 b h i 0))) 0 := by
    pointwise [weights]
  rw [e2, e1, keep_apply]
  simp only [e]
  rfl

theorem context_apply (p : FVec Ideal S4x32x1024x1024 .f32) (b : Fin 4) (i : Fin 1024) (a : Fin 4096) :
    context p v (ix3 b i a) = ∑ j : Fin 1024, v (ix4 (n0 := 4) (n1 := 1024) (n2 := 32) (n3 := 128) b j ⟨a.val / 128, by omega⟩ ⟨a.val % 128, by omega⟩)
      * p (ix4 (n0 := 4) (n1 := 32) (n2 := 1024) (n3 := 1024) b ⟨a.val / 128, by omega⟩ i j) := by
  pointwise [context]

variable (hx : ∀ i, ∃ r : ℝ, (x i : EReal) = (r : EReal)) (hw : ∀ i, ∃ r : ℝ, (wq i : EReal) = (r : EReal))
  (hk : ∀ i, ∃ r : ℝ, (k i : EReal) = (r : EReal))
include hx hw hk

/-- Of finite `x`, `wq` and `k` the reference's context is the attention of each query. -/
theorem context_attend (b : Fin 4) (i : Fin 1024) (a : Fin 4096) :
    context (weights (expw (scores (queries x wq) k))) v (ix3 b i a)
      = ctxAt x wq k v b ⟨a.val / 128, by omega⟩ i ⟨a.val % 128, by omega⟩ := by
  choose sr hsr using scoreAt_real x wq k hx hw hk
  rw [context_apply]
  unfold ctxAt
  simp only [weights_apply, scores_apply, hsr]
  refine attend_shifted _ _ (allowed i) ⟨i, allowed_self i⟩ _ ?_
  rw [top_apply]
  simp only [scores_apply, hsr]

/-- Of finite `x`, `wq` and `k` the reference's result is the attention times the output weights. -/
theorem refOut_apply (b : Fin 4) (i n : Fin 1024) : refOut x wq k v wo (ix3 b i n) = resultAt x wq k v wo b i n := by
  have e : refOut x wq k v wo (ix3 b i n)
      = ∑ a : Fin 4096, context (weights (expw (scores (queries x wq) k))) v (ix3 b i a) * wo (ix2 a n) := by
    pointwise [refOut]
  rw [e]
  unfold resultAt
  exact Finset.sum_congr rfl fun a _ => by rw [context_attend x wq k v hx hw hk]

end

end Cert.RingAttn.Ref
end
-- ==== Proof.ValueRefRun.lean ====
/-
# The reference's run

A run of the reference leaves `refOut` of its arguments (`ref_run`).
-/
module

public import proofs.«01_k».proof.Proof.ValueRef
public import Idealize.ShloMosaic.Lib.Claim
public import Idealize.ShloMosaic.Lib.Pipeline.ValueKit

@[expose] public section

set_option maxRecDepth 65536

noncomputable section

namespace Cert.RingAttn.Ref

open Cert.ReferenceIdeal Cert.ReferenceIdeal.Gen
open Idealize.ShloMosaic Idealize.ShloMosaic.TcCoe
open Idealize.SL Idealize.SL.Sem

/-- A run of the reference leaves `refOut` of its arguments, and its arguments unchanged. -/
theorem ref_run (m' : (ℓ : Loc nD τ sig) → Buf (Elt Ideal) ℓ) (g' : Dev nD → PrngReg) :
    θ_run (defs (F := Ideal)) (onTc (τ := τ) (main (F := Ideal))) ⟨m', fun _ => 0, g'⟩ (fun r =>
      r.2.mem (((0 : Dev nD).tc : Thread nD τ).loc main_v47)
          = refOut (m' (((0 : Dev nD).tc : Thread nD τ).loc main_arg0)) (m' (((0 : Dev nD).tc : Thread nD τ).loc main_arg1))
              (m' (((0 : Dev nD).tc : Thread nD τ).loc main_arg2)) (m' (((0 : Dev nD).tc : Thread nD τ).loc main_arg3))
              (m' (((0 : Dev nD).tc : Thread nD τ).loc main_arg4))
      ∧ r.2.mem (((0 : Dev nD).tc : Thread nD τ).loc main_arg0) = m' (((0 : Dev nD).tc : Thread nD τ).loc main_arg0)
      ∧ r.2.mem (((0 : Dev nD).tc : Thread nD τ).loc main_arg1) = m' (((0 : Dev nD).tc : Thread nD τ).loc main_arg1)
      ∧ r.2.mem (((0 : Dev nD).tc : Thread nD τ).loc main_arg2) = m' (((0 : Dev nD).tc : Thread nD τ).loc main_arg2)
      ∧ r.2.mem (((0 : Dev nD).tc : Thread nD τ).loc main_arg3) = m' (((0 : Dev nD).tc : Thread nD τ).loc main_arg3)
      ∧ r.2.mem (((0 : Dev nD).tc : Thread nD τ).loc main_arg4) = m' (((0 : Dev nD).tc : Thread nD τ).loc main_arg4)) := by
  hlo_run
  simp -implicitDefEqProofs only [StableHlo.TRef.ofBuf, StableHlo.TRef.toBuf, cast_cast, cast_eq, id]
  unfold refOut context weights total expw top scores queries keep mask kBlk qBlk kRow blockNo remainder rem0 remBy floorDiv
  rfl

end Cert.RingAttn.Ref
end
-- ==== Proof.ValueMain.lean ====
/-
# The value claim

Under the precondition the arrays `x`, `Wq` and `K` are finite (`fn_real`), and each device's part of the kernel's result is
its block of the reference's (`algebraic`).
-/
module

public import proofs.«01_k».proof.Defs
public import proofs.«01_k».proof.Proof.Frames
public import proofs.«01_k».proof.Proof.ValueKernel
public import proofs.«01_k».proof.Proof.ValueRefRun
public import Idealize.ShloMosaic.Lib.ReduceAll
public import Idealize.ShloMosaic.Lib.LayoutAt

@[expose] public section

set_option maxRecDepth 65536

noncomputable section

namespace Cert.RingAttn

open Cert.KernelIdeal Cert.KernelIdeal.Gen
open Idealize.ShloMosaic Idealize.ShloMosaic.TcCoe
open Idealize.SL Idealize.SL.Sem

/-! ## The precondition -/

/-- The shape relations of the precondition, on the kernel's arguments -/
theorem preFacts : Cert.Pre_finite_KernelIdeal.Facts where
  bcast_S_S1x1024x1024 := by decide
  reducesTo_S1x1024x1024_S_d0_1_2 := by decide
  h_S_ := by decide
  bcast_S_S1024x1024 := by decide
  reducesTo_S1024x1024_S_d0_1 := by decide
  bcast_S_S4x1024x32x128 := by decide
  reducesTo_S4x1024x32x128_S_d0_1_2_3 := by decide
/-- and on the reference's. -/
theorem preFactsR : Cert.Pre_finite_ReferenceIdeal.Facts := by
  constructor <;> decide

/-- If the conjunction of two bits is set, both are. -/
theorem and_one (a b : BitVec 1) (h : IntOp.andi a b = 1#1) : a = 1#1 ∧ b = 1#1 := by
  revert a b; decide

/-- An extended real between −∞ and +∞ is a real. -/
theorem real_of_between (a : EReal) (h : IntOp.andi (Ideal.cmp .olt a ⊤) (Ideal.cmp .ogt a ⊥) = 1#1) : ∃ r : ℝ, a = (r : EReal) := by
  obtain ⟨h₁, h₂⟩ := and_one _ _ h
  induction a using EReal.rec with
  | bot => simp [Ideal.cmp] at h₂
  | top => simp [Ideal.cmp] at h₁
  | coe r => exact ⟨r, rfl⟩

instance : Subsingleton Cert.Pre_finite_KernelIdeal.S_.Idx := ⟨fun a b => funext fun i => i.elim0⟩

/-- The precondition on one device's arguments: `x`, `Wq` and `K` are finite there. -/
theorem fn_real [Cert.Pre_finite_KernelIdeal.Facts] (x : FVec Ideal S1x1024x1024 .bf16) (wq : FVec Ideal S1024x1024 .bf16) (k v : FVec Ideal S4x1024x32x128 .f32)
    (wo : FVec Ideal S1024x1024 .bf16) (h : Cert.Pre_finite_KernelIdeal.fn x wq k v wo = fun _ => 1#1) :
    (∀ i, ∃ r : ℝ, (x i : EReal) = (r : EReal)) ∧ (∀ i, ∃ r : ℝ, (wq i : EReal) = (r : EReal))
      ∧ (∀ i, ∃ r : ℝ, (k i : EReal) = (r : EReal)) := by
  have h0 := congrFun h (fun i : Fin 0 => i.elim0)
  dsimp only [Cert.Pre_finite_KernelIdeal.fn, Cert.Pre_finite_KernelIdeal.fn_part1] at h0
  obtain ⟨h1, hk⟩ := and_one _ _ h0
  obtain ⟨hx, hw⟩ := and_one _ _ h1
  refine ⟨fun i => real_of_between _ ?_, fun i => real_of_between _ ?_, fun i => real_of_between _ ?_⟩
  · have := Host.reduce_andi_all _ _ _ _ _ hx i
    rw [← ofBits_inf_bf16, ← ofBits_neg_inf_bf16]
    exact this
  · have := Host.reduce_andi_all _ _ _ _ _ hw i
    rw [← ofBits_inf_bf16, ← ofBits_neg_inf_bf16]
    exact this
  · have := Host.reduce_andi_all _ _ _ _ _ hk i
    rw [← ofBits_inf, ← ofBits_neg_inf]
    exact this

/-! ## The arguments, read -/

section
variable (m : (ℓ : Loc nD τ sig) → Buf (Elt Ideal) ℓ)

/-- A device's row of the batch, as the body finds it, is its first argument; -/
theorem x0_eq (c : Dev nD) (i k : Fin 1024) :
    (x0 m c (ix3 (n0 := 1) 0 i k) : EReal) = m ((c : Thread nD τ).loc main_arg0) (ix3 (n0 := 1) 0 i k) := by
  refine congrArg (m ((c : Thread nD τ).loc main_arg0)) (funext fun a => Fin.ext ?_)
  have h : ∀ a, win0_0.index (0 : Fin 1) a = 0 := by decide +kernel
  fin_cases a <;> blk_simp <;> rw [h] <;> exact (congrArg (· + _) (Nat.zero_mul _)).trans (Nat.zero_add _)
/-- its quarter of the query weights is the second, -/
theorem ww_false (c : Dev nD) (i k : Fin 1024) :
    (ww m c false (ix2 i k) : EReal) = m ((c : Thread nD τ).loc main_arg1) (ix2 i k) := by
  refine congrArg (m ((c : Thread nD τ).loc main_arg1)) (funext fun a => Fin.ext ?_)
  have h : ∀ a, win0_1.index (0 : Fin 1) a = 0 := by decide +kernel
  fin_cases a <;> blk_simp <;> rw [h] <;> exact (congrArg (· + _) (Nat.zero_mul _)).trans (Nat.zero_add _)
/-- and of the output weights the fifth. -/
theorem ww_true (c : Dev nD) (i k : Fin 1024) :
    (ww m c true (ix2 i k) : EReal) = m ((c : Thread nD τ).loc main_arg4) (ix2 i k) := by
  refine congrArg (m ((c : Thread nD τ).loc main_arg4)) (funext fun a => Fin.ext ?_)
  have h : ∀ a, win0_2.index (0 : Fin 1) a = 0 := by decide +kernel
  fin_cases a <;> blk_simp <;> rw [h] <;> exact (congrArg (· + _) (Nat.zero_mul _)).trans (Nat.zero_add _)

end

/-! ## Blocks -/

/-- Device `c`'s row of an array split along the batch; -/
theorem block_row (X : (⟨3, ![4, 1024, 1024]⟩ : Shape).Idx → EReal) (c : Fin 4) (i k : Fin 1024) :
    (Layout.block ⟨3, ![1, 1024, 1024]⟩ ⟨3, ![4, 1024, 1024]⟩ 0 4 c X) (ix3 (n0 := 1) 0 i k) = X (ix3 (n0 := 4) c i k) := by
  shard_ext
/-- an entry of its quarter of an array split along the columns, -/
theorem block_cols (W : (⟨2, ![1024, 4096]⟩ : Shape).Idx → EReal) (c : Fin 4) (i k : Fin 1024) :
    (Layout.block ⟨2, ![1024, 1024]⟩ ⟨2, ![1024, 4096]⟩ 1 4 c W) (ix2 i k)
      = W (ix2 (n0 := 1024) (n1 := 4096) i ⟨c.val * 1024 + k.val, by omega⟩) := by
  shard_ext
/-- and along the rows. -/
theorem block_rows (W : (⟨2, ![4096, 1024]⟩ : Shape).Idx → EReal) (c : Fin 4) (i k : Fin 1024) :
    (Layout.block ⟨2, ![1024, 1024]⟩ ⟨2, ![4096, 1024]⟩ 0 4 c W) (ix2 i k)
      = W (ix2 (n0 := 4096) (n1 := 1024) ⟨c.val * 1024 + i.val, by omega⟩ k) := by
  shard_ext

/-- If every device's row is finite, the array split along the batch is; -/
theorem real_row (X : (⟨3, ![4, 1024, 1024]⟩ : Shape).Idx → EReal)
    (h : ∀ (c : Fin 4) j, ∃ r : ℝ, (Layout.block ⟨3, ![1, 1024, 1024]⟩ ⟨3, ![4, 1024, 1024]⟩ 0 4 c X) j = (r : EReal)) (j) :
    ∃ r : ℝ, X j = (r : EReal) := by
  obtain ⟨r, hr⟩ := h (j 0) (ix3 (n0 := 1) 0 (j 1) (j 2))
  exact ⟨r, (congrArg X (eq_ix3 j)).trans ((block_row X (j 0) (j 1) (j 2)).symm.trans hr)⟩
/-- likewise along the columns. -/
theorem real_cols (W : (⟨2, ![1024, 4096]⟩ : Shape).Idx → EReal)
    (h : ∀ (c : Fin 4) j, ∃ r : ℝ, (Layout.block ⟨2, ![1024, 1024]⟩ ⟨2, ![1024, 4096]⟩ 1 4 c W) j = (r : EReal)) (j) :
    ∃ r : ℝ, W j = (r : EReal) := by
  have h1 : (j 1).val < 4096 := (j 1).isLt
  obtain ⟨r, hr⟩ := h ⟨(j 1).val / 1024, by omega⟩ (ix2 (n0 := 1024) (n1 := 1024) (j 0) ⟨(j 1).val % 1024, by omega⟩)
  refine ⟨r, Eq.trans (congrArg W ((eq_ix2 j).trans (congrArg (ix2 (n0 := 1024) (n1 := 4096) (j 0)) (Fin.ext ?_)))) ((block_cols W ⟨(j 1).val / 1024, by omega⟩ (j 0) ⟨(j 1).val % 1024, by omega⟩).symm.trans hr)⟩
  show (j 1).val = (j 1).val / 1024 * 1024 + (j 1).val % 1024
  omega

/-! ## The claim -/

/-- The kernel over the extended reals gives the reference's result, split along the batch. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := preFacts) := by
  intro m g m' g' hpre hargs
  haveI := preFacts
  have hr := fun c => fn_real _ _ _ _ _ (hpre c)
  set X : (⟨3, ![4, 1024, 1024]⟩ : Shape).Idx → EReal :=
    m' (((0 : Dev Cert.ReferenceIdeal.nD).tc : Thread Cert.ReferenceIdeal.nD Cert.ReferenceIdeal.τ).loc Cert.ReferenceIdeal.main_arg0) with hX
  set Wq : (⟨2, ![1024, 4096]⟩ : Shape).Idx → EReal :=
    m' (((0 : Dev Cert.ReferenceIdeal.nD).tc : Thread Cert.ReferenceIdeal.nD Cert.ReferenceIdeal.τ).loc Cert.ReferenceIdeal.main_arg1) with hWq
  set K : S4x1024x32x128.Idx → EReal :=
    m' (((0 : Dev Cert.ReferenceIdeal.nD).tc : Thread Cert.ReferenceIdeal.nD Cert.ReferenceIdeal.τ).loc Cert.ReferenceIdeal.main_arg2) with hK
  set V : S4x1024x32x128.Idx → EReal :=
    m' (((0 : Dev Cert.ReferenceIdeal.nD).tc : Thread Cert.ReferenceIdeal.nD Cert.ReferenceIdeal.τ).loc Cert.ReferenceIdeal.main_arg3) with hV
  set Wo : (⟨2, ![4096, 1024]⟩ : Shape).Idx → EReal :=
    m' (((0 : Dev Cert.ReferenceIdeal.nD).tc : Thread Cert.ReferenceIdeal.nD Cert.ReferenceIdeal.τ).loc Cert.ReferenceIdeal.main_arg4) with hWo
  have hXr : ∀ j, ∃ r : ℝ, X j = (r : EReal) := real_row X fun c j => by
    rw [← (hargs c).1]; exact (hr c).1 j
  have hWr : ∀ j, ∃ r : ℝ, Wq j = (r : EReal) := real_cols Wq fun c j => by
    rw [← (hargs c).2.1]; exact (hr c).2.1 j
  have hKr : ∀ j, ∃ r : ℝ, K j = (r : EReal) := fun j => by
    rw [← (hargs 0).2.2.1]; exact (hr 0).2.2 j
  have hres : ∀ c : Dev nD, res m c = Layout.block ⟨3, ![1, 1024, 1024]⟩ ⟨3, ![4, 1024, 1024]⟩ 0 4 c (Ref.refOut X Wq K V Wo) := by
    intro c
    funext j
    obtain ⟨i, n, rfl⟩ : ∃ i n : Fin 1024, j = ix3 (n0 := 1) 0 i n :=
      ⟨j 1, j 2, (eq_ix3 j).trans (congrArg (fun a => ix3 (n0 := 1) a (j 1) (j 2)) (Subsingleton.elim (α := Fin 1) _ _))⟩
    refine Eq.trans (b := resultAt X Wq K V Wo c i n) ?_ ((block_row _ c i n).trans (Ref.refOut_apply X Wq K V Wo hXr hWr hKr c i n)).symm
    refine outAt_result X Wq K V Wo c (x0 m c) (ww m) (fa m c) (fun i k => ?_) (fun d i k => ?_) (fun d i k => ?_) ?_ ?_ hXr hWr hKr i n
    · exact (x0_eq m c i k).trans ((congrFun (hargs c).1 _).trans (block_row X c i k))
    · exact (ww_false m d i k).trans ((congrFun (hargs d).2.1 _).trans (block_cols Wq d i k))
    · exact (ww_true m d i k).trans ((congrFun (hargs d).2.2.2.2 _).trans (block_rows Wo d i k))
    · exact (hargs c).2.2.1
    · exact (hargs c).2.2.2.1
  exact ⟨Ref.refOut X Wq K V Wo, (θ_run _ _ _).mono (fun r h c => ⟨(h.1 c).1.trans (hres c), (h.1 c).2⟩) (run_value (F := Ideal) m g), Ref.ref_run m' g'⟩

/-! ## The frames under the precondition -/

/-- The kernel's frame holds without the precondition, so with it; -/
theorem frame_kernelIdeal_pre : Cert.quiescent_KernelIdeal_pre_finite_KernelIdeal (hKernelIdeal := Cert.KernelIdeal.Gen.facts)
    (hPre_finite_KernelIdeal := preFacts) :=
  fun m g _ => frame_kernelIdeal m g trivial
/-- and the reference's. -/
theorem frame_reference_pre : Cert.quiescent_ReferenceIdeal_pre_finite_ReferenceIdeal (hReferenceIdeal := Cert.ReferenceIdeal.Gen.facts)
    (hPre_finite_ReferenceIdeal := preFactsR) :=
  fun m g _ => frame_reference m g trivial

end Cert.RingAttn

end
-- ==== Proof.lean ====
/-
# The proof of the claims

The frames of the kernel as printed, of the kernel over the extended reals and of the reference (Proof/Frames.lean),
and the value of the kernel's result (Proof/ValueMain.lean).
-/
module

public import proofs.«01_k».proof.Defs
public import proofs.«01_k».proof.Proof.Frames
public import proofs.«01_k».proof.Proof.ValueMain

@[expose] public section

noncomputable section

namespace Cert.Proof

/-- Every claim of the certificate. -/
theorem claim : Cert.Claim :=
  ⟨Cert.Kernel.Gen.facts, Cert.KernelIdeal.Gen.facts, Cert.ReferenceIdeal.Gen.facts, Cert.RingAttn.preFacts, Cert.RingAttn.preFactsR,
    Cert.RingAttn.frame_kernel, Cert.RingAttn.frame_kernelIdeal, Cert.RingAttn.frame_kernelIdeal_pre, Cert.RingAttn.frame_reference,
    Cert.RingAttn.frame_reference_pre, trivial, Cert.RingAttn.algebraic⟩

end Cert.Proof

end
